-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x64 : Shape := ⟨2, ![8, 64]⟩
abbrev S100000x128 : Shape := ⟨2, ![100000, 128]⟩
abbrev S128x768 : Shape := ⟨2, ![128, 768]⟩
abbrev S256x768 : Shape := ⟨2, ![256, 768]⟩
abbrev S2x768 : Shape := ⟨2, ![2, 768]⟩
abbrev S512x100000 : Shape := ⟨2, ![512, 100000]⟩
abbrev S100000 : Shape := ⟨1, ![100000]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel

variable [Facts]

def fn {F : FTy → Type} [FloatOps F] (main_arg0 : IVec S8x64 32) (main_arg1 : FVec F S100000x128 .f32) (main_arg2 : FVec F S128x768 .f32) (main_arg3 : FVec F S256x768 .f32) (main_arg4 : FVec F S2x768 .f32) (main_arg5 : FVec F S256x768 .f32) (main_arg6 : FVec F S256x768 .f32) (main_arg7 : FVec F S2x768 .f32) (main_arg8 : FVec F S256x768 .f32) (main_arg9 : FVec F S256x768 .f32) (main_arg10 : FVec F S2x768 .f32) (main_arg11 : FVec F S256x768 .f32) (main_arg12 : FVec F S256x768 .f32) (main_arg13 : FVec F S2x768 .f32) (main_arg14 : FVec F S512x100000 .f32) (main_arg15 : FVec F S100000 .f32) : IVec S_ 1 :=
  let main_c : IVec S_ 32 := constantI S_ 32 0#32
  let main_v0 : IVec S8x64 32 := broadcastInDim S8x64 ![] bcast_S_S8x64 main_c
  let main_v1 : IVec S8x64 1 := cmpi .sge main_arg0 main_v0
  let main_c_0 : IVec S_ 32 := constantI S_ 32 100000#32
  let main_v2 : IVec S8x64 32 := broadcastInDim S8x64 ![] bcast_S_S8x64 main_c_0
  let main_v3 : IVec S8x64 1 := cmpi .slt main_arg0 main_v2
  let main_v4 : IVec S8x64 1 := andi main_v1 main_v3
  let main_c_1 : IVec S_ 1 := constantI S_ 1 1#1
  let main_v5 : IVec S_ 1 := (fun x v => Host.reduce IntOp.andi x v reducesTo_S8x64_S_d0_1 h_S_) main_v4 main_c_1
  main_v5
-- ==== Kernel.lean ====
abbrev S8x64 : Shape := ⟨2, ![8, 64]⟩
abbrev S100000x128 : Shape := ⟨2, ![100000, 128]⟩
abbrev S128x768 : Shape := ⟨2, ![128, 768]⟩
abbrev S256x768 : Shape := ⟨2, ![256, 768]⟩
abbrev S2x768 : Shape := ⟨2, ![2, 768]⟩
abbrev S512x100000 : Shape := ⟨2, ![512, 100000]⟩
abbrev S100000 : Shape := ⟨1, ![100000]⟩
abbrev S64x8 : Shape := ⟨2, ![64, 8]⟩
abbrev S512 : Shape := ⟨1, ![512]⟩
abbrev S512x128 : Shape := ⟨2, ![512, 128]⟩
abbrev S16 : Shape := ⟨1, ![16]⟩
abbrev S16x128 : Shape := ⟨2, ![16, 128]⟩
abbrev S_ : Shape := ⟨0, ![]⟩
abbrev S1x100000 : Shape := ⟨2, ![1, 100000]⟩
abbrev S512x768 : Shape := ⟨2, ![512, 768]⟩
abbrev S512x256 : Shape := ⟨2, ![512, 256]⟩
abbrev S512x512 : Shape := ⟨2, ![512, 512]⟩
abbrev S6x512x2048 : Shape := ⟨3, ![6, 512, 2048]⟩
abbrev S6x1x2048 : Shape := ⟨3, ![6, 1, 2048]⟩
abbrev S2x512x2048 : Shape := ⟨3, ![2, 512, 2048]⟩
abbrev S512x1696 : Shape := ⟨2, ![512, 1696]⟩
abbrev S1x1696 : Shape := ⟨2, ![1, 1696]⟩
abbrev S6x4 : Shape := ⟨2, ![6, 4]⟩
abbrev S6 : Shape := ⟨1, ![6]⟩
abbrev S2x4 : Shape := ⟨2, ![2, 4]⟩
abbrev S3 : Shape := ⟨1, ![3]⟩
abbrev S1x1 : Shape := ⟨2, ![1, 1]⟩
abbrev S1x128x2048 : Shape := ⟨3, ![1, 128, 2048]⟩
abbrev S128x2048 : Shape := ⟨2, ![128, 2048]⟩
abbrev S1 : Shape := ⟨1, ![1]⟩
abbrev S1x1x2048 : Shape := ⟨3, ![1, 1, 2048]⟩
abbrev S1x2048 : Shape := ⟨2, ![1, 2048]⟩
abbrev S1x768 : Shape := ⟨2, ![1, 768]⟩
abbrev S8x256 : Shape := ⟨2, ![8, 256]⟩
abbrev S8x768 : Shape := ⟨2, ![8, 768]⟩
abbrev S64x8x512 : Shape := ⟨3, ![64, 8, 512]⟩
abbrev S8x64x512 : Shape := ⟨3, ![8, 64, 512]⟩
abbrev S1x512x2048 : Shape := ⟨3, ![1, 512, 2048]⟩
abbrev S512x2048 : Shape := ⟨2, ![512, 2048]⟩
abbrev S8x64x100000 : Shape := ⟨3, ![8, 64, 100000]⟩

abbrev nBuf : Table → Nat
  | .hbm => 22
  | .local .tc .vmem => 24
  | .local .scVector .vmem => 2
  | _ => 0

abbrev bufTy : (tb : Table) → Fin (nBuf tb) → BufTy
  | .hbm, ⟨0, _⟩ => ⟨S8x64, .i32⟩
  | .hbm, ⟨1, _⟩ => ⟨S100000x128, .f32⟩
  | .hbm, ⟨2, _⟩ => ⟨S128x768, .f32⟩
  | .hbm, ⟨3, _⟩ => ⟨S256x768, .f32⟩
  | .hbm, ⟨4, _⟩ => ⟨S2x768, .f32⟩
  | .hbm, ⟨5, _⟩ => ⟨S256x768, .f32⟩
  | .hbm, ⟨6, _⟩ => ⟨S256x768, .f32⟩
  | .hbm, ⟨7, _⟩ => ⟨S2x768, .f32⟩
  | .hbm, ⟨8, _⟩ => ⟨S256x768, .f32⟩
  | .hbm, ⟨9, _⟩ => ⟨S256x768, .f32⟩
  | .hbm, ⟨10, _⟩ => ⟨S2x768, .f32⟩
  | .hbm, ⟨11, _⟩ => ⟨S256x768, .f32⟩
  | .hbm, ⟨12, _⟩ => ⟨S256x768, .f32⟩
  | .hbm, ⟨13, _⟩ => ⟨S2x768, .f32⟩
  | .hbm, ⟨14, _⟩ => ⟨S512x100000, .f32⟩
  | .hbm, ⟨15, _⟩ => ⟨S100000, .f32⟩
  | .hbm, ⟨16, _⟩ => ⟨S64x8, .i32⟩
  | .hbm, ⟨17, _⟩ => ⟨S512, .i32⟩
  | .hbm, ⟨18, _⟩ => ⟨S512x128, .f32⟩
  | .hbm, ⟨19, _⟩ => ⟨S1x100000, .f32⟩
  | .hbm, ⟨20, _⟩ => ⟨S512x100000, .f32⟩
  | .hbm, ⟨21, _⟩ => ⟨S8x64x100000, .f32⟩
  | .local .tc .vmem, ⟨0, _⟩ => ⟨S512x128, .f32⟩
  | .local .tc .vmem, ⟨1, _⟩ => ⟨S128x768, .f32⟩
  | .local .tc .vmem, ⟨2, _⟩ => ⟨S256x768, .f32⟩
  | .local .tc .vmem, ⟨3, _⟩ => ⟨S2x768, .f32⟩
  | .local .tc .vmem, ⟨4, _⟩ => ⟨S256x768, .f32⟩
  | .local .tc .vmem, ⟨5, _⟩ => ⟨S256x768, .f32⟩
  | .local .tc .vmem, ⟨6, _⟩ => ⟨S2x768, .f32⟩
  | .local .tc .vmem, ⟨7, _⟩ => ⟨S256x768, .f32⟩
  | .local .tc .vmem, ⟨8, _⟩ => ⟨S256x768, .f32⟩
  | .local .tc .vmem, ⟨9, _⟩ => ⟨S2x768, .f32⟩
  | .local .tc .vmem, ⟨10, _⟩ => ⟨S256x768, .f32⟩
  | .local .tc .vmem, ⟨11, _⟩ => ⟨S256x768, .f32⟩
  | .local .tc .vmem, ⟨12, _⟩ => ⟨S2x768, .f32⟩
  | .local .tc .vmem, ⟨13, _⟩ => ⟨S512x768, .f32⟩
  | .local .tc .vmem, ⟨14, _⟩ => ⟨S512x768, .f32⟩
  | .local .tc .vmem, ⟨15, _⟩ => ⟨S512x256, .f32⟩
  | .local .tc .vmem, ⟨16, _⟩ => ⟨S512x512, .f32⟩
  | .local .tc .vmem, ⟨17, _⟩ => ⟨S512x512, .f32⟩
  | .local .tc .vmem, ⟨18, _⟩ => ⟨S6x512x2048, .f32⟩
  | .local .tc .vmem, ⟨19, _⟩ => ⟨S6x1x2048, .f32⟩
  | .local .tc .vmem, ⟨20, _⟩ => ⟨S2x512x2048, .f32⟩
  | .local .tc .vmem, ⟨21, _⟩ => ⟨S512x1696, .f32⟩
  | .local .tc .vmem, ⟨22, _⟩ => ⟨S1x1696, .f32⟩
  | .local .tc .vmem, ⟨23, _⟩ => ⟨S512x1696, .f32⟩
  | .local .scVector .vmem, ⟨0, _⟩ => ⟨S16, .i32⟩
  | .local .scVector .vmem, ⟨1, _⟩ => ⟨S16x128, .f32⟩
  | _, _ => ⟨S8x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 57 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTables nBuf rfl bufTy 4 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_arg1_scv : Ref sig .scVector := ⟨.hbm, 1, rfl⟩
abbrev main_v1_scv : Ref sig .scVector := ⟨.hbm, 17, rfl⟩
abbrev main_v2_scv : Ref sig .scVector := ⟨.hbm, 18, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc1_scratch7 : Ref sig .tc := ⟨.vmem, 20, rfl⟩
abbrev cc1_scratch8 : Ref sig .tc := ⟨.vmem, 21, rfl⟩
abbrev cc1_scratch9 : Ref sig .tc := ⟨.vmem, 22, rfl⟩
abbrev cc1_scratch10 : Ref sig .tc := ⟨.vmem, 23, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem11_0 : DmaSem sig := 14
abbrev cc1_sem12_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev grid1 : Pipeline.Grid := .none

@[reducible] def k1_t1_loop : Scf.Loop 32 :=
  let c0_i32_206 : BitVec 32 := 0#32
  let c64_i32 : BitVec 32 := 64#32
  let v169 : BitVec 32 := Scalar.addi c0_i32_206 c64_i32
  let c1_i32_207 : BitVec 32 := 1#32
  ⟨c0_i32_206, v169, c1_i32_207⟩
def k1_off1 (k1_t1 : Fin k1_t1_loop.trips) : Fin 2 → Nat :=
  let c0_i32_206 : BitVec 32 := 0#32
  let c1_i32_207 : BitVec 32 := 1#32
  let arg31 : BitVec 32 := Scf.iv c0_i32_206 c1_i32_207 k1_t1
  let c8_i32 : BitVec 32 := 8#32
  let v280 : BitVec 32 := Scalar.muli arg31 c8_i32
  let v281 : Index := Scalar.indexCast v280
  let c0_341 : Index := 0#32
  ![v281.toNat, 0]
def k1_off2 (k1_t1 : Fin k1_t1_loop.trips) : Fin 2 → Nat :=
  let c0_i32_206 : BitVec 32 := 0#32
  let c1_i32_207 : BitVec 32 := 1#32
  let arg31 : BitVec 32 := Scf.iv c0_i32_206 c1_i32_207 k1_t1
  let c8_i32 : BitVec 32 := 8#32
  let v280 : BitVec 32 := Scalar.muli arg31 c8_i32
  let v304 : Index := Scalar.indexCast v280
  let c0_344 : Index := 0#32
  ![v304.toNat, 0]
@[reducible] def k1_t2_loop : Scf.Loop 32 :=
  let c0_i32_223 : BitVec 32 := 0#32
  let c64_i32_224 : BitVec 32 := 64#32
  let v183 : BitVec 32 := Scalar.addi c0_i32_223 c64_i32_224
  let c1_i32_225 : BitVec 32 := 1#32
  ⟨c0_i32_223, v183, c1_i32_225⟩
def k1_off3 (k1_t2 : Fin k1_t2_loop.trips) : Fin 2 → Nat :=
  let c0_i32_223 : BitVec 32 := 0#32
  let c1_i32_225 : BitVec 32 := 1#32
  let arg31 : BitVec 32 := Scf.iv c0_i32_223 c1_i32_225 k1_t2
  let c8_i32 : BitVec 32 := 8#32
  let v280 : BitVec 32 := Scalar.muli arg31 c8_i32
  let v281 : Index := Scalar.indexCast v280
  let c0_341 : Index := 0#32
  ![v281.toNat, 0]
def k1_off4 (k1_t2 : Fin k1_t2_loop.trips) : Fin 2 → Nat :=
  let c0_i32_223 : BitVec 32 := 0#32
  let c1_i32_225 : BitVec 32 := 1#32
  let arg31 : BitVec 32 := Scf.iv c0_i32_223 c1_i32_225 k1_t2
  let c8_i32 : BitVec 32 := 8#32
  let v280 : BitVec 32 := Scalar.muli arg31 c8_i32
  let v304 : Index := Scalar.indexCast v280
  let c0_344 : Index := 0#32
  ![v304.toNat, 0]
@[reducible] def k1_t3_loop : Scf.Loop 32 :=
  let c0_i32_255 : BitVec 32 := 0#32
  let c64_i32_256 : BitVec 32 := 64#32
  let v209 : BitVec 32 := Scalar.addi c0_i32_255 c64_i32_256
  let c1_i32_257 : BitVec 32 := 1#32
  ⟨c0_i32_255, v209, c1_i32_257⟩
def k1_off5 (k1_t3 : Fin k1_t3_loop.trips) : Fin 2 → Nat :=
  let c0_i32_255 : BitVec 32 := 0#32
  let c1_i32_257 : BitVec 32 := 1#32
  let arg31 : BitVec 32 := Scf.iv c0_i32_255 c1_i32_257 k1_t3
  let c8_i32 : BitVec 32 := 8#32
  let v280 : BitVec 32 := Scalar.muli arg31 c8_i32
  let v281 : Index := Scalar.indexCast v280
  let c0_341 : Index := 0#32
  ![v281.toNat, 0]
def k1_off6 (k1_t3 : Fin k1_t3_loop.trips) : Fin 2 → Nat :=
  let c0_i32_255 : BitVec 32 := 0#32
  let c1_i32_257 : BitVec 32 := 1#32
  let arg31 : BitVec 32 := Scf.iv c0_i32_255 c1_i32_257 k1_t3
  let c8_i32 : BitVec 32 := 8#32
  let v280 : BitVec 32 := Scalar.muli arg31 c8_i32
  let v327 : Index := Scalar.indexCast v280
  let c0_347 : Index := 0#32
  ![v327.toNat, 0]
def k1_off7 (k1_t3 : Fin k1_t3_loop.trips) : Fin 2 → Nat :=
  let c0_i32_255 : BitVec 32 := 0#32
  let c1_i32_257 : BitVec 32 := 1#32
  let arg31 : BitVec 32 := Scf.iv c0_i32_255 c1_i32_257 k1_t3
  let c8_i32 : BitVec 32 := 8#32
  let v280 : BitVec 32 := Scalar.muli arg31 c8_i32
  let v331 : Index := Scalar.indexCast v280
  let c256 : Index := 256#32
  ![v331.toNat, 256]
@[reducible] def k1_t4_loop : Scf.Loop 32 :=
  let c0_i32_263 : BitVec 32 := 0#32
  let c48_i32 : BitVec 32 := 48#32
  let v218 : BitVec 32 := Scalar.addi c0_i32_263 c48_i32
  let c1_i32_264 : BitVec 32 := 1#32
  ⟨c0_i32_263, v218, c1_i32_264⟩
def k1_off8 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c0_i32_346 : BitVec 32 := 0#32
  ![v280.toNat, 0]
def k1_off9 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c0_i32_347 : BitVec 32 := 0#32
  let c0_i32_348 : BitVec 32 := 0#32
  ![v280.toNat, 0, 0]
def k1_off10 (k1_t4 : Fin k1_t4_loop.trips) : Fin 2 → Nat :=
  let c0_i32_349 : BitVec 32 := 0#32
  let c0_i32_263 : BitVec 32 := 0#32
  let c1_i32_264 : BitVec 32 := 1#32
  let arg31 : BitVec 32 := Scf.iv c0_i32_263 c1_i32_264 k1_t4
  let c2048_i32_342 : BitVec 32 := 2048#32
  let v282 : BitVec 32 := Scalar.muli arg31 c2048_i32_342
  ![0, v282.toNat]
def k1_off11 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c1_i32_350 : BitVec 32 := 1#32
  ![v280.toNat, 1]
def k1_off12 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c128_i32_351 : BitVec 32 := 128#32
  let c0_i32_352 : BitVec 32 := 0#32
  ![v280.toNat, 128, 0]
def k1_off13 (k1_t4 : Fin k1_t4_loop.trips) : Fin 2 → Nat :=
  let c128_i32_353 : BitVec 32 := 128#32
  let c0_i32_263 : BitVec 32 := 0#32
  let c1_i32_264 : BitVec 32 := 1#32
  let arg31 : BitVec 32 := Scf.iv c0_i32_263 c1_i32_264 k1_t4
  let c2048_i32_343 : BitVec 32 := 2048#32
  let v283 : BitVec 32 := Scalar.muli arg31 c2048_i32_343
  ![128, v283.toNat]
def k1_off14 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c2_i32_354 : BitVec 32 := 2#32
  ![v280.toNat, 2]
def k1_off15 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c256_i32_355 : BitVec 32 := 256#32
  let c0_i32_356 : BitVec 32 := 0#32
  ![v280.toNat, 256, 0]
def k1_off16 (k1_t4 : Fin k1_t4_loop.trips) : Fin 2 → Nat :=
  let c256_i32_357 : BitVec 32 := 256#32
  let c0_i32_263 : BitVec 32 := 0#32
  let c1_i32_264 : BitVec 32 := 1#32
  let arg31 : BitVec 32 := Scf.iv c0_i32_263 c1_i32_264 k1_t4
  let c2048_i32_344 : BitVec 32 := 2048#32
  let v284 : BitVec 32 := Scalar.muli arg31 c2048_i32_344
  ![256, v284.toNat]
def k1_off17 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c3_i32_358 : BitVec 32 := 3#32
  ![v280.toNat, 3]
def k1_off18 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c384_i32_359 : BitVec 32 := 384#32
  let c0_i32_360 : BitVec 32 := 0#32
  ![v280.toNat, 384, 0]
def k1_off19 (k1_t4 : Fin k1_t4_loop.trips) : Fin 2 → Nat :=
  let c384_i32_361 : BitVec 32 := 384#32
  let c0_i32_263 : BitVec 32 := 0#32
  let c1_i32_264 : BitVec 32 := 1#32
  let arg31 : BitVec 32 := Scf.iv c0_i32_263 c1_i32_264 k1_t4
  let c2048_i32_345 : BitVec 32 := 2048#32
  let v285 : BitVec 32 := Scalar.muli arg31 c2048_i32_345
  ![384, v285.toNat]
def k1_off20 (k1_t4 : Fin k1_t4_loop.trips) : Fin 1 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  ![v280.toNat]
def k1_off21 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c0_i32_363 : BitVec 32 := 0#32
  let c0_i32_364 : BitVec 32 := 0#32
  ![v280.toNat, 0, 0]
def k1_off22 (k1_t4 : Fin k1_t4_loop.trips) : Fin 2 → Nat :=
  let c0_i32_365 : BitVec 32 := 0#32
  let c0_i32_263 : BitVec 32 := 0#32
  let c1_i32_264 : BitVec 32 := 1#32
  let arg31 : BitVec 32 := Scf.iv c0_i32_263 c1_i32_264 k1_t4
  let c2048_i32_362 : BitVec 32 := 2048#32
  let v306 : BitVec 32 := Scalar.muli arg31 c2048_i32_362
  ![0, v306.toNat]
def k1_cond1 (k1_t4 : Fin k1_t4_loop.trips) : BitVec 1 :=
  let c0_i32_263 : BitVec 32 := 0#32
  let c1_i32_264 : BitVec 32 := 1#32
  let arg31 : BitVec 32 := Scf.iv c0_i32_263 c1_i32_264 k1_t4
  let c2_i32_366 : BitVec 32 := 2#32
  let v312 : BitVec 1 := Scalar.cmpi .sge arg31 c2_i32_366
  let v313 : BitVec 32 := Scalar.extui v312
  let c0_i32_367 : BitVec 32 := 0#32
  let v314 : BitVec 1 := Scalar.cmpi .ne v313 c0_i32_367
  v314

def k1_off23 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c0_i32_405 : BitVec 32 := 0#32
  ![v281.toNat, 0]
def k1_off24 (k1_t4 : Fin k1_t4_loop.trips) : Fin 2 → Nat :=
  let c0_i32_406 : BitVec 32 := 0#32
  let c0_i32_263 : BitVec 32 := 0#32
  let c1_i32_264 : BitVec 32 := 1#32
  let arg31 : BitVec 32 := Scf.iv c0_i32_263 c1_i32_264 k1_t4
  let c2_i32_400 : BitVec 32 := 2#32
  let v357 : BitVec 32 := Scalar.subi arg31 c2_i32_400
  let c2048_i32_401 : BitVec 32 := 2048#32
  let v358 : BitVec 32 := Scalar.muli v357 c2048_i32_401
  ![0, v358.toNat]
def k1_off25 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c0_i32_407 : BitVec 32 := 0#32
  let c0_i32_408 : BitVec 32 := 0#32
  ![v281.toNat, 0, 0]
def k1_off26 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c1_i32_409 : BitVec 32 := 1#32
  ![v281.toNat, 1]
def k1_off27 (k1_t4 : Fin k1_t4_loop.trips) : Fin 2 → Nat :=
  let c128_i32_410 : BitVec 32 := 128#32
  let c0_i32_263 : BitVec 32 := 0#32
  let c1_i32_264 : BitVec 32 := 1#32
  let arg31 : BitVec 32 := Scf.iv c0_i32_263 c1_i32_264 k1_t4
  let c2_i32_400 : BitVec 32 := 2#32
  let v357 : BitVec 32 := Scalar.subi arg31 c2_i32_400
  let c2048_i32_402 : BitVec 32 := 2048#32
  let v359 : BitVec 32 := Scalar.muli v357 c2048_i32_402
  ![128, v359.toNat]
def k1_off28 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c128_i32_411 : BitVec 32 := 128#32
  let c0_i32_412 : BitVec 32 := 0#32
  ![v281.toNat, 128, 0]
def k1_off29 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c2_i32_413 : BitVec 32 := 2#32
  ![v281.toNat, 2]
def k1_off30 (k1_t4 : Fin k1_t4_loop.trips) : Fin 2 → Nat :=
  let c256_i32_414 : BitVec 32 := 256#32
  let c0_i32_263 : BitVec 32 := 0#32
  let c1_i32_264 : BitVec 32 := 1#32
  let arg31 : BitVec 32 := Scf.iv c0_i32_263 c1_i32_264 k1_t4
  let c2_i32_400 : BitVec 32 := 2#32
  let v357 : BitVec 32 := Scalar.subi arg31 c2_i32_400
  let c2048_i32_403 : BitVec 32 := 2048#32
  let v360 : BitVec 32 := Scalar.muli v357 c2048_i32_403
  ![256, v360.toNat]
def k1_off31 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c256_i32_415 : BitVec 32 := 256#32
  let c0_i32_416 : BitVec 32 := 0#32
  ![v281.toNat, 256, 0]
def k1_off32 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c3_i32_417 : BitVec 32 := 3#32
  ![v281.toNat, 3]
def k1_off33 (k1_t4 : Fin k1_t4_loop.trips) : Fin 2 → Nat :=
  let c384_i32_418 : BitVec 32 := 384#32
  let c0_i32_263 : BitVec 32 := 0#32
  let c1_i32_264 : BitVec 32 := 1#32
  let arg31 : BitVec 32 := Scf.iv c0_i32_263 c1_i32_264 k1_t4
  let c2_i32_400 : BitVec 32 := 2#32
  let v357 : BitVec 32 := Scalar.subi arg31 c2_i32_400
  let c2048_i32_404 : BitVec 32 := 2048#32
  let v361 : BitVec 32 := Scalar.muli v357 c2048_i32_404
  ![384, v361.toNat]
def k1_off34 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c384_i32_419 : BitVec 32 := 384#32
  let c0_i32_420 : BitVec 32 := 0#32
  ![v281.toNat, 384, 0]
def k1_off35 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let v316 : Index := Scalar.indexCast v280
  let c0_370 : Index := 0#32
  let c0_371 : Index := 0#32
  ![v316.toNat, 0, 0]
def k1_off36 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let v320 : Index := Scalar.indexCast v280
  let c0_373 : Index := 0#32
  let c0_374 : Index := 0#32
  ![v320.toNat, 0, 0]
def k1_off37 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let v325 : Index := Scalar.indexCast v281
  let c0_375 : Index := 0#32
  let c0_376 : Index := 0#32
  ![v325.toNat, 0, 0]
def k1_off38 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c0_i32_381 : BitVec 32 := 0#32
  ![v281.toNat, 0]
def k1_off39 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c0_i32_383 : BitVec 32 := 0#32
  let c0_i32_384 : BitVec 32 := 0#32
  ![v281.toNat, 0, 0]
def k1_off40 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c1_i32_385 : BitVec 32 := 1#32
  ![v281.toNat, 1]
def k1_off41 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c128_i32_387 : BitVec 32 := 128#32
  let c0_i32_388 : BitVec 32 := 0#32
  ![v281.toNat, 128, 0]
def k1_off42 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c2_i32_389 : BitVec 32 := 2#32
  ![v281.toNat, 2]
def k1_off43 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c256_i32_391 : BitVec 32 := 256#32
  let c0_i32_392 : BitVec 32 := 0#32
  ![v281.toNat, 256, 0]
def k1_off44 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c3_i32_393 : BitVec 32 := 3#32
  ![v281.toNat, 3]
def k1_off45 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c2_i32_341 : BitVec 32 := 2#32
  let v281 : BitVec 32 := Scalar.remsi arg31 c2_i32_341
  let c384_i32_395 : BitVec 32 := 384#32
  let c0_i32_396 : BitVec 32 := 0#32
  ![v281.toNat, 384, 0]
def k1_cond2 (k1_t4 : Fin k1_t4_loop.trips) : BitVec 1 :=
  let c0_i32_263 : BitVec 32 := 0#32
  let c1_i32_264 : BitVec 32 := 1#32
  let arg31 : BitVec 32 := Scf.iv c0_i32_263 c1_i32_264 k1_t4
  let c6_i32_397 : BitVec 32 := 6#32
  let v353 : BitVec 32 := Scalar.addi arg31 c6_i32_397
  let c48_i32_398 : BitVec 32 := 48#32
  let v354 : BitVec 1 := Scalar.cmpi .slt v353 c48_i32_398
  let v355 : BitVec 32 := Scalar.extui v354
  let c0_i32_399 : BitVec 32 := 0#32
  let v356 : BitVec 1 := Scalar.cmpi .ne v355 c0_i32_399
  v356

def k1_off46 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c0_i32_405 : BitVec 32 := 0#32
  ![v280.toNat, 0]
def k1_off47 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c0_i32_406 : BitVec 32 := 0#32
  let c0_i32_407 : BitVec 32 := 0#32
  ![v280.toNat, 0, 0]
def k1_off48 (k1_t4 : Fin k1_t4_loop.trips) : Fin 2 → Nat :=
  let c0_i32_408 : BitVec 32 := 0#32
  let c0_i32_263 : BitVec 32 := 0#32
  let c1_i32_264 : BitVec 32 := 1#32
  let arg31 : BitVec 32 := Scf.iv c0_i32_263 c1_i32_264 k1_t4
  let c6_i32_400 : BitVec 32 := 6#32
  let v357 : BitVec 32 := Scalar.addi arg31 c6_i32_400
  let c2048_i32_401 : BitVec 32 := 2048#32
  let v358 : BitVec 32 := Scalar.muli v357 c2048_i32_401
  ![0, v358.toNat]
def k1_off49 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c1_i32_409 : BitVec 32 := 1#32
  ![v280.toNat, 1]
def k1_off50 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c128_i32_410 : BitVec 32 := 128#32
  let c0_i32_411 : BitVec 32 := 0#32
  ![v280.toNat, 128, 0]
def k1_off51 (k1_t4 : Fin k1_t4_loop.trips) : Fin 2 → Nat :=
  let c128_i32_412 : BitVec 32 := 128#32
  let c0_i32_263 : BitVec 32 := 0#32
  let c1_i32_264 : BitVec 32 := 1#32
  let arg31 : BitVec 32 := Scf.iv c0_i32_263 c1_i32_264 k1_t4
  let c6_i32_400 : BitVec 32 := 6#32
  let v357 : BitVec 32 := Scalar.addi arg31 c6_i32_400
  let c2048_i32_402 : BitVec 32 := 2048#32
  let v359 : BitVec 32 := Scalar.muli v357 c2048_i32_402
  ![128, v359.toNat]
def k1_off52 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c2_i32_413 : BitVec 32 := 2#32
  ![v280.toNat, 2]
def k1_off53 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c256_i32_414 : BitVec 32 := 256#32
  let c0_i32_415 : BitVec 32 := 0#32
  ![v280.toNat, 256, 0]
def k1_off54 (k1_t4 : Fin k1_t4_loop.trips) : Fin 2 → Nat :=
  let c256_i32_416 : BitVec 32 := 256#32
  let c0_i32_263 : BitVec 32 := 0#32
  let c1_i32_264 : BitVec 32 := 1#32
  let arg31 : BitVec 32 := Scf.iv c0_i32_263 c1_i32_264 k1_t4
  let c6_i32_400 : BitVec 32 := 6#32
  let v357 : BitVec 32 := Scalar.addi arg31 c6_i32_400
  let c2048_i32_403 : BitVec 32 := 2048#32
  let v360 : BitVec 32 := Scalar.muli v357 c2048_i32_403
  ![256, v360.toNat]
def k1_off55 (k1_t4 : Fin k1_t4_loop.trips) : Fin 2 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c3_i32_417 : BitVec 32 := 3#32
  ![v280.toNat, 3]
def k1_off56 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c384_i32_418 : BitVec 32 := 384#32
  let c0_i32_419 : BitVec 32 := 0#32
  ![v280.toNat, 384, 0]
def k1_off57 (k1_t4 : Fin k1_t4_loop.trips) : Fin 2 → Nat :=
  let c384_i32_420 : BitVec 32 := 384#32
  let c0_i32_263 : BitVec 32 := 0#32
  let c1_i32_264 : BitVec 32 := 1#32
  let arg31 : BitVec 32 := Scf.iv c0_i32_263 c1_i32_264 k1_t4
  let c6_i32_400 : BitVec 32 := 6#32
  let v357 : BitVec 32 := Scalar.addi arg31 c6_i32_400
  let c2048_i32_404 : BitVec 32 := 2048#32
  let v361 : BitVec 32 := Scalar.muli v357 c2048_i32_404
  ![384, v361.toNat]
def k1_off58 (k1_t4 : Fin k1_t4_loop.trips) : Fin 1 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  ![v280.toNat]
def k1_off59 (k1_t4 : Fin k1_t4_loop.trips) : Fin 3 → Nat :=
  let c0_i32_263 : BitVec 32 := 0#32
  let c1_i32_264 : BitVec 32 := 1#32
  let arg31 : BitVec 32 := Scf.iv c0_i32_263 c1_i32_264 k1_t4
  let c6_i32 : BitVec 32 := 6#32
  let v280 : BitVec 32 := Scalar.remsi arg31 c6_i32
  let c0_i32_423 : BitVec 32 := 0#32
  let c0_i32_424 : BitVec 32 := 0#32
  ![v280.toNat, 0, 0]
def k1_off60 (k1_t4 : Fin k1_t4_loop.trips) : Fin 2 → Nat :=
  let c0_i32_425 : BitVec 32 := 0#32
  let c0_i32_263 : BitVec 32 := 0#32
  let c1_i32_264 : BitVec 32 := 1#32
  let arg31 : BitVec 32 := Scf.iv c0_i32_263 c1_i32_264 k1_t4
  let c6_i32_421 : BitVec 32 := 6#32
  let v382 : BitVec 32 := Scalar.addi arg31 c6_i32_421
  let c2048_i32_422 : BitVec 32 := 2048#32
  let v383 : BitVec 32 := Scalar.muli v382 c2048_i32_422
  ![0, v383.toNat]
abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S256x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S256x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S2x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x64 : Shape := ⟨2, ![8, 64]⟩
abbrev S100000x128 : Shape := ⟨2, ![100000, 128]⟩
abbrev S128x768 : Shape := ⟨2, ![128, 768]⟩
abbrev S256x768 : Shape := ⟨2, ![256, 768]⟩
abbrev S2x768 : Shape := ⟨2, ![2, 768]⟩
abbrev S512x100000 : Shape := ⟨2, ![512, 100000]⟩
abbrev S100000 : Shape := ⟨1, ![100000]⟩
abbrev S_ : Shape := ⟨0, ![]⟩
abbrev S8x64x1 : Shape := ⟨3, ![8, 64, 1]⟩
abbrev S1 : Shape := ⟨1, ![1]⟩
abbrev S1x1x1 : Shape := ⟨3, ![1, 1, 1]⟩
abbrev S8x64x128 : Shape := ⟨3, ![8, 64, 128]⟩
abbrev S8x256 : Shape := ⟨2, ![8, 256]⟩
abbrev S64x8x128 : Shape := ⟨3, ![64, 8, 128]⟩
abbrev S64x8x256 : Shape := ⟨3, ![64, 8, 256]⟩
abbrev S1x8x128 : Shape := ⟨3, ![1, 8, 128]⟩
abbrev S8x128 : Shape := ⟨2, ![8, 128]⟩
abbrev S8x768 : Shape := ⟨2, ![8, 768]⟩
abbrev S1x768 : Shape := ⟨2, ![1, 768]⟩
abbrev S768 : Shape := ⟨1, ![768]⟩
abbrev S1x8x256 : Shape := ⟨3, ![1, 8, 256]⟩
abbrev S8x64x256 : Shape := ⟨3, ![8, 64, 256]⟩
abbrev S8x64x512 : Shape := ⟨3, ![8, 64, 512]⟩
abbrev S8x64x100000 : Shape := ⟨3, ![8, 64, 100000]⟩
abbrev S1x1x100000 : Shape := ⟨3, ![1, 1, 100000]⟩

abbrev nBuf : Space → Nat
  | .hbm => 270
  | .vmem => 0
  | .smem => 0
  | _ => 0

abbrev hbmTy0_0 (i : Nat) : BufTy := match i % 128 with
  | 0 => ⟨S8x64, .i32⟩
  | 1 => ⟨S100000x128, .f32⟩
  | 2 => ⟨S128x768, .f32⟩
  | 3 => ⟨S256x768, .f32⟩
  | 4 => ⟨S2x768, .f32⟩
  | 5 => ⟨S256x768, .f32⟩
  | 6 => ⟨S256x768, .f32⟩
  | 7 => ⟨S2x768, .f32⟩
  | 8 => ⟨S256x768, .f32⟩
  | 9 => ⟨S256x768, .f32⟩
  | 10 => ⟨S2x768, .f32⟩
  | 11 => ⟨S256x768, .f32⟩
  | 12 => ⟨S256x768, .f32⟩
  | 13 => ⟨S2x768, .f32⟩
  | 14 => ⟨S512x100000, .f32⟩
  | 15 => ⟨S100000, .f32⟩
  | 16 => ⟨S_, .i32⟩
  | 17 => ⟨S8x64, .i32⟩
  | 18 => ⟨S8x64, .i1⟩
  | 19 => ⟨S_, .i32⟩
  | 20 => ⟨S8x64, .i32⟩
  | 21 => ⟨S8x64, .i32⟩
  | 22 => ⟨S8x64, .i32⟩
  | 23 => ⟨S8x64x1, .i32⟩
  | 24 => ⟨S1, .i32⟩
  | 25 => ⟨S_, .i32⟩
  | 26 => ⟨S8x64x1, .i32⟩
  | 27 => ⟨S8x64x1, .i1⟩
  | 28 => ⟨S1x1x1, .i32⟩
  | 29 => ⟨S8x64x1, .i32⟩
  | 30 => ⟨S8x64x1, .i1⟩
  | 31 => ⟨S8x64x1, .i1⟩
  | 32 => ⟨S_, .i1⟩
  | 33 => ⟨S8x64, .i1⟩
  | 34 => ⟨S8x64x128, .f32⟩
  | 35 => ⟨S8x64x128, .i1⟩
  | 36 => ⟨S_, .f32⟩
  | 37 => ⟨S8x64x128, .f32⟩
  | 38 => ⟨S8x64x128, .f32⟩
  | 39 => ⟨S_, .f32⟩
  | 40 => ⟨S8x256, .f32⟩
  | 41 => ⟨S64x8x128, .f32⟩
  | 42 => ⟨S_, .f32⟩
  | 43 => ⟨S64x8x256, .f32⟩
  | 44 => ⟨S_, .f32⟩
  | 45 => ⟨S64x8x256, .f32⟩
  | 46 => ⟨S_, .i32⟩
  | 47 => ⟨S64x8x128, .f32⟩
  | 48 => ⟨S128x768, .f32⟩
  | 49 => ⟨S2x768, .f32⟩
  | 50 => ⟨S256x768, .f32⟩
  | 51 => ⟨S256x768, .f32⟩
  | 52 => ⟨S2x768, .f32⟩
  | 53 => ⟨S256x768, .f32⟩
  | 54 => ⟨S256x768, .f32⟩
  | 55 => ⟨S2x768, .f32⟩
  | 56 => ⟨S256x768, .f32⟩
  | 57 => ⟨S256x768, .f32⟩
  | 58 => ⟨S2x768, .f32⟩
  | 59 => ⟨S256x768, .f32⟩
  | 60 => ⟨S_, .i32⟩
  | 61 => ⟨S8x256, .f32⟩
  | 62 => ⟨S8x256, .f32⟩
  | 63 => ⟨S8x256, .f32⟩
  | 64 => ⟨S8x256, .f32⟩
  | 65 => ⟨S64x8x256, .f32⟩
  | 66 => ⟨S64x8x256, .f32⟩
  | 67 => ⟨S_, .i32⟩
  | 68 => ⟨S_, .i1⟩
  | 69 => ⟨S_, .i32⟩
  | 70 => ⟨S_, .i32⟩
  | 71 => ⟨S1x8x128, .f32⟩
  | 72 => ⟨S8x128, .f32⟩
  | 73 => ⟨S8x768, .f32⟩
  | 74 => ⟨S1x768, .f32⟩
  | 75 => ⟨S768, .f32⟩
  | 76 => ⟨S1x768, .f32⟩
  | 77 => ⟨S8x768, .f32⟩
  | 78 => ⟨S8x768, .f32⟩
  | 79 => ⟨S8x768, .f32⟩
  | 80 => ⟨S1x768, .f32⟩
  | 81 => ⟨S768, .f32⟩
  | 82 => ⟨S1x768, .f32⟩
  | 83 => ⟨S8x768, .f32⟩
  | 84 => ⟨S8x768, .f32⟩
  | 85 => ⟨S8x256, .f32⟩
  | 86 => ⟨S8x256, .f32⟩
  | 87 => ⟨S8x256, .f32⟩
  | 88 => ⟨S8x256, .f32⟩
  | 89 => ⟨S8x256, .f32⟩
  | 90 => ⟨S8x256, .f32⟩
  | 91 => ⟨S8x256, .f32⟩
  | 92 => ⟨S8x256, .f32⟩
  | 93 => ⟨S8x256, .f32⟩
  | 94 => ⟨S_, .f32⟩
  | 95 => ⟨S8x256, .f32⟩
  | 96 => ⟨S8x256, .f32⟩
  | 97 => ⟨S_, .f32⟩
  | 98 => ⟨S8x256, .f32⟩
  | 99 => ⟨S8x256, .f32⟩
  | 100 => ⟨S8x256, .f32⟩
  | 101 => ⟨S8x256, .f32⟩
  | 102 => ⟨S8x256, .f32⟩
  | 103 => ⟨S_, .f32⟩
  | 104 => ⟨S8x256, .f32⟩
  | 105 => ⟨S8x256, .f32⟩
  | 106 => ⟨S_, .f32⟩
  | 107 => ⟨S8x256, .f32⟩
  | 108 => ⟨S8x256, .f32⟩
  | 109 => ⟨S8x256, .f32⟩
  | 110 => ⟨S8x256, .f32⟩
  | 111 => ⟨S8x256, .f32⟩
  | 112 => ⟨S8x256, .f32⟩
  | 113 => ⟨S_, .f32⟩
  | 114 => ⟨S8x256, .f32⟩
  | 115 => ⟨S8x256, .f32⟩
  | 116 => ⟨S8x256, .f32⟩
  | 117 => ⟨S8x256, .f32⟩
  | 118 => ⟨S8x768, .f32⟩
  | 119 => ⟨S1x768, .f32⟩
  | 120 => ⟨S768, .f32⟩
  | 121 => ⟨S1x768, .f32⟩
  | 122 => ⟨S8x768, .f32⟩
  | 123 => ⟨S8x768, .f32⟩
  | 124 => ⟨S8x768, .f32⟩
  | 125 => ⟨S1x768, .f32⟩
  | 126 => ⟨S768, .f32⟩
  | 127 => ⟨S1x768, .f32⟩
  | _ => ⟨S8x64, .i32⟩

abbrev hbmTy0_1 (i : Nat) : BufTy := match i % 128 with
  | 0 => ⟨S8x768, .f32⟩
  | 1 => ⟨S8x768, .f32⟩
  | 2 => ⟨S8x256, .f32⟩
  | 3 => ⟨S8x256, .f32⟩
  | 4 => ⟨S8x256, .f32⟩
  | 5 => ⟨S8x256, .f32⟩
  | 6 => ⟨S8x256, .f32⟩
  | 7 => ⟨S8x256, .f32⟩
  | 8 => ⟨S8x256, .f32⟩
  | 9 => ⟨S8x256, .f32⟩
  | 10 => ⟨S8x256, .f32⟩
  | 11 => ⟨S_, .f32⟩
  | 12 => ⟨S8x256, .f32⟩
  | 13 => ⟨S8x256, .f32⟩
  | 14 => ⟨S_, .f32⟩
  | 15 => ⟨S8x256, .f32⟩
  | 16 => ⟨S8x256, .f32⟩
  | 17 => ⟨S8x256, .f32⟩
  | 18 => ⟨S8x256, .f32⟩
  | 19 => ⟨S8x256, .f32⟩
  | 20 => ⟨S_, .f32⟩
  | 21 => ⟨S8x256, .f32⟩
  | 22 => ⟨S8x256, .f32⟩
  | 23 => ⟨S_, .f32⟩
  | 24 => ⟨S8x256, .f32⟩
  | 25 => ⟨S8x256, .f32⟩
  | 26 => ⟨S8x256, .f32⟩
  | 27 => ⟨S8x256, .f32⟩
  | 28 => ⟨S8x256, .f32⟩
  | 29 => ⟨S8x256, .f32⟩
  | 30 => ⟨S_, .f32⟩
  | 31 => ⟨S8x256, .f32⟩
  | 32 => ⟨S8x256, .f32⟩
  | 33 => ⟨S8x256, .f32⟩
  | 34 => ⟨S8x256, .f32⟩
  | 35 => ⟨S8x768, .f32⟩
  | 36 => ⟨S1x768, .f32⟩
  | 37 => ⟨S768, .f32⟩
  | 38 => ⟨S1x768, .f32⟩
  | 39 => ⟨S8x768, .f32⟩
  | 40 => ⟨S8x768, .f32⟩
  | 41 => ⟨S8x768, .f32⟩
  | 42 => ⟨S1x768, .f32⟩
  | 43 => ⟨S768, .f32⟩
  | 44 => ⟨S1x768, .f32⟩
  | 45 => ⟨S8x768, .f32⟩
  | 46 => ⟨S8x768, .f32⟩
  | 47 => ⟨S8x256, .f32⟩
  | 48 => ⟨S8x256, .f32⟩
  | 49 => ⟨S8x256, .f32⟩
  | 50 => ⟨S8x256, .f32⟩
  | 51 => ⟨S8x256, .f32⟩
  | 52 => ⟨S8x256, .f32⟩
  | 53 => ⟨S8x256, .f32⟩
  | 54 => ⟨S8x256, .f32⟩
  | 55 => ⟨S8x256, .f32⟩
  | 56 => ⟨S_, .f32⟩
  | 57 => ⟨S8x256, .f32⟩
  | 58 => ⟨S8x256, .f32⟩
  | 59 => ⟨S_, .f32⟩
  | 60 => ⟨S8x256, .f32⟩
  | 61 => ⟨S8x256, .f32⟩
  | 62 => ⟨S8x256, .f32⟩
  | 63 => ⟨S8x256, .f32⟩
  | 64 => ⟨S8x256, .f32⟩
  | 65 => ⟨S_, .f32⟩
  | 66 => ⟨S8x256, .f32⟩
  | 67 => ⟨S8x256, .f32⟩
  | 68 => ⟨S_, .f32⟩
  | 69 => ⟨S8x256, .f32⟩
  | 70 => ⟨S8x256, .f32⟩
  | 71 => ⟨S8x256, .f32⟩
  | 72 => ⟨S8x256, .f32⟩
  | 73 => ⟨S8x256, .f32⟩
  | 74 => ⟨S8x256, .f32⟩
  | 75 => ⟨S_, .f32⟩
  | 76 => ⟨S8x256, .f32⟩
  | 77 => ⟨S8x256, .f32⟩
  | 78 => ⟨S8x256, .f32⟩
  | 79 => ⟨S8x256, .f32⟩
  | 80 => ⟨S8x768, .f32⟩
  | 81 => ⟨S1x768, .f32⟩
  | 82 => ⟨S768, .f32⟩
  | 83 => ⟨S1x768, .f32⟩
  | 84 => ⟨S8x768, .f32⟩
  | 85 => ⟨S8x768, .f32⟩
  | 86 => ⟨S8x768, .f32⟩
  | 87 => ⟨S1x768, .f32⟩
  | 88 => ⟨S768, .f32⟩
  | 89 => ⟨S1x768, .f32⟩
  | 90 => ⟨S8x768, .f32⟩
  | 91 => ⟨S8x768, .f32⟩
  | 92 => ⟨S8x256, .f32⟩
  | 93 => ⟨S8x256, .f32⟩
  | 94 => ⟨S8x256, .f32⟩
  | 95 => ⟨S8x256, .f32⟩
  | 96 => ⟨S8x256, .f32⟩
  | 97 => ⟨S8x256, .f32⟩
  | 98 => ⟨S8x256, .f32⟩
  | 99 => ⟨S8x256, .f32⟩
  | 100 => ⟨S8x256, .f32⟩
  | 101 => ⟨S_, .f32⟩
  | 102 => ⟨S8x256, .f32⟩
  | 103 => ⟨S8x256, .f32⟩
  | 104 => ⟨S_, .f32⟩
  | 105 => ⟨S8x256, .f32⟩
  | 106 => ⟨S8x256, .f32⟩
  | 107 => ⟨S8x256, .f32⟩
  | 108 => ⟨S8x256, .f32⟩
  | 109 => ⟨S8x256, .f32⟩
  | 110 => ⟨S_, .f32⟩
  | 111 => ⟨S8x256, .f32⟩
  | 112 => ⟨S8x256, .f32⟩
  | 113 => ⟨S_, .f32⟩
  | 114 => ⟨S8x256, .f32⟩
  | 115 => ⟨S8x256, .f32⟩
  | 116 => ⟨S8x256, .f32⟩
  | 117 => ⟨S8x256, .f32⟩
  | 118 => ⟨S8x256, .f32⟩
  | 119 => ⟨S8x256, .f32⟩
  | 120 => ⟨S_, .f32⟩
  | 121 => ⟨S8x256, .f32⟩
  | 122 => ⟨S8x256, .f32⟩
  | 123 => ⟨S8x256, .f32⟩
  | 124 => ⟨S8x256, .f32⟩
  | 125 => ⟨S1x8x256, .f32⟩
  | 126 => ⟨S_, .i32⟩
  | 127 => ⟨S_, .i32⟩
  | _ => ⟨S8x64, .i32⟩

abbrev hbmTy0_2 (i : Nat) : BufTy := match i % 128 with
  | 0 => ⟨S64x8x256, .f32⟩
  | 1 => ⟨S1x8x256, .f32⟩
  | 2 => ⟨S_, .i32⟩
  | 3 => ⟨S_, .i32⟩
  | 4 => ⟨S64x8x256, .f32⟩
  | 5 => ⟨S_, .i32⟩
  | 6 => ⟨S_, .i32⟩
  | 7 => ⟨S8x64x256, .f32⟩
  | 8 => ⟨S8x64x256, .f32⟩
  | 9 => ⟨S8x64x512, .f32⟩
  | 10 => ⟨S8x64x100000, .f32⟩
  | 11 => ⟨S1x1x100000, .f32⟩
  | 12 => ⟨S8x64x100000, .f32⟩
  | 13 => ⟨S8x64x100000, .f32⟩
  | _ => ⟨S8x64, .i32⟩

abbrev hbmTy (i : Nat) : BufTy := match i / 128 with
  | 0 => hbmTy0_0 i
  | 1 => hbmTy0_1 i
  | 2 => hbmTy0_2 i
  | _ => ⟨S8x64, .i32⟩

abbrev bufTy : (tb : Table) → Fin (tcTables nBuf tb) → BufTy
  | .hbm, ⟨i, _⟩ => hbmTy i
  | _, _ => ⟨S8x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_cst : Ref sig .tc := ⟨.hbm, 39, rfl⟩
abbrev main_v1 : Ref sig .tc := ⟨.hbm, 40, rfl⟩
abbrev main_v2 : Ref sig .tc := ⟨.hbm, 41, rfl⟩
abbrev main_cst_0 : Ref sig .tc := ⟨.hbm, 42, rfl⟩
abbrev main_v3 : Ref sig .tc := ⟨.hbm, 43, rfl⟩
abbrev main_cst_1 : Ref sig .tc := ⟨.hbm, 44, rfl⟩
abbrev main_v4 : Ref sig .tc := ⟨.hbm, 45, rfl⟩
abbrev main_c : Ref sig .tc := ⟨.hbm, 46, rfl⟩
abbrev main_v5_0 : Ref sig .tc := ⟨.hbm, 47, rfl⟩
abbrev main_v5_1 : Ref sig .tc := ⟨.hbm, 48, rfl⟩
abbrev main_v5_2 : Ref sig .tc := ⟨.hbm, 49, rfl⟩
abbrev main_v5_3 : Ref sig .tc := ⟨.hbm, 50, rfl⟩
abbrev main_v5_4 : Ref sig .tc := ⟨.hbm, 51, rfl⟩
abbrev main_v5_5 : Ref sig .tc := ⟨.hbm, 52, rfl⟩
abbrev main_v5_6 : Ref sig .tc := ⟨.hbm, 53, rfl⟩
abbrev main_v5_7 : Ref sig .tc := ⟨.hbm, 54, rfl⟩
abbrev main_v5_8 : Ref sig .tc := ⟨.hbm, 55, rfl⟩
abbrev main_v5_9 : Ref sig .tc := ⟨.hbm, 56, rfl⟩
abbrev main_v5_10 : Ref sig .tc := ⟨.hbm, 57, rfl⟩
abbrev main_v5_11 : Ref sig .tc := ⟨.hbm, 58, rfl⟩
abbrev main_v5_12 : Ref sig .tc := ⟨.hbm, 59, rfl⟩
abbrev main_v5_13 : Ref sig .tc := ⟨.hbm, 60, rfl⟩
abbrev main_v5_14 : Ref sig .tc := ⟨.hbm, 61, rfl⟩
abbrev main_v5_15 : Ref sig .tc := ⟨.hbm, 62, rfl⟩
abbrev main_v5_16 : Ref sig .tc := ⟨.hbm, 63, rfl⟩
abbrev main_v5_17 : Ref sig .tc := ⟨.hbm, 64, rfl⟩
abbrev main_v5_18 : Ref sig .tc := ⟨.hbm, 65, rfl⟩
abbrev main_v5_19 : Ref sig .tc := ⟨.hbm, 66, rfl⟩
abbrev main_while0c_c_21 : Ref sig .tc := ⟨.hbm, 67, rfl⟩
abbrev main_while0c_v13 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_v0 : Ref sig .tc := ⟨.hbm, 71, rfl⟩
abbrev main_while0b_v13 : Ref sig .tc := ⟨.hbm, 72, rfl⟩
abbrev main_while0b_v14 : Ref sig .tc := ⟨.hbm, 73, rfl⟩
abbrev main_while0b_v15 : Ref sig .tc := ⟨.hbm, 74, rfl⟩
abbrev main_while0b_v16 : Ref sig .tc := ⟨.hbm, 75, rfl⟩
abbrev main_while0b_v17 : Ref sig .tc := ⟨.hbm, 76, rfl⟩
abbrev main_while0b_v18 : Ref sig .tc := ⟨.hbm, 77, rfl⟩
abbrev main_while0b_v19 : Ref sig .tc := ⟨.hbm, 78, rfl⟩
abbrev main_while0b_v20 : Ref sig .tc := ⟨.hbm, 79, rfl⟩
abbrev main_while0b_v21 : Ref sig .tc := ⟨.hbm, 80, rfl⟩
abbrev main_while0b_v22 : Ref sig .tc := ⟨.hbm, 81, rfl⟩
abbrev main_while0b_v23 : Ref sig .tc := ⟨.hbm, 82, rfl⟩
abbrev main_while0b_v24 : Ref sig .tc := ⟨.hbm, 83, rfl⟩
abbrev main_while0b_v25 : Ref sig .tc := ⟨.hbm, 84, rfl⟩
abbrev main_while0b_v26 : Ref sig .tc := ⟨.hbm, 85, rfl⟩
abbrev main_while0b_v27 : Ref sig .tc := ⟨.hbm, 86, rfl⟩
abbrev main_while0b_v28 : Ref sig .tc := ⟨.hbm, 87, rfl⟩
abbrev main_while0b_v29 : Ref sig .tc := ⟨.hbm, 88, rfl⟩
abbrev main_while0b_v30 : Ref sig .tc := ⟨.hbm, 89, rfl⟩
abbrev main_while0b_v31 : Ref sig .tc := ⟨.hbm, 90, rfl⟩
abbrev main_while0b_v32 : Ref sig .tc := ⟨.hbm, 91, rfl⟩
abbrev main_while0b_v33 : Ref sig .tc := ⟨.hbm, 92, rfl⟩
abbrev main_while0b_v34 : Ref sig .tc := ⟨.hbm, 93, rfl⟩
abbrev main_while0b_cst_21 : Ref sig .tc := ⟨.hbm, 94, rfl⟩
abbrev main_while0b_v35 : Ref sig .tc := ⟨.hbm, 95, rfl⟩
abbrev main_while0b_v36 : Ref sig .tc := ⟨.hbm, 96, rfl⟩
abbrev main_while0b_cst_22 : Ref sig .tc := ⟨.hbm, 97, rfl⟩
abbrev main_while0b_v37 : Ref sig .tc := ⟨.hbm, 98, rfl⟩
abbrev main_while0b_v38 : Ref sig .tc := ⟨.hbm, 99, rfl⟩
abbrev main_while0b_v39 : Ref sig .tc := ⟨.hbm, 100, rfl⟩
abbrev main_while0b_v40 : Ref sig .tc := ⟨.hbm, 101, rfl⟩
abbrev main_while0b_v41 : Ref sig .tc := ⟨.hbm, 102, rfl⟩
abbrev main_while0b_cst_23 : Ref sig .tc := ⟨.hbm, 103, rfl⟩
abbrev main_while0b_v42 : Ref sig .tc := ⟨.hbm, 104, rfl⟩
abbrev main_while0b_v43 : Ref sig .tc := ⟨.hbm, 105, rfl⟩
abbrev main_while0b_cst_24 : Ref sig .tc := ⟨.hbm, 106, rfl⟩
abbrev main_while0b_v44 : Ref sig .tc := ⟨.hbm, 107, rfl⟩
abbrev main_while0b_v45 : Ref sig .tc := ⟨.hbm, 108, rfl⟩
abbrev main_while0b_v46 : Ref sig .tc := ⟨.hbm, 109, rfl⟩
abbrev main_while0b_v47 : Ref sig .tc := ⟨.hbm, 110, rfl⟩
abbrev main_while0b_v48 : Ref sig .tc := ⟨.hbm, 111, rfl⟩
abbrev main_while0b_v49 : Ref sig .tc := ⟨.hbm, 112, rfl⟩
abbrev main_while0b_cst_25 : Ref sig .tc := ⟨.hbm, 113, rfl⟩
abbrev main_while0b_v50 : Ref sig .tc := ⟨.hbm, 114, rfl⟩
abbrev main_while0b_v51 : Ref sig .tc := ⟨.hbm, 115, rfl⟩
abbrev main_while0b_v52 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_v61 : Ref sig .tc := ⟨.hbm, 125, rfl⟩
abbrev main_while0b_v62 : Ref sig .tc := ⟨.hbm, 126, rfl⟩
abbrev main_while0b_v63 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_cst_26 : Ref sig .tc := ⟨.hbm, 139, rfl⟩
abbrev main_while0b_v75 : Ref sig .tc := ⟨.hbm, 140, rfl⟩
abbrev main_while0b_v76 : Ref sig .tc := ⟨.hbm, 141, rfl⟩
abbrev main_while0b_cst_27 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_cst_28 : Ref sig .tc := ⟨.hbm, 148, rfl⟩
abbrev main_while0b_v82 : Ref sig .tc := ⟨.hbm, 149, rfl⟩
abbrev main_while0b_v83 : Ref sig .tc := ⟨.hbm, 150, rfl⟩
abbrev main_while0b_cst_29 : Ref sig .tc := ⟨.hbm, 151, rfl⟩
abbrev main_while0b_v84 : Ref sig .tc := ⟨.hbm, 152, rfl⟩
abbrev main_while0b_v85 : Ref sig .tc := ⟨.hbm, 153, rfl⟩
abbrev main_while0b_v86 : Ref sig .tc := ⟨.hbm, 154, rfl⟩
abbrev main_while0b_v87 : Ref sig .tc := ⟨.hbm, 155, rfl⟩
abbrev main_while0b_v88 : Ref sig .tc := ⟨.hbm, 156, rfl⟩
abbrev main_while0b_v89 : Ref sig .tc := ⟨.hbm, 157, rfl⟩
abbrev main_while0b_cst_30 : Ref sig .tc := ⟨.hbm, 158, rfl⟩
abbrev main_while0b_v90 : Ref sig .tc := ⟨.hbm, 159, rfl⟩
abbrev main_while0b_v91 : Ref sig .tc := ⟨.hbm, 160, rfl⟩
abbrev main_while0b_v92 : Ref sig .tc := ⟨.hbm, 161, rfl⟩
abbrev main_while0b_v93 : Ref sig .tc := ⟨.hbm, 162, rfl⟩
abbrev main_while0b_v94 : Ref sig .tc := ⟨.hbm, 163, rfl⟩
abbrev main_while0b_v95 : Ref sig .tc := ⟨.hbm, 164, rfl⟩
abbrev main_while0b_v96 : Ref sig .tc := ⟨.hbm, 165, rfl⟩
abbrev main_while0b_v97 : Ref sig .tc := ⟨.hbm, 166, rfl⟩
abbrev main_while0b_v98 : Ref sig .tc := ⟨.hbm, 167, rfl⟩
abbrev main_while0b_v99 : Ref sig .tc := ⟨.hbm, 168, rfl⟩
abbrev main_while0b_v100 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_v104 : Ref sig .tc := ⟨.hbm, 173, rfl⟩
abbrev main_while0b_v105 : Ref sig .tc := ⟨.hbm, 174, rfl⟩
abbrev main_while0b_v106 : Ref sig .tc := ⟨.hbm, 175, rfl⟩
abbrev main_while0b_v107 : Ref sig .tc := ⟨.hbm, 176, rfl⟩
abbrev main_while0b_v108 : Ref sig .tc := ⟨.hbm, 177, rfl⟩
abbrev main_while0b_v109 : Ref sig .tc := ⟨.hbm, 178, rfl⟩
abbrev main_while0b_v110 : Ref sig .tc := ⟨.hbm, 179, rfl⟩
abbrev main_while0b_v111 : Ref sig .tc := ⟨.hbm, 180, rfl⟩
abbrev main_while0b_v112 : Ref sig .tc := ⟨.hbm, 181, rfl⟩
abbrev main_while0b_v113 : Ref sig .tc := ⟨.hbm, 182, rfl⟩
abbrev main_while0b_v114 : Ref sig .tc := ⟨.hbm, 183, rfl⟩
abbrev main_while0b_cst_31 : Ref sig .tc := ⟨.hbm, 184, rfl⟩
abbrev main_while0b_v115 : Ref sig .tc := ⟨.hbm, 185, rfl⟩
abbrev main_while0b_v116 : Ref sig .tc := ⟨.hbm, 186, rfl⟩
abbrev main_while0b_cst_32 : Ref sig .tc := ⟨.hbm, 187, rfl⟩
abbrev main_while0b_v117 : Ref sig .tc := ⟨.hbm, 188, rfl⟩
abbrev main_while0b_v118 : Ref sig .tc := ⟨.hbm, 189, rfl⟩
abbrev main_while0b_v119 : Ref sig .tc := ⟨.hbm, 190, rfl⟩
abbrev main_while0b_v120 : Ref sig .tc := ⟨.hbm, 191, rfl⟩
abbrev main_while0b_v121 : Ref sig .tc := ⟨.hbm, 192, rfl⟩
abbrev main_while0b_cst_33 : Ref sig .tc := ⟨.hbm, 193, rfl⟩
abbrev main_while0b_v122 : Ref sig .tc := ⟨.hbm, 194, rfl⟩
abbrev main_while0b_v123 : Ref sig .tc := ⟨.hbm, 195, rfl⟩
abbrev main_while0b_cst_34 : Ref sig .tc := ⟨.hbm, 196, rfl⟩
abbrev main_while0b_v124 : Ref sig .tc := ⟨.hbm, 197, rfl⟩
abbrev main_while0b_v125 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_cst_35 : Ref sig .tc := ⟨.hbm, 203, rfl⟩
abbrev main_while0b_v130 : Ref sig .tc := ⟨.hbm, 204, rfl⟩
abbrev main_while0b_v131 : Ref sig .tc := ⟨.hbm, 205, rfl⟩
abbrev main_while0b_v132 : Ref sig .tc := ⟨.hbm, 206, rfl⟩
abbrev main_while0b_v133 : Ref sig .tc := ⟨.hbm, 207, rfl⟩
abbrev main_while0b_v134 : Ref sig .tc := ⟨.hbm, 208, rfl⟩
abbrev main_while0b_v135 : Ref sig .tc := ⟨.hbm, 209, rfl⟩
abbrev main_while0b_v136 : Ref sig .tc := ⟨.hbm, 210, rfl⟩
abbrev main_while0b_v137 : Ref sig .tc := ⟨.hbm, 211, rfl⟩
abbrev main_while0b_v138 : Ref sig .tc := ⟨.hbm, 212, rfl⟩
abbrev main_while0b_v139 : Ref sig .tc := ⟨.hbm, 213, rfl⟩
abbrev main_while0b_v140 : Ref sig .tc := ⟨.hbm, 214, rfl⟩
abbrev main_while0b_v141 : Ref sig .tc := ⟨.hbm, 215, rfl⟩
abbrev main_while0b_v142 : Ref sig .tc := ⟨.hbm, 216, rfl⟩
abbrev main_while0b_v143 : Ref sig .tc := ⟨.hbm, 217, rfl⟩
abbrev main_while0b_v144 : Ref sig .tc := ⟨.hbm, 218, rfl⟩
abbrev main_while0b_v145 : Ref sig .tc := ⟨.hbm, 219, rfl⟩
abbrev main_while0b_v146 : Ref sig .tc := ⟨.hbm, 220, rfl⟩
abbrev main_while0b_v147 : Ref sig .tc := ⟨.hbm, 221, rfl⟩
abbrev main_while0b_v148 : Ref sig .tc := ⟨.hbm, 222, rfl⟩
abbrev main_while0b_v149 : Ref sig .tc := ⟨.hbm, 223, rfl⟩
abbrev main_while0b_v150 : Ref sig .tc := ⟨.hbm, 224, rfl⟩
abbrev main_while0b_v151 : Ref sig .tc := ⟨.hbm, 225, rfl⟩
abbrev main_while0b_v152 : Ref sig .tc := ⟨.hbm, 226, rfl⟩
abbrev main_while0b_v153 : Ref sig .tc := ⟨.hbm, 227, rfl⟩
abbrev main_while0b_v154 : Ref sig .tc := ⟨.hbm, 228, rfl⟩
abbrev main_while0b_cst_36 : Ref sig .tc := ⟨.hbm, 229, rfl⟩
abbrev main_while0b_v155 : Ref sig .tc := ⟨.hbm, 230, rfl⟩
abbrev main_while0b_v156 : Ref sig .tc := ⟨.hbm, 231, rfl⟩
abbrev main_while0b_cst_37 : Ref sig .tc := ⟨.hbm, 232, rfl⟩
abbrev main_while0b_v157 : Ref sig .tc := ⟨.hbm, 233, rfl⟩
abbrev main_while0b_v158 : Ref sig .tc := ⟨.hbm, 234, rfl⟩
abbrev main_while0b_v159 : Ref sig .tc := ⟨.hbm, 235, rfl⟩
abbrev main_while0b_v160 : Ref sig .tc := ⟨.hbm, 236, rfl⟩
abbrev main_while0b_v161 : Ref sig .tc := ⟨.hbm, 237, rfl⟩
abbrev main_while0b_cst_38 : Ref sig .tc := ⟨.hbm, 238, rfl⟩
abbrev main_while0b_v162 : Ref sig .tc := ⟨.hbm, 239, rfl⟩
abbrev main_while0b_v163 : Ref sig .tc := ⟨.hbm, 240, rfl⟩
abbrev main_while0b_cst_39 : Ref sig .tc := ⟨.hbm, 241, rfl⟩
abbrev main_while0b_v164 : Ref sig .tc := ⟨.hbm, 242, rfl⟩
abbrev main_while0b_v165 : Ref sig .tc := ⟨.hbm, 243, rfl⟩
abbrev main_while0b_v166 : Ref sig .tc := ⟨.hbm, 244, rfl⟩
abbrev main_while0b_v167 : Ref sig .tc := ⟨.hbm, 245, rfl⟩
abbrev main_while0b_v168 : Ref sig .tc := ⟨.hbm, 246, rfl⟩
abbrev main_while0b_v169 : Ref sig .tc := ⟨.hbm, 247, rfl⟩
abbrev main_while0b_cst_40 : Ref sig .tc := ⟨.hbm, 248, rfl⟩
abbrev main_while0b_v170 : Ref sig .tc := ⟨.hbm, 249, rfl⟩
abbrev main_while0b_v171 : Ref sig .tc := ⟨.hbm, 250, rfl⟩
abbrev main_while0b_v172 : Ref sig .tc := ⟨.hbm, 251, rfl⟩
abbrev main_while0b_v173 : Ref sig .tc := ⟨.hbm, 252, rfl⟩
abbrev main_while0b_call2_v0 : Ref sig .tc := ⟨.hbm, 253, rfl⟩
abbrev main_while0b_call2_c : Ref sig .tc := ⟨.hbm, 254, rfl⟩
abbrev main_while0b_call2_c_0 : Ref sig .tc := ⟨.hbm, 255, rfl⟩
abbrev main_while0b_v174 : Ref sig .tc := ⟨.hbm, 256, rfl⟩
abbrev main_while0b_call3_v0 : Ref sig .tc := ⟨.hbm, 257, rfl⟩
abbrev main_while0b_call3_c : Ref sig .tc := ⟨.hbm, 258, rfl⟩
abbrev main_while0b_call3_c_0 : Ref sig .tc := ⟨.hbm, 259, rfl⟩
abbrev main_while0b_v175 : Ref sig .tc := ⟨.hbm, 260, rfl⟩
abbrev main_while0b_c_41 : Ref sig .tc := ⟨.hbm, 261, rfl⟩
abbrev main_while0b_v176 : Ref sig .tc := ⟨.hbm, 262, rfl⟩
abbrev main_v6 : Ref sig .tc := ⟨.hbm, 263, rfl⟩
abbrev main_v7 : Ref sig .tc := ⟨.hbm, 264, rfl⟩
abbrev main_v8 : Ref sig .tc := ⟨.hbm, 265, rfl⟩
abbrev main_v9 : Ref sig .tc := ⟨.hbm, 266, rfl⟩
abbrev main_v10 : Ref sig .tc := ⟨.hbm, 267, rfl⟩
abbrev main_v11 : Ref sig .tc := ⟨.hbm, 268, rfl⟩
abbrev main_v12 : Ref sig .tc := ⟨.hbm, 269, rfl⟩

abbrev nD : Nat := 1
abbrev τ : Topo := Topo.v7x

variable {F : FTy → Type} [FloatOps F]

abbrev main_while0_count : Scf.Loop 32 := ⟨0#32, 64#32, 1#32⟩
-- ==== Proof.Base.lean ====
/-
  The program as the launch theorem sees it: the label signature, the SparseCore configuration, the body table, the
  resource algebra (the launch handshakes' rounds, the TensorCore pipeline's rounds, the local transfers' counters),
  and the HBM locations the two kernels work on. Everything is over any float values `F`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Base

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the TensorCore pipeline's program. -/
abbrev ΛP : Labels := Pipeline.Sig Λ₀ (Fin 1) fun p => (pcfgs (F := F) p).Adm
/-- The SparseCore launch configuration. -/
abbrev K : SparseCore.Cfg τ sig (ΛP (F := F)) 1 := sc (F := F)
/-- The body table under the SparseCore launch. -/
abbrev D [FloatOps F] : Defs nD τ sig (Elt F) (ΛP (F := F)) := Pipeline.defs pcfgs defs₀
/-- No loop of either kernel needs a variant. -/
abbrev 𝒱₀ : Variants := Variants.none
abbrev 𝒱 : Variants := 𝒱₀.lift
abbrev v₀ : 𝒱.V := Sum.inl none

/-- The launch semaphores are distinct and unscoped, no scratch is shared between subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipeline's rounds beside the transfers' counters. -/
abbrev UB : Type := UR sig nD τ × Counters
abbrev UU : Type := UH × UB

/-- Where the handshakes' rounds live; -/
abbrev EH : Emb UH (MT nD τ sig (SparseCore.Cfg.HIx 1) (Elt F) ℕ UU ℕ) := embL
/-- where the pipeline's rounds live. -/
def EP : Emb (UR sig nD τ) (MT nD τ sig (SparseCore.Cfg.HIx 1) (Elt F) ℕ UU ℕ) := (Emb.inl : Emb (UR sig nD τ) UB).trans embR

instance EP_landsIn : (EP (F := F)).LandsIn (upEmb : UEmb _ (MT nD τ sig (SparseCore.Cfg.HIx 1) (Elt F) ℕ UU ℕ)) := by
  unfold EP embR; infer_instance

/-! ## The locations -/

/-- The transposed, flattened indices; -/
abbrev iLoc (d : Dev nD) : Loc nD τ sig := (SparseCore.T d).loc main_v1
/-- the embedding table; -/
abbrev xLoc (d : Dev nD) : Loc nD τ sig := (SparseCore.T d).loc main_arg1
/-- the gathered rows. -/
abbrev oLoc (d : Dev nD) : Loc nD τ sig := (SparseCore.T d).loc main_v2

end Cert.Proof.Base

end
-- ==== Proof.Ring.lean ====
/-
  The second kernel's copies. The weight matrix is fetched in 48 tiles of 2048 columns through a ring of six slots (four
  row blocks of 128 a tile, one semaphore each), the bias beside it, and the result leaves through a ring of two slots;
  the last 1696 columns travel in buffers of their own. Every copy in flight is stated at canonical contents: a slot
  that receives tile `t` holds, at row `i` and column `j`, the array's element at row `i` and column `2048 t + j`.
-/
module

public import proofs.«01_k».proof.Proof.Base
public import Idealize.ShloMosaic.Lib.Pointwise.Index
public import Idealize.ShloMosaic.Lib.Pipeline.ValueKit.Geometry

@[expose] public section

set_option maxRecDepth 16384

noncomputable section

namespace Cert.Proof.Ring

open Cert.KernelIdeal Cert.KernelIdeal.Gen Cert.Proof.Base

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Index `i` of a buffer, reduced to a column of a matrix of 100000 columns. -/
def ixW (i j : ℕ) : S512x100000.Idx := ix2 ⟨i % 512, Nat.mod_lt _ (by decide)⟩ ⟨j % 100000, Nat.mod_lt _ (by decide)⟩
/-- Column `j` of the bias row. -/
def ixB (j : ℕ) : S1x100000.Idx := ix2 0 ⟨j % 100000, Nat.mod_lt _ (by decide)⟩

/-! ## The memrefs and the semaphores -/

abbrev wV : Memref sig .tc .vmem S6x512x2048 .f32 := Memref.whole cc1_scratch5
abbrev bV : Memref sig .tc .vmem S6x1x2048 .f32 := Memref.whole cc1_scratch6
abbrev oV : Memref sig .tc .vmem S2x512x2048 .f32 := Memref.whole cc1_scratch7
abbrev wT : Memref sig .tc .vmem S512x1696 .f32 := Memref.whole cc1_scratch8
abbrev bT : Memref sig .tc .vmem S1x1696 .f32 := Memref.whole cc1_scratch9
abbrev oT : Memref sig .tc .vmem S512x1696 .f32 := Memref.whole cc1_scratch10
abbrev wH : Memref sig .tc .hbm S512x100000 .f32 := Memref.whole main_arg14
abbrev bH : Memref sig .tc .hbm S1x100000 .f32 := Memref.whole main_v3
abbrev oH : Memref sig .tc .hbm S512x100000 .f32 := Memref.whole main_v4

/-- The semaphore of row block `r` of weight slot `s`; -/
def wsem (s : Fin 6) (r : Fin 4) : DmaSem sig := cc1_scratch11.ix (ix2 s r)
/-- of bias slot `s`; -/
def bsem (s : Fin 6) : DmaSem sig := cc1_scratch12.ix (ix1 s)
/-- of row block `r` of result slot `p`; -/
def osem (p : Fin 2) (r : Fin 4) : DmaSem sig := cc1_scratch13.ix (ix2 p r)
/-- of the three tail copies. -/
def tsem (i : Fin 3) : DmaSem sig := cc1_scratch14.ix (ix1 i)

theorem wsem_eq (off : Fin 2 → ℕ) (inb : ∀ a, off a + S1x1.size a ≤ S6x4.size a) (s : Fin 6) (r : Fin 4) (h : off = ![s.val, r.val]) :
    ((cc1_scratch11.slice (Rect.unit (s := S6x4) off S1x1.size inb)).squeeze S_ squeezes_S1x1_S_).sem = wsem s r := by
  subst h; revert inb; revert s r; decide +kernel

theorem bsem_eq (off : Fin 1 → ℕ) (inb : ∀ a, off a + S1.size a ≤ S6.size a) (s : Fin 6) (h : off = ![s.val]) :
    ((cc1_scratch12.slice (Rect.unit (s := S6) off S1.size inb)).squeeze S_ squeezes_S1_S_).sem = bsem s := by
  subst h; revert inb; revert s; decide +kernel

theorem osem_eq (off : Fin 2 → ℕ) (inb : ∀ a, off a + S1x1.size a ≤ S2x4.size a) (s : Fin 2) (r : Fin 4) (h : off = ![s.val, r.val]) :
    ((cc1_scratch13.slice (Rect.unit (s := S2x4) off S1x1.size inb)).squeeze S_ squeezes_S1x1_S_).sem = osem s r := by
  subst h; revert inb; revert s r; decide +kernel

theorem tsem_eq (off : Fin 1 → ℕ) (inb : ∀ a, off a + S1.size a ≤ S3.size a) (s : Fin 3) (h : off = ![s.val]) :
    ((cc1_scratch14.slice (Rect.unit (s := S3) off S1.size inb)).squeeze S_ squeezes_S1_S_).sem = tsem s := by
  subst h; revert inb; revert s; decide +kernel

/-! ## One copy -/

section Copy

variable {Λ : Labels} (defs : Defs nD τ sig (Elt F) Λ) (𝒱 : Variants) (c : Thread nD τ) (bd : Option 𝒱.V)

/-- A whole-region copy issued: from the source, the destination at anything and the semaphore at zero, the copy is in
    flight and will deliver the destination at any contents `g` that read as the source does, the source back. -/
theorem issue {α : Type} {sp sp' : Space} {s : Shape} {e : EltTy}
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {Q : α → sProp 𝕄}
    {fs : Buf (Elt F) (src.view.loc c)} {fd g : Buf (Elt F) (dst.view.loc c)}
    (N : ℕ) (hN : dst.view.amount (.dma sm) = N) (hN0 : 0 < N) (hg : dst.view.read (Elt F) g = src.view.read (Elt F) fs)
    {I : Finset (Idx (dst.view.loc c))} (hI : dst.view.set = I) {J : Finset (Idx (src.view.loc c))} (hJ : src.view.set = J) :
    iprop((src.view.loc c ↦[J]{fullShare} fs) ∗ (dst.view.loc c ↦[I]{fullShare} fd) ∗ semVal (c, .dma sm) 0)
      ⊢ iprop((Transfers.Flight countersEmb c (.dma sm) (default : HIx 1) N
              iprop((dst.view.loc c ↦[I]{fullShare} g) ∗ (src.view.loc c ↦[J]{fullShare} fs))
            -∗ wp frame (wpE defs 𝒱 c bd) Set.univ (k ⟨⟩) Q)
          -∗ wp frame (wpE defs 𝒱 c bd) Set.univ (.op (.enqueueDma src (.here dst) (.dma sm) hsrc hdst hsem) k) Q) := by
  subst hI; subst hJ
  iintro H Hk
  iapply (Transfers.wp_dmaLocal countersEmb 𝒱 c bd (default : HIx 1) N hN hN0 (Finset.Subset.refl _)) $$ [H]
  · iexact H
  iintro Hf
  iapply Hk
  iapply (Transfers.Flight_mono countersEmb c ?_) $$ Hf
  refine BIClass.sep_mono (le_of_eq (pointsTo_congr fun i hi => ?_)) (Entails.of_eq rfl)
  rw [show (ReadAs.same).apply (src.view.read (Elt F) fs) = dst.view.read (Elt F) g from hg.symm, View.write_read_eq_piecewise]
  unfold Finset.piecewise; split
  · rfl
  · exact absurd ((View.setOn_univ dst.view).symm ▸ hi) (by assumption)

/-- The core owes nothing, and has recorded only what it had recorded at `W₀` and waits of its own copies. -/
def Owed (W₀ : Waits sig (HIx 1)) : sProp 𝕄 := iprop(∃ W, ⌜∀ p ∈ W, p ∈ W₀ ∨ p.2 = none⌝ ∗ owes c 0 W)

/-- A copy awaited by a core that owes nothing: what it delivers, the semaphore at zero, and the wait recorded. -/
theorem await {α : Type} {sp sp' : Space} {s s' : Shape} {e e' : EltTy}
    {src : Memref sig c.2.kind sp s e} {dst : Memref sig c.2.kind sp' s' e'} {sm : DmaSem sig}
    {hsrc : src.view.WordExact} {hdst : dst.view.WordExact}
    {k : PUnit → Prog (TpuEff nD τ sig (Elt F) Λ c.2) α} {Q : α → sProp 𝕄} (N : ℕ) (hN : dst.view.dmaCredit = N) {X : sProp 𝕄}
    (W₀ : Waits sig (HIx 1)) :
    iprop(Transfers.Flight countersEmb c (.dma sm) (default : HIx 1) N X ∗ Owed (F := F) c W₀)
      ⊢ iprop((iprop(X ∗ semVal (c, .dma sm) 0 ∗ Owed (F := F) c W₀) -∗ wp frame (wpE defs 𝒱 c bd) Set.univ (k ⟨⟩) Q)
          -∗ wp frame (wpE defs 𝒱 c bd) Set.univ (.op (.waitDma2 sm src dst hsrc hdst) k) Q) := by
  unfold Owed
  iintro ⟨Hf, %W, %hW, HO⟩ Hk
  iapply (Transfers.wp_waitLocal countersEmb 𝒱 c bd (default : HIx 1) hN) $$ [Hf HO]
  · isplitl [Hf]; · iexact Hf
    iexact HO
  iintro ⟨HX, Hs, HO⟩
  iapply Hk
  isplitl [HX]; · iexact HX
  isplitl [Hs]; · iexact Hs
  iexists _
  isplitr; swap; · iexact HO
  ipureintro
  intro p hp
  rcases Finset.mem_insert.1 hp with rfl | hp
  · exact .inr rfl
  · exact hW p hp

end Copy

/-! ## The pieces of the buffers -/

/-- The elements of weight slot `s`; -/
def wSlot (s : ℕ) : Finset S6x512x2048.Idx := Finset.univ.filter fun i => (i 0).val = s
/-- its row block `r`; -/
def wPiece (s r : ℕ) : Finset S6x512x2048.Idx := (wSlot s).filter fun i => (i 1).val / 128 = r
/-- the elements of bias slot `s`; -/
def bSlot (s : ℕ) : Finset S6x1x2048.Idx := Finset.univ.filter fun i => (i 0).val = s
/-- of result slot `p`; -/
def oSlot (p : ℕ) : Finset S2x512x2048.Idx := Finset.univ.filter fun i => (i 0).val = p
/-- its row block `r`; -/
def oPiece (p r : ℕ) : Finset S2x512x2048.Idx := (oSlot p).filter fun i => (i 1).val / 128 = r
/-- the columns of tile `t` of a matrix (tile 48 is the last, short one); -/
def hTile (t : ℕ) : Finset S512x100000.Idx := Finset.univ.filter fun i => (i 1).val / 2048 = t
/-- its row block `r`; -/
def hPiece (t r : ℕ) : Finset S512x100000.Idx := (hTile t).filter fun i => (i 0).val / 128 = r
/-- the columns of tile `t` of the bias row. -/
def bTile (t : ℕ) : Finset S1x100000.Idx := Finset.univ.filter fun i => (i 1).val / 2048 = t

abbrev wMem (off : Fin 3 → ℕ) (inb : ∀ a, off a + S1x128x2048.size a ≤ S6x512x2048.size a) : Memref sig .tc .vmem S128x2048 .f32 :=
  (wV.slice (Rect.unit (s := S6x512x2048) off S1x128x2048.size inb) (fun _ => rfl)).squeeze S128x2048 squeezes_S1x128x2048_S128x2048
abbrev bMem (off : Fin 3 → ℕ) (inb : ∀ a, off a + S1x1x2048.size a ≤ S6x1x2048.size a) : Memref sig .tc .vmem S1x2048 .f32 :=
  (bV.slice (Rect.unit (s := S6x1x2048) off S1x1x2048.size inb) (fun _ => rfl)).squeeze S1x2048 squeezes_S1x1x2048_S1x2048
abbrev oMem (off : Fin 3 → ℕ) (inb : ∀ a, off a + S1x128x2048.size a ≤ S2x512x2048.size a) : Memref sig .tc .vmem S128x2048 .f32 :=
  (oV.slice (Rect.unit (s := S2x512x2048) off S1x128x2048.size inb) (fun _ => rfl)).squeeze S128x2048 squeezes_S1x128x2048_S128x2048
abbrev whMem (off : Fin 2 → ℕ) (inb : ∀ a, off a + S128x2048.size a ≤ S512x100000.size a) : Memref sig .tc .hbm S128x2048 .f32 :=
  wH.slice (Rect.unit (s := S512x100000) off S128x2048.size inb) (fun _ => rfl)
abbrev bhMem (off : Fin 2 → ℕ) (inb : ∀ a, off a + S1x2048.size a ≤ S1x100000.size a) : Memref sig .tc .hbm S1x2048 .f32 :=
  bH.slice (Rect.unit (s := S1x100000) off S1x2048.size inb) (fun _ => rfl)
abbrev ohMem (off : Fin 2 → ℕ) (inb : ∀ a, off a + S128x2048.size a ≤ S512x100000.size a) : Memref sig .tc .hbm S128x2048 .f32 :=
  oH.slice (Rect.unit (s := S512x100000) off S128x2048.size inb) (fun _ => rfl)

theorem unit3 (a b c n m l : ℕ) (x : Fin 3 → ℕ) : (∀ i : Fin 3, ![a, b, c] i ≤ x i ∧ x i < ![a, b, c] i + ![n, m, l] i)
    ↔ (a ≤ x 0 ∧ x 0 < a + n) ∧ (b ≤ x 1 ∧ x 1 < b + m) ∧ (c ≤ x 2 ∧ x 2 < c + l) :=
  ⟨fun h => ⟨h 0, h 1, h 2⟩, fun ⟨h0, h1, h2⟩ i => match i with | 0 => h0 | 1 => h1 | 2 => h2⟩

theorem unit2 (a b n m : ℕ) (x : Fin 2 → ℕ) : (∀ i : Fin 2, ![a, b] i ≤ x i ∧ x i < ![a, b] i + ![n, m] i)
    ↔ (a ≤ x 0 ∧ x 0 < a + n) ∧ (b ≤ x 1 ∧ x 1 < b + m) :=
  ⟨fun h => ⟨h 0, h 1⟩, fun ⟨h0, h1⟩ i => match i with | 0 => h0 | 1 => h1⟩

/-! ### A slice's elements are its piece -/

theorem set_wMem (s r : ℕ) (inb) : (wMem ![s, 128 * r, 0] inb).view.set = wPiece s r := by
  rw [Memref.set_view_squeeze]
  ext i
  refine (ValueKit.mem_set_slice_whole_iff cc1_scratch5 _ i ((Rect.mem_set_unit ..).trans (unit3 s (128 * r) 0 1 128 2048 fun a => (i a).val))).trans ?_
  have h2 : (i 2).val < 2048 := (i 2).isLt
  simp only [wPiece, wSlot, Finset.mem_filter, Finset.mem_univ, true_and]
  omega

theorem set_bMem (s : ℕ) (inb) : (bMem ![s, 0, 0] inb).view.set = bSlot s := by
  rw [Memref.set_view_squeeze]
  ext i
  refine (ValueKit.mem_set_slice_whole_iff cc1_scratch6 _ i ((Rect.mem_set_unit ..).trans (unit3 s 0 0 1 1 2048 fun a => (i a).val))).trans ?_
  have h1 : (i 1).val < 1 := (i 1).isLt
  have h2 : (i 2).val < 2048 := (i 2).isLt
  simp only [bSlot, Finset.mem_filter, Finset.mem_univ, true_and]
  omega

theorem set_oMem (s r : ℕ) (inb) : (oMem ![s, 128 * r, 0] inb).view.set = oPiece s r := by
  rw [Memref.set_view_squeeze]
  ext i
  refine (ValueKit.mem_set_slice_whole_iff cc1_scratch7 _ i ((Rect.mem_set_unit ..).trans (unit3 s (128 * r) 0 1 128 2048 fun a => (i a).val))).trans ?_
  have h2 : (i 2).val < 2048 := (i 2).isLt
  simp only [oPiece, oSlot, Finset.mem_filter, Finset.mem_univ, true_and]
  omega

theorem set_whMem (t r : ℕ) (inb) : (whMem ![128 * r, 2048 * t] inb).view.set = hPiece t r := by
  ext i
  refine (ValueKit.mem_set_slice_whole_iff main_arg14 _ i ((Rect.mem_set_unit ..).trans (unit2 (128 * r) (2048 * t) 128 2048 fun a => (i a).val))).trans ?_
  simp only [hPiece, hTile, Finset.mem_filter, Finset.mem_univ, true_and]
  omega

theorem set_ohMem (t r : ℕ) (inb) : (ohMem ![128 * r, 2048 * t] inb).view.set = hPiece t r := by
  ext i
  refine (ValueKit.mem_set_slice_whole_iff main_v4 _ i ((Rect.mem_set_unit ..).trans (unit2 (128 * r) (2048 * t) 128 2048 fun a => (i a).val))).trans ?_
  simp only [hPiece, hTile, Finset.mem_filter, Finset.mem_univ, true_and]
  omega

theorem set_bhMem (t : ℕ) (inb) : (bhMem ![0, 2048 * t] inb).view.set = bTile t := by
  ext i
  refine (ValueKit.mem_set_slice_whole_iff main_v3 _ i ((Rect.mem_set_unit ..).trans (unit2 0 (2048 * t) 1 2048 fun a => (i a).val))).trans ?_
  have h0 : (i 0).val < 1 := (i 0).isLt
  simp only [bTile, Finset.mem_filter, Finset.mem_univ, true_and]
  omega

/-! ### What a slice reads of the canonical contents -/

/-- What a weight slot holds once tile `t` has arrived: element `(i, j)` is the matrix's `(i, 2048 t + j)`. -/
def wslot (fW : S512x100000.Idx → Elt F .f32) (t : ℕ) : S6x512x2048.Idx → Elt F .f32 := fun i => fW (ixW (i 1).val (2048 * t + (i 2).val))
/-- The same of the bias. -/
def bslot (fB : S1x100000.Idx → Elt F .f32) (t : ℕ) : S6x1x2048.Idx → Elt F .f32 := fun i => fB (ixB (2048 * t + (i 2).val))
/-- The same of a result slot. -/
def oslot (fO : S512x100000.Idx → Elt F .f32) (t : ℕ) : S2x512x2048.Idx → Elt F .f32 := fun i => fO (ixW (i 1).val (2048 * t + (i 2).val))

theorem ixW_eq {i j : ℕ} (y : S512x100000.Idx) (hi : (y 0).val = i) (hj : (y 1).val = j) : ixW i j = y := by
  subst hi; subst hj
  have h0 : (y 0).val < 512 := (y 0).isLt
  have h1 : (y 1).val < 100000 := (y 1).isLt
  funext a
  match a with
  | 0 => exact Fin.ext (Nat.mod_eq_of_lt h0)
  | 1 => exact Fin.ext (Nat.mod_eq_of_lt h1)

theorem ixB_eq {j : ℕ} (y : S1x100000.Idx) (hj : (y 1).val = j) : ixB j = y := by
  subst hj
  have h0 : (y 0).val < 1 := (y 0).isLt
  have h1 : (y 1).val < 100000 := (y 1).isLt
  funext a
  match a with
  | 0 => exact Fin.ext (show 0 = (y 0).val by omega)
  | 1 => exact Fin.ext (Nat.mod_eq_of_lt h1)

/-- The place of element `x` of a block of rows of a weight slot; -/
theorem emb_wMem (off inb) (x : S128x2048.Idx) :
    (((wMem off inb).view.emb x 1).val = off 1 + (x 0).val) ∧ (((wMem off inb).view.emb x 2).val = off 2 + (x 1).val) := by
  have hx : ∀ h, (Shape.reshapeEquiv h x : S1x128x2048.Idx) = Fin.cons ⟨0, Nat.one_pos⟩ x := fun h => Shape.reshapeEquiv_cons_one (d := ![128, 2048]) h x
  refine ⟨(ValueKit.view_emb_slice_whole_unit_val cc1_scratch5 off S1x128x2048.size inb (Shape.reshapeEquiv _ x) 1).trans ?_,
    (ValueKit.view_emb_slice_whole_unit_val cc1_scratch5 off S1x128x2048.size inb (Shape.reshapeEquiv _ x) 2).trans ?_⟩
  · exact congrArg (fun y : S1x128x2048.Idx => off 1 + (y 1).val) (hx _)
  · exact congrArg (fun y : S1x128x2048.Idx => off 2 + (y 2).val) (hx _)

/-- of a result slot; -/
theorem emb_oMem (off inb) (x : S128x2048.Idx) :
    (((oMem off inb).view.emb x 1).val = off 1 + (x 0).val) ∧ (((oMem off inb).view.emb x 2).val = off 2 + (x 1).val) := by
  have hx : ∀ h, (Shape.reshapeEquiv h x : S1x128x2048.Idx) = Fin.cons ⟨0, Nat.one_pos⟩ x := fun h => Shape.reshapeEquiv_cons_one (d := ![128, 2048]) h x
  refine ⟨(ValueKit.view_emb_slice_whole_unit_val cc1_scratch7 off S1x128x2048.size inb (Shape.reshapeEquiv _ x) 1).trans ?_,
    (ValueKit.view_emb_slice_whole_unit_val cc1_scratch7 off S1x128x2048.size inb (Shape.reshapeEquiv _ x) 2).trans ?_⟩
  · exact congrArg (fun y : S1x128x2048.Idx => off 1 + (y 1).val) (hx _)
  · exact congrArg (fun y : S1x128x2048.Idx => off 2 + (y 2).val) (hx _)

/-- of a bias slot. -/
theorem emb_bMem (off inb) (x : S1x2048.Idx) :
    (((bMem off inb).view.emb x 1).val = off 1 + (x 0).val) ∧ (((bMem off inb).view.emb x 2).val = off 2 + (x 1).val) := by
  have hx : ∀ h, (Shape.reshapeEquiv h x : S1x1x2048.Idx) = Fin.cons ⟨0, Nat.one_pos⟩ x := fun h => Shape.reshapeEquiv_cons_one (d := ![1, 2048]) h x
  refine ⟨(ValueKit.view_emb_slice_whole_unit_val cc1_scratch6 off S1x1x2048.size inb (Shape.reshapeEquiv _ x) 1).trans ?_,
    (ValueKit.view_emb_slice_whole_unit_val cc1_scratch6 off S1x1x2048.size inb (Shape.reshapeEquiv _ x) 2).trans ?_⟩
  · exact congrArg (fun y : S1x1x2048.Idx => off 1 + (y 1).val) (hx _)
  · exact congrArg (fun y : S1x1x2048.Idx => off 2 + (y 2).val) (hx _)

/-- A weight slot's block at tile `t`'s contents reads as the matrix's block does; -/
theorem read_w (fW : S512x100000.Idx → Elt F .f32) (t s r : ℕ) (inb inb') :
    (wMem ![s, 128 * r, 0] inb).view.read (Elt F) (wslot fW t) = (whMem ![128 * r, 2048 * t] inb').view.read (Elt F) fW := by
  funext x
  refine congrArg fW (ixW_eq ((whMem ![128 * r, 2048 * t] inb').view.emb x) ?_ ?_)
  · rw [(emb_wMem _ inb x).1]
    exact ValueKit.view_emb_slice_whole_unit_val main_arg14 ![128 * r, 2048 * t] S128x2048.size inb' x 0
  · rw [(emb_wMem _ inb x).2]
    exact (ValueKit.view_emb_slice_whole_unit_val main_arg14 ![128 * r, 2048 * t] S128x2048.size inb' x 1).trans
      (congrArg (2048 * t + ·) (Nat.zero_add _).symm)

/-- a bias slot's as the bias's; -/
theorem read_b (fB : S1x100000.Idx → Elt F .f32) (t s : ℕ) (inb inb') :
    (bMem ![s, 0, 0] inb).view.read (Elt F) (bslot fB t) = (bhMem ![0, 2048 * t] inb').view.read (Elt F) fB := by
  funext x
  refine congrArg fB (ixB_eq ((bhMem ![0, 2048 * t] inb').view.emb x) ?_)
  rw [(emb_bMem _ inb x).2]
  exact (ValueKit.view_emb_slice_whole_unit_val main_v3 ![0, 2048 * t] S1x2048.size inb' x 1).trans
    (congrArg (2048 * t + ·) (Nat.zero_add _).symm)

/-- a result slot's as the result's. -/
theorem read_o (fO : S512x100000.Idx → Elt F .f32) (t s r : ℕ) (inb inb') :
    (ohMem ![128 * r, 2048 * t] inb').view.read (Elt F) fO = (oMem ![s, 128 * r, 0] inb).view.read (Elt F) (oslot fO t) := by
  funext x
  refine (congrArg fO (ixW_eq ((ohMem ![128 * r, 2048 * t] inb').view.emb x) ?_ ?_)).symm
  · rw [(emb_oMem _ inb x).1]
    exact ValueKit.view_emb_slice_whole_unit_val main_v4 ![128 * r, 2048 * t] S128x2048.size inb' x 0
  · rw [(emb_oMem _ inb x).2]
    exact (ValueKit.view_emb_slice_whole_unit_val main_v4 ![128 * r, 2048 * t] S128x2048.size inb' x 1).trans
      (congrArg (2048 * t + ·) (Nat.zero_add _).symm)

/-! ## The copies of the rings -/

abbrev wLoc (d : Dev nD) : Loc nD τ sig := (SparseCore.T d).loc cc1_scratch5
abbrev bLoc (d : Dev nD) : Loc nD τ sig := (SparseCore.T d).loc cc1_scratch6
abbrev obLoc (d : Dev nD) : Loc nD τ sig := (SparseCore.T d).loc cc1_scratch7
abbrev whLoc (d : Dev nD) : Loc nD τ sig := (SparseCore.T d).loc main_arg14
abbrev bhLoc (d : Dev nD) : Loc nD τ sig := (SparseCore.T d).loc main_v3
abbrev ohLoc (d : Dev nD) : Loc nD τ sig := (SparseCore.T d).loc main_v4

/-- One copy's credit: of a block of rows of a tile; -/
abbrev NW : ℕ := (cc1_scratch5 : Ref sig .tc).dmaCredit S128x2048 .f32
/-- of a tile of the bias; -/
abbrev NB : ℕ := (cc1_scratch6 : Ref sig .tc).dmaCredit S1x2048 .f32
/-- of a block of rows of a result tile. -/
abbrev NO : ℕ := (main_v4 : Ref sig .tc).dmaCredit S128x2048 .f32

section

variable (d : Dev nD) (fW : S512x100000.Idx → Elt F .f32) (fB : S1x100000.Idx → Elt F .f32) (fOUT : S512x100000.Idx → Elt F .f32)

/-- Row block `r` of weight tile `t` in flight to slot `s`; -/
def WFl (s : Fin 6) (t : ℕ) (r : Fin 4) : sProp 𝕄 :=
  Transfers.Flight countersEmb (SparseCore.T d) (.dma (wsem s r)) (default : HIx 1) NW
    iprop((wLoc d ↦[wPiece s.val r.val]{fullShare} wslot fW t) ∗ (whLoc d ↦[hPiece t r.val]{fullShare} fW))
/-- bias tile `t` in flight to slot `s`; -/
def BFl (s : Fin 6) (t : ℕ) : sProp 𝕄 :=
  Transfers.Flight countersEmb (SparseCore.T d) (.dma (bsem s)) (default : HIx 1) NB
    iprop((bLoc d ↦[bSlot s.val]{fullShare} bslot fB t) ∗ (bhLoc d ↦[bTile t]{fullShare} fB))
/-- row block `r` of result tile `t` in flight from slot `p`. -/
def OFl (p : Fin 2) (t : ℕ) (r : Fin 4) : sProp 𝕄 :=
  Transfers.Flight countersEmb (SparseCore.T d) (.dma (osem p r)) (default : HIx 1) NO
    iprop((ohLoc d ↦[hPiece t r.val]{fullShare} fOUT) ∗ (obLoc d ↦[oPiece p.val r.val]{fullShare} oslot fOUT t))

/-- Row block `r` of weight tile `t` fetched to slot `s`: -/
theorem issue_w {α : Type} {k : PUnit → Prog (TpuEff nD τ sig (Elt F) Λ₀ .tc) α} {Q : α → sProp 𝕄} (s : Fin 6) (t : ℕ) (r : Fin 4) {offS : Fin 2 → ℕ} {inbS : ∀ a, offS a + S1x1.size a ≤ S6x4.size a} (hS : offS = ![s.val, r.val]) {offD : Fin 3 → ℕ} {inbD : ∀ a, offD a + S1x128x2048.size a ≤ S6x512x2048.size a}
    (hD : offD = ![s.val, 128 * r.val, 0]) {offH : Fin 2 → ℕ} {inbH : ∀ a, offH a + S128x2048.size a ≤ S512x100000.size a} (hH : offH = ![128 * r.val, 2048 * t])
    {hsrc : (whMem offH inbH).view.WordExact} {hdst : (wMem offD inbD).view.WordExact}
    {hsem : DmaTarget.Typed (nD := nD) .hbm (.dma ((cc1_scratch11.slice (Rect.unit (s := S6x4) offS S1x1.size inbS)).squeeze S_ squeezes_S1x1_S_).sem) (DmaTarget.here (p := (.tc : Proc τ)) (wMem offD inbD))}
    {fd : Buf (Elt F) (wLoc d)} :
    iprop((whLoc d ↦[hPiece t r.val]{fullShare} fW) ∗ (wLoc d ↦[wPiece s.val r.val]{fullShare} fd) ∗ semVal (SparseCore.T d, .dma (wsem s r)) 0)
      ⊢ iprop((WFl d fW s t r -∗ wp frame (wpE (defs₀ (F := F)) 𝒱₀ (SparseCore.T d) none) Set.univ (k ⟨⟩) Q)
          -∗ wp frame (wpE (defs₀ (F := F)) 𝒱₀ (SparseCore.T d) none) Set.univ
            (.op (.enqueueDma (whMem offH inbH) (.here (wMem offD inbD))
              (.dma ((cc1_scratch11.slice (Rect.unit (s := S6x4) offS S1x1.size inbS)).squeeze S_ squeezes_S1x1_S_).sem) hsrc hdst hsem) k) Q) := by
  subst hD; subst hH
  have e := wsem_eq offS inbS s r hS
  revert hsem; rw [e]; intro hsem
  exact issue defs₀ 𝒱₀ (SparseCore.T d) none (src := whMem ![128 * r.val, 2048 * t] inbH) (dst := wMem ![s.val, 128 * r.val, 0] inbD) (g := wslot fW t) NW rfl
    (by decide) (read_w fW t s r inbD inbH) (set_wMem s r inbD) (set_whMem t r inbH)

/-- Bias tile `t` fetched to slot `s`; -/
theorem issue_b {α : Type} {k : PUnit → Prog (TpuEff nD τ sig (Elt F) Λ₀ .tc) α} {Q : α → sProp 𝕄} (s : Fin 6) (t : ℕ) {offS : Fin 1 → ℕ} {inbS : ∀ a, offS a + S1.size a ≤ S6.size a} (hS : offS = ![s.val]) {offD : Fin 3 → ℕ} {inbD : ∀ a, offD a + S1x1x2048.size a ≤ S6x1x2048.size a}
    (hD : offD = ![s.val, 0, 0]) {offH : Fin 2 → ℕ} {inbH : ∀ a, offH a + S1x2048.size a ≤ S1x100000.size a} (hH : offH = ![0, 2048 * t])
    {hsrc : (bhMem offH inbH).view.WordExact} {hdst : (bMem offD inbD).view.WordExact}
    {hsem : DmaTarget.Typed (nD := nD) .hbm (.dma ((cc1_scratch12.slice (Rect.unit (s := S6) offS S1.size inbS)).squeeze S_ squeezes_S1_S_).sem) (DmaTarget.here (p := (.tc : Proc τ)) (bMem offD inbD))}
    {fd : Buf (Elt F) (bLoc d)} :
    iprop((bhLoc d ↦[bTile t]{fullShare} fB) ∗ (bLoc d ↦[bSlot s.val]{fullShare} fd) ∗ semVal (SparseCore.T d, .dma (bsem s)) 0)
      ⊢ iprop((BFl d fB s t -∗ wp frame (wpE (defs₀ (F := F)) 𝒱₀ (SparseCore.T d) none) Set.univ (k ⟨⟩) Q)
          -∗ wp frame (wpE (defs₀ (F := F)) 𝒱₀ (SparseCore.T d) none) Set.univ
            (.op (.enqueueDma (bhMem offH inbH) (.here (bMem offD inbD))
              (.dma ((cc1_scratch12.slice (Rect.unit (s := S6) offS S1.size inbS)).squeeze S_ squeezes_S1_S_).sem) hsrc hdst hsem) k) Q) := by
  subst hD; subst hH
  have e := bsem_eq offS inbS s hS
  revert hsem; rw [e]; intro hsem
  exact issue defs₀ 𝒱₀ (SparseCore.T d) none (src := bhMem ![0, 2048 * t] inbH) (dst := bMem ![s.val, 0, 0] inbD) (g := bslot fB t) NB rfl
    (by decide) (read_b fB t s inbD inbH) (set_bMem s inbD) (set_bhMem t inbH)

/-- row block `r` of result tile `t` written out from slot `p`, which holds it. -/
theorem issue_o {α : Type} {k : PUnit → Prog (TpuEff nD τ sig (Elt F) Λ₀ .tc) α} {Q : α → sProp 𝕄} (s : Fin 2) (t : ℕ) (r : Fin 4) {offS : Fin 2 → ℕ} {inbS : ∀ a, offS a + S1x1.size a ≤ S2x4.size a} (hS : offS = ![s.val, r.val]) {offD : Fin 3 → ℕ} {inbD : ∀ a, offD a + S1x128x2048.size a ≤ S2x512x2048.size a}
    (hD : offD = ![s.val, 128 * r.val, 0]) {offH : Fin 2 → ℕ} {inbH : ∀ a, offH a + S128x2048.size a ≤ S512x100000.size a} (hH : offH = ![128 * r.val, 2048 * t])
    {hsrc : (oMem offD inbD).view.WordExact} {hdst : (ohMem offH inbH).view.WordExact}
    {hsem : DmaTarget.Typed (nD := nD) .vmem (.dma ((cc1_scratch13.slice (Rect.unit (s := S2x4) offS S1x1.size inbS)).squeeze S_ squeezes_S1x1_S_).sem) (DmaTarget.here (p := (.tc : Proc τ)) (ohMem offH inbH))}
    {fd : Buf (Elt F) (ohLoc d)} :
    iprop((obLoc d ↦[oPiece s.val r.val]{fullShare} oslot fOUT t) ∗ (ohLoc d ↦[hPiece t r.val]{fullShare} fd) ∗ semVal (SparseCore.T d, .dma (osem s r)) 0)
      ⊢ iprop((OFl d fOUT s t r -∗ wp frame (wpE (defs₀ (F := F)) 𝒱₀ (SparseCore.T d) none) Set.univ (k ⟨⟩) Q)
          -∗ wp frame (wpE (defs₀ (F := F)) 𝒱₀ (SparseCore.T d) none) Set.univ
            (.op (.enqueueDma (oMem offD inbD) (.here (ohMem offH inbH))
              (.dma ((cc1_scratch13.slice (Rect.unit (s := S2x4) offS S1x1.size inbS)).squeeze S_ squeezes_S1x1_S_).sem) hsrc hdst hsem) k) Q) := by
  subst hD; subst hH
  have e := osem_eq offS inbS s r hS
  revert hsem; rw [e]; intro hsem
  exact issue defs₀ 𝒱₀ (SparseCore.T d) none (dst := ohMem ![128 * r.val, 2048 * t] inbH) (src := oMem ![s.val, 128 * r.val, 0] inbD) (g := fOUT) NO rfl
    (by decide) (read_o fOUT t s r inbD inbH) (set_ohMem t r inbH) (set_oMem s r inbD)

variable (W₀ : Waits sig (HIx 1))

/-- A weight copy's wait: the slot's block holds tile `t`'s, and the semaphore is free again; -/
theorem wait_w {α : Type} {k : PUnit → Prog (TpuEff nD τ sig (Elt F) Λ₀ .tc) α} {Q : α → sProp 𝕄} (s : Fin 6) (t : ℕ) (r : Fin 4) {offS : Fin 2 → ℕ} {inbS : ∀ a, offS a + S1x1.size a ≤ S6x4.size a} (hS : offS = ![s.val, r.val])
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = NW) :
    iprop(WFl d fW s t r ∗ Owed (F := F) (SparseCore.T d) W₀)
      ⊢ iprop((iprop(((wLoc d ↦[wPiece s.val r.val]{fullShare} wslot fW t) ∗ (whLoc d ↦[hPiece t r.val]{fullShare} fW))
              ∗ semVal (SparseCore.T d, .dma (wsem s r)) 0 ∗ Owed (F := F) (SparseCore.T d) W₀)
            -∗ wp frame (wpE (defs₀ (F := F)) 𝒱₀ (SparseCore.T d) none) Set.univ (k ⟨⟩) Q)
          -∗ wp frame (wpE (defs₀ (F := F)) 𝒱₀ (SparseCore.T d) none) Set.univ
            (.op (.waitDma2 ((cc1_scratch11.slice (Rect.unit (s := S6x4) offS S1x1.size inbS)).squeeze S_ squeezes_S1x1_S_).sem src dst hsrc hdst) k) Q) := by
  rw [wsem_eq offS inbS s r hS]
  exact await defs₀ 𝒱₀ (SparseCore.T d) none NW hN W₀

/-- a bias copy's; -/
theorem wait_b {α : Type} {k : PUnit → Prog (TpuEff nD τ sig (Elt F) Λ₀ .tc) α} {Q : α → sProp 𝕄} (s : Fin 6) (t : ℕ) {offS : Fin 1 → ℕ} {inbS : ∀ a, offS a + S1.size a ≤ S6.size a} (hS : offS = ![s.val])
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = NB) :
    iprop(BFl d fB s t ∗ Owed (F := F) (SparseCore.T d) W₀)
      ⊢ iprop((iprop(((bLoc d ↦[bSlot s.val]{fullShare} bslot fB t) ∗ (bhLoc d ↦[bTile t]{fullShare} fB))
              ∗ semVal (SparseCore.T d, .dma (bsem s)) 0 ∗ Owed (F := F) (SparseCore.T d) W₀)
            -∗ wp frame (wpE (defs₀ (F := F)) 𝒱₀ (SparseCore.T d) none) Set.univ (k ⟨⟩) Q)
          -∗ wp frame (wpE (defs₀ (F := F)) 𝒱₀ (SparseCore.T d) none) Set.univ
            (.op (.waitDma2 ((cc1_scratch12.slice (Rect.unit (s := S6) offS S1.size inbS)).squeeze S_ squeezes_S1_S_).sem src dst hsrc hdst) k) Q) := by
  rw [bsem_eq offS inbS s hS]
  exact await defs₀ 𝒱₀ (SparseCore.T d) none NB hN W₀

/-- a result copy's. -/
theorem wait_o {α : Type} {k : PUnit → Prog (TpuEff nD τ sig (Elt F) Λ₀ .tc) α} {Q : α → sProp 𝕄} (s : Fin 2) (t : ℕ) (r : Fin 4) {offS : Fin 2 → ℕ} {inbS : ∀ a, offS a + S1x1.size a ≤ S2x4.size a} (hS : offS = ![s.val, r.val])
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = NO) :
    iprop(OFl d fOUT s t r ∗ Owed (F := F) (SparseCore.T d) W₀)
      ⊢ iprop((iprop(((ohLoc d ↦[hPiece t r.val]{fullShare} fOUT) ∗ (obLoc d ↦[oPiece s.val r.val]{fullShare} oslot fOUT t))
              ∗ semVal (SparseCore.T d, .dma (osem s r)) 0 ∗ Owed (F := F) (SparseCore.T d) W₀)
            -∗ wp frame (wpE (defs₀ (F := F)) 𝒱₀ (SparseCore.T d) none) Set.univ (k ⟨⟩) Q)
          -∗ wp frame (wpE (defs₀ (F := F)) 𝒱₀ (SparseCore.T d) none) Set.univ
            (.op (.waitDma2 ((cc1_scratch13.slice (Rect.unit (s := S2x4) offS S1x1.size inbS)).squeeze S_ squeezes_S1x1_S_).sem src dst hsrc hdst) k) Q) := by
  rw [osem_eq offS inbS s r hS]
  exact await defs₀ 𝒱₀ (SparseCore.T d) none NO hN W₀

end

end Cert.Proof.Ring

end
-- ==== Proof.Tiles.lean ====
/-
  One trip of the second kernel's loop over the weight's tiles: the tile's copies are awaited, the result slot's earlier
  copies drained, the tile's product computed and sent out, and the tile six further on fetched into the freed slot.
-/
module

public import proofs.«01_k».proof.Proof.Ring

@[expose] public section

set_option maxRecDepth 16384

noncomputable section

namespace Cert.Proof.Tiles

open Cert.KernelIdeal Cert.KernelIdeal.Gen Cert.Proof.Base Cert.Proof.Ring

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What is loaded and stored -/

/-- Weight tile `t` as the loop loads it; -/
def wtile (fW : S512x100000.Idx → Elt F .f32) (t : ℕ) : FVec F S1x512x2048 .f32 := fun x => fW (ixW (x 1).val (2048 * t + (x 2).val))
/-- bias tile `t`; -/
def btile (fB : S1x100000.Idx → Elt F .f32) (t : ℕ) : FVec F S1x1x2048 .f32 := fun x => fB (ixB (2048 * t + (x 2).val))
/-- the last 1696 columns of the weight, -/
def wlast (fW : S512x100000.Idx → Elt F .f32) : FVec F S512x1696 .f32 := fun x => fW (ixW (x 0).val (98304 + (x 1).val))
/-- and of the bias. -/
def blast (fB : S1x100000.Idx → Elt F .f32) : FVec F S1x1696 .f32 := fun x => fB (ixB (98304 + (x 1).val))

/-- The result at row `r` and column `c`: in the columns of tile `t` the tile's product, in the last 1696 columns theirs. -/
def outAt (X : FVec F S512x512 .f32) (fW : S512x100000.Idx → Elt F .f32) (fB : S1x100000.Idx → Elt F .f32) (r c : ℕ) : Elt F .f32 :=
  if c / 2048 < 48 then
    k1_pay4 X (wtile fW (c / 2048)) (btile fB (c / 2048)) (ix3 0 ⟨r % 512, Nat.mod_lt _ (by decide)⟩ ⟨c % 2048, Nat.mod_lt _ (by decide)⟩)
  else k1_pay20 X (wlast fW) (blast fB) (ix2 ⟨r % 512, Nat.mod_lt _ (by decide)⟩ ⟨(c - 98304) % 1696, Nat.mod_lt _ (by decide)⟩)

/-- The result as a whole. -/
def fOut (X : FVec F S512x512 .f32) (fW : S512x100000.Idx → Elt F .f32) (fB : S1x100000.Idx → Elt F .f32) : S512x100000.Idx → Elt F .f32 :=
  fun i => outAt X fW fB (i 0).val (i 1).val

theorem fOut_tile (X : FVec F S512x512 .f32) (fW : S512x100000.Idx → Elt F .f32) (fB : S1x100000.Idx → Elt F .f32) {t : ℕ} (ht : t < 48)
    (y : S1x512x2048.Idx) : fOut X fW fB (ixW (y 1).val (2048 * t + (y 2).val)) = k1_pay4 X (wtile fW t) (btile fB t) y := by
  have h0 : (y 0).val < 1 := (y 0).isLt
  have h1 : (y 1).val < 512 := (y 1).isLt
  have h2 : (y 2).val < 2048 := (y 2).isLt
  have e1 : (2048 * t + (y 2).val) / 2048 = t := by omega
  show outAt X fW fB ((y 1).val % 512) ((2048 * t + (y 2).val) % 100000) = _
  rw [Nat.mod_eq_of_lt h1, Nat.mod_eq_of_lt (by omega : 2048 * t + (y 2).val < 100000)]
  unfold outAt
  rw [if_pos (by omega), e1]
  congr 1
  funext a
  match a with
  | 0 => exact Fin.ext (show 0 = (y 0).val by omega)
  | 1 => exact Fin.ext (Nat.mod_eq_of_lt h1)
  | 2 => exact Fin.ext (show (2048 * t + (y 2).val) % 2048 = (y 2).val by omega)

theorem fOut_last (X : FVec F S512x512 .f32) (fW : S512x100000.Idx → Elt F .f32) (fB : S1x100000.Idx → Elt F .f32)
    (y : S512x1696.Idx) : fOut X fW fB (ixW (y 0).val (98304 + (y 1).val)) = k1_pay20 X (wlast fW) (blast fB) y := by
  have h0 : (y 0).val < 512 := (y 0).isLt
  have h1 : (y 1).val < 1696 := (y 1).isLt
  show outAt X fW fB ((y 0).val % 512) ((98304 + (y 1).val) % 100000) = _
  rw [Nat.mod_eq_of_lt h0, Nat.mod_eq_of_lt (by omega : 98304 + (y 1).val < 100000)]
  unfold outAt
  rw [if_neg (by omega)]
  congr 1
  funext a
  match a with
  | 0 => exact Fin.ext (Nat.mod_eq_of_lt h0)
  | 1 => exact Fin.ext (show (98304 + (y 1).val - 98304) % 1696 = (y 1).val by omega)

section

variable (d : Dev nD) (X : FVec F S512x512 .f32) (fW : S512x100000.Idx → Elt F .f32) (fB : S1x100000.Idx → Elt F .f32)

/-- Where the attention features lie. -/
abbrev xbLoc (d : Dev nD) : Loc nD τ sig := (SparseCore.T d).loc cc1_scratch4

/-- The weight slot loaded: tile `t`, if that is what it holds; -/
theorem load_w {α : Type} {Q : α → sProp 𝕄} (s t : ℕ) {off : Fin 3 → ℕ} {inb : ∀ a, off a + S1x512x2048.size a ≤ S6x512x2048.size a}
    (h : off = ![s, 0, 0]) {hl} {k : FVec F S1x512x2048 .f32 → Prog (TpuEff nD τ sig (Elt F) Λ₀ .tc) α} :
    (wLoc d ↦[wSlot s]{fullShare} wslot fW t)
      ⊢ iprop(((wLoc d ↦[wSlot s]{fullShare} wslot fW t) -∗ wp frame (wpE (defs₀ (F := F)) 𝒱₀ (SparseCore.T d) none) Set.univ (k (wtile fW t)) Q)
          -∗ wp frame (wpE (defs₀ (F := F)) 𝒱₀ (SparseCore.T d) none) Set.univ
            (.op (.load wV (Rect.unit (s := S6x512x2048) off S1x512x2048.size inb).toLoadRect hl) k) Q) := by
  subst h
  have hv : (wV.access (Rect.unit (s := S6x512x2048) ![s, 0, 0] S1x512x2048.size inb)).read (Elt F) (wslot fW t) = wtile fW t := by
    funext x
    refine congrArg fW (congrArg₂ ixW ?_ (congrArg (2048 * t + ·) ?_))
    · exact (ValueKit.view_emb_slice_whole_unit_val cc1_scratch5 ![s, 0, 0] S1x512x2048.size inb x 1).trans (Nat.zero_add _)
    · exact (ValueKit.view_emb_slice_whole_unit_val cc1_scratch5 ![s, 0, 0] S1x512x2048.size inb x 2).trans (Nat.zero_add _)
  have hl' := wp_load_rect (Γ := ∅) (defs := defs₀ (F := F)) 𝒱₀ (SparseCore.T d) none Set.univ (m := wV) (r := Rect.unit (s := S6x512x2048) ![s, 0, 0] S1x512x2048.size inb)
    (Q := Q) (hl := hl) (k := k) (S := wSlot s) (q := fullShare) (f := wslot fW t) (by
      intro i hi
      have hi' := (ValueKit.mem_set_slice_whole_iff cc1_scratch5 _ i ((Rect.mem_set_unit ..).trans (unit3 s 0 0 1 512 2048 fun a => (i a).val))).1 hi
      exact Finset.mem_filter.2 ⟨Finset.mem_univ _, show (i 0).val = s by omega⟩)
  rw [hv] at hl'
  exact hl'

/-- the bias slot; -/
theorem load_b {α : Type} {Q : α → sProp 𝕄} (s t : ℕ) {off : Fin 3 → ℕ} {inb : ∀ a, off a + S1x1x2048.size a ≤ S6x1x2048.size a}
    (h : off = ![s, 0, 0]) {hl} {k : FVec F S1x1x2048 .f32 → Prog (TpuEff nD τ sig (Elt F) Λ₀ .tc) α} :
    (bLoc d ↦[bSlot s]{fullShare} bslot fB t)
      ⊢ iprop(((bLoc d ↦[bSlot s]{fullShare} bslot fB t) -∗ wp frame (wpE (defs₀ (F := F)) 𝒱₀ (SparseCore.T d) none) Set.univ (k (btile fB t)) Q)
          -∗ wp frame (wpE (defs₀ (F := F)) 𝒱₀ (SparseCore.T d) none) Set.univ
            (.op (.load bV (Rect.unit (s := S6x1x2048) off S1x1x2048.size inb).toLoadRect hl) k) Q) := by
  subst h
  have hv : (bV.access (Rect.unit (s := S6x1x2048) ![s, 0, 0] S1x1x2048.size inb)).read (Elt F) (bslot fB t) = btile fB t := by
    funext x
    refine congrArg fB (congrArg ixB (congrArg (2048 * t + ·) ?_))
    exact (ValueKit.view_emb_slice_whole_unit_val cc1_scratch6 ![s, 0, 0] S1x1x2048.size inb x 2).trans (Nat.zero_add _)
  have hl' := wp_load_rect (Γ := ∅) (defs := defs₀ (F := F)) 𝒱₀ (SparseCore.T d) none Set.univ (m := bV) (r := Rect.unit (s := S6x1x2048) ![s, 0, 0] S1x1x2048.size inb)
    (Q := Q) (hl := hl) (k := k) (S := bSlot s) (q := fullShare) (f := bslot fB t) (by
      intro i hi
      have hi' := (ValueKit.mem_set_slice_whole_iff cc1_scratch6 _ i ((Rect.mem_set_unit ..).trans (unit3 s 0 0 1 1 2048 fun a => (i a).val))).1 hi
      exact Finset.mem_filter.2 ⟨Finset.mem_univ _, show (i 0).val = s by omega⟩)
  rw [hv] at hl'
  exact hl'

/-- the attention features; -/
theorem load_x {α : Type} {Q : α → sProp 𝕄} {inb : ∀ a, (![0, 0] : Fin 2 → ℕ) a + S512x512.size a ≤ S512x512.size a}
    {hl} {k : FVec F S512x512 .f32 → Prog (TpuEff nD τ sig (Elt F) Λ₀ .tc) α} :
    (xbLoc d ↦{fullShare} X)
      ⊢ iprop(((xbLoc d ↦{fullShare} X) -∗ wp frame (wpE (defs₀ (F := F)) 𝒱₀ (SparseCore.T d) none) Set.univ (k X) Q)
          -∗ wp frame (wpE (defs₀ (F := F)) 𝒱₀ (SparseCore.T d) none) Set.univ
            (.op (.load (Memref.whole cc1_scratch4) (Rect.unit (s := S512x512) ![0, 0] S512x512.size inb).toLoadRect hl) k) Q) := by
  have hz : (![0, 0] : Fin 2 → ℕ) = fun _ => 0 := by decide
  have hl' := wp_load (Γ := ∅) (defs := defs₀ (F := F)) 𝒱₀ (SparseCore.T d) none Set.univ (m := Memref.whole cc1_scratch4)
    (Q := Q) (hl := hl) (k := k) (S := Finset.univ) (q := fullShare) (f := X) (Finset.subset_univ _)
  have hr : (Memref.whole cc1_scratch4).view.readAt (Elt F) (Rect.unit (s := S512x512) ![0, 0] S512x512.size inb).toLoadRect X = X :=
    Memref.readAt_unit_zero (Elt F) cc1_scratch4 hz inb X
  rw [hr] at hl'
  exact hl'

/-- the result slot, whatever it holds. -/
theorem load_o {α : Type} {Q : α → sProp 𝕄} (s : ℕ) {f : Buf (Elt F) (obLoc d)} {off : Fin 3 → ℕ} {inb : ∀ a, off a + S1x512x2048.size a ≤ S2x512x2048.size a}
    (h : off = ![s, 0, 0]) {hl} {k : FVec F S1x512x2048 .f32 → Prog (TpuEff nD τ sig (Elt F) Λ₀ .tc) α} :
    (obLoc d ↦[oSlot s]{fullShare} f)
      ⊢ iprop((∀ v, (obLoc d ↦[oSlot s]{fullShare} f) -∗ wp frame (wpE (defs₀ (F := F)) 𝒱₀ (SparseCore.T d) none) Set.univ (k v) Q)
          -∗ wp frame (wpE (defs₀ (F := F)) 𝒱₀ (SparseCore.T d) none) Set.univ
            (.op (.load oV (Rect.unit (s := S2x512x2048) off S1x512x2048.size inb).toLoadRect hl) k) Q) := by
  subst h
  iintro H Hk
  iapply (wp_load_rect (Γ := ∅) (defs := defs₀ (F := F)) 𝒱₀ (SparseCore.T d) none Set.univ (m := oV) (r := Rect.unit (s := S2x512x2048) ![s, 0, 0] S1x512x2048.size inb)
    (Q := Q) (hl := hl) (k := k) (S := oSlot s) (q := fullShare) (f := f) (by
      intro i hi
      have hi' := (ValueKit.mem_set_slice_whole_iff cc1_scratch7 _ i ((Rect.mem_set_unit ..).trans (unit3 s 0 0 1 512 2048 fun a => (i a).val))).1 hi
      exact Finset.mem_filter.2 ⟨Finset.mem_univ _, show (i 0).val = s by omega⟩)) $$ H
  iintro H
  iapply Hk
  iexact H

/-- Tile `t`'s product stored in the result slot: the slot holds the result's tile. -/
theorem store_o {α : Type} {Q : α → sProp 𝕄} (s t : ℕ) (ht : t < 48) {f : Buf (Elt F) (obLoc d)} {off : Fin 3 → ℕ} {inb : ∀ a, off a + S1x512x2048.size a ≤ S2x512x2048.size a}
    (h : off = ![s, 0, 0]) {hx hm} {k : PUnit → Prog (TpuEff nD τ sig (Elt F) Λ₀ .tc) α} :
    (obLoc d ↦[oSlot s]{fullShare} f)
      ⊢ iprop(((obLoc d ↦[oSlot s]{fullShare} oslot (fOut X fW fB) t) -∗ wp frame (wpE (defs₀ (F := F)) 𝒱₀ (SparseCore.T d) none) Set.univ (k ⟨⟩) Q)
          -∗ wp frame (wpE (defs₀ (F := F)) 𝒱₀ (SparseCore.T d) none) Set.univ
            (.op (.store oV (Rect.unit (s := S2x512x2048) off S1x512x2048.size inb) (k1_pay4 X (wtile fW t) (btile fB t)) Finset.univ hx hm) k) Q) := by
  subst h
  have hset : ∀ i, i ∈ (oV.access (Rect.unit (s := S2x512x2048) ![s, 0, 0] S1x512x2048.size inb)).set ↔ i ∈ oSlot s := by
    intro i
    refine (ValueKit.mem_set_slice_whole_iff cc1_scratch7 _ i ((Rect.mem_set_unit ..).trans (unit3 s 0 0 1 512 2048 fun a => (i a).val))).trans ?_
    have h1 : (i 1).val < 512 := (i 1).isLt
    have h2 : (i 2).val < 2048 := (i 2).isLt
    simp only [oSlot, Finset.mem_filter, Finset.mem_univ, true_and]
    omega
  have hw := wp_store (Γ := ∅) (defs := defs₀ (F := F)) 𝒱₀ (SparseCore.T d) none Set.univ (m := oV) (r := Rect.unit (s := S2x512x2048) ![s, 0, 0] S1x512x2048.size inb)
    (Q := Q) (w := k1_pay4 X (wtile fW t) (btile fB t)) (Mk := Finset.univ) (hx := hx) (hm := hm) (k := k) (S := oSlot s) (f := f) (fun i hi => (hset i).1 hi)
  have hc : ((oV.access (Rect.unit (s := S2x512x2048) ![s, 0, 0] S1x512x2048.size inb)).loc (SparseCore.T d) ↦[oSlot s]{fullShare}
        ((oV.access (Rect.unit (s := S2x512x2048) ![s, 0, 0] S1x512x2048.size inb)).write (Elt F) f (k1_pay4 X (wtile fW t) (btile fB t)) Finset.univ) : sProp 𝕄)
      = (obLoc d ↦[oSlot s]{fullShare} oslot (fOut X fW fB) t) := by
    refine pointsTo_congr fun i hi => ?_
    obtain ⟨y, -, rfl⟩ := Finset.mem_map.1 ((hset i).2 hi)
    rw [View.write_emb, if_pos (Finset.mem_univ _)]
    refine (fOut_tile X fW fB ht y).symm.trans ?_
    refine congrArg (fOut X fW fB) (congrArg₂ ixW ?_ (congrArg (2048 * t + ·) ?_))
    · exact ((ValueKit.view_emb_slice_whole_unit_val cc1_scratch7 ![s, 0, 0] S1x512x2048.size inb y 1).trans (Nat.zero_add _)).symm
    · exact ((ValueKit.view_emb_slice_whole_unit_val cc1_scratch7 ![s, 0, 0] S1x512x2048.size inb y 2).trans (Nat.zero_add _)).symm
  rw [hc] at hw
  exact hw

end

/-! ## Buffers cut by a key -/

/-- A buffer's elements cut by the value of a key below `n`. -/
theorem fibers (n : ℕ) {ℓ : Loc nD τ sig} {q : PosShare TreeShare} (A : Finset (Idx ℓ)) (key : Idx ℓ → ℕ) (hk : ∀ i ∈ A, key i < n) (f : Buf (Elt F) ℓ) :
    (ℓ ↦[A]{q} f : sProp 𝕄) = bigSep (Finset.univ : Finset (Fin n)) fun r => ℓ ↦[A.filter fun i => key i = r.val]{q} f := by
  rw [← pointsTo_biUnion Finset.univ (fun r : Fin n => A.filter fun i => key i = r.val) (fun r _ r' _ h => Finset.disjoint_left.2 fun i hi hi' =>
    h (Fin.ext ((Finset.mem_filter.1 hi).2.symm.trans (Finset.mem_filter.1 hi').2)))]
  congr 1
  ext i
  refine ⟨fun hi => Finset.mem_biUnion.2 ⟨⟨key i, hk i hi⟩, Finset.mem_univ _, Finset.mem_filter.2 ⟨hi, rfl⟩⟩, fun hi => ?_⟩
  obtain ⟨r, -, hr⟩ := Finset.mem_biUnion.1 hi
  exact (Finset.mem_filter.1 hr).1

theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]
  rfl

theorem split_w (d : Dev nD) (s : ℕ) (f : Buf (Elt F) (wLoc d)) : (wLoc d ↦[wSlot s]{fullShare} f : sProp 𝕄)
    = bigSep (Finset.univ : Finset (Fin 4)) fun r => wLoc d ↦[wPiece s r.val]{fullShare} f :=
  fibers 4 (ℓ := wLoc d) _ (fun i : S6x512x2048.Idx => (i 1).val / 128) (fun i _ => by have h : (i 1).val < 512 := (i 1).isLt; show (i 1).val / 128 < 4; omega) f

theorem split_o (d : Dev nD) (s : ℕ) (f : Buf (Elt F) (obLoc d)) : (obLoc d ↦[oSlot s]{fullShare} f : sProp 𝕄)
    = bigSep (Finset.univ : Finset (Fin 4)) fun r => obLoc d ↦[oPiece s r.val]{fullShare} f :=
  fibers 4 (ℓ := obLoc d) _ (fun i : S2x512x2048.Idx => (i 1).val / 128) (fun i _ => by have h : (i 1).val < 512 := (i 1).isLt; show (i 1).val / 128 < 4; omega) f

theorem split_wh (d : Dev nD) (t : ℕ) (f : Buf (Elt F) (whLoc d)) : (whLoc d ↦[hTile t]{fullShare} f : sProp 𝕄)
    = bigSep (Finset.univ : Finset (Fin 4)) fun r => whLoc d ↦[hPiece t r.val]{fullShare} f :=
  fibers 4 (ℓ := whLoc d) _ (fun i : S512x100000.Idx => (i 0).val / 128) (fun i _ => by have h : (i 0).val < 512 := (i 0).isLt; show (i 0).val / 128 < 4; omega) f

theorem split_oh (d : Dev nD) (t : ℕ) (f : Buf (Elt F) (ohLoc d)) : (ohLoc d ↦[hTile t]{fullShare} f : sProp 𝕄)
    = bigSep (Finset.univ : Finset (Fin 4)) fun r => ohLoc d ↦[hPiece t r.val]{fullShare} f :=
  fibers 4 (ℓ := ohLoc d) _ (fun i : S512x100000.Idx => (i 0).val / 128) (fun i _ => by have h : (i 0).val < 512 := (i 0).isLt; show (i 0).val / 128 < 4; omega) f

/-! ## One trip -/

/-- The weight slot of tile `t`, and its result slot. -/
def sl (t : ℕ) : Fin 6 := ⟨t % 6, Nat.mod_lt _ (by decide)⟩
def pl (t : ℕ) : Fin 2 := ⟨t % 2, Nat.mod_lt _ (by decide)⟩

theorem vec2 {a b a' b' : ℕ} (h : a = a') (h' : b = b') : ![a, b] = ![a', b'] := by rw [h, h']
theorem vec3 {a b c a' b' c' : ℕ} (h : a = a') (h' : b = b') (h'' : c = c') : ![a, b, c] = ![a', b', c'] := by rw [h, h', h'']

section

variable (d : Dev nD) (X : FVec F S512x512 .f32) (fW : S512x100000.Idx → Elt F .f32) (fB : S1x100000.Idx → Elt F .f32) (fO : S512x100000.Idx → Elt F .f32)

/-- Tile `t` of the weight and the bias, at rest in HBM; -/
def srcs (t : ℕ) : sProp 𝕄 := iprop((whLoc d ↦[hTile t]{fullShare} fW) ∗ (bhLoc d ↦[bTile t]{fullShare} fB))
/-- in flight to slot `s`; -/
def flights (s : Fin 6) (t : ℕ) : sProp 𝕄 := iprop((bigSep Finset.univ fun r : Fin 4 => WFl d fW s t r) ∗ BFl d fB s t)
/-- slot `s` idle. -/
def free (s : Fin 6) : sProp 𝕄 := iprop((∃ f, wLoc d ↦[wSlot s.val]{fullShare} f) ∗ (∃ f, bLoc d ↦[bSlot s.val]{fullShare} f)
  ∗ (bigSep Finset.univ fun r : Fin 4 => semVal (SparseCore.T d, .dma (wsem s r)) 0) ∗ semVal (SparseCore.T d, .dma (bsem s)) 0)
/-- Result slot `p` idle; -/
def ofree (p : Fin 2) : sProp 𝕄 := iprop((∃ f, obLoc d ↦[oSlot p.val]{fullShare} f)
  ∗ bigSep Finset.univ fun r : Fin 4 => semVal (SparseCore.T d, .dma (osem p r)) 0)
/-- result tile `t` in flight from slot `p`. -/
def oflights (p : Fin 2) (t : ℕ) : sProp 𝕄 := bigSep Finset.univ fun r : Fin 4 => OFl d (fOut X fW fB) p t r

theorem oflights_eq (p : Fin 2) (t : ℕ) : oflights d X fW fB p t
    = iprop(OFl d (fOut X fW fB) p t 0 ∗ OFl d (fOut X fW fB) p t 1 ∗ OFl d (fOut X fW fB) p t 2 ∗ OFl d (fOut X fW fB) p t 3) := bigSep_fin4 _

theorem srcs_eq (t : ℕ) : srcs d fW fB t = iprop((whLoc d ↦[hTile t]{fullShare} fW) ∗ (bhLoc d ↦[bTile t]{fullShare} fB)) := rfl

theorem flights_eq (s : Fin 6) (t : ℕ) : flights d fW fB s t
    = iprop((WFl d fW s t 0 ∗ WFl d fW s t 1 ∗ WFl d fW s t 2 ∗ WFl d fW s t 3) ∗ BFl d fB s t) := by
  rw [flights, bigSep_fin4]

theorem ofree_eq (p : Fin 2) : ofree (F := F) d p = iprop((∃ f, obLoc d ↦[oSlot p.val]{fullShare} f)
    ∗ semVal (SparseCore.T d, .dma (osem p 0)) 0 ∗ semVal (SparseCore.T d, .dma (osem p 1)) 0
    ∗ semVal (SparseCore.T d, .dma (osem p 2)) 0 ∗ semVal (SparseCore.T d, .dma (osem p 3)) 0) := by
  rw [ofree, bigSep_fin4]

theorem free_eq (s : Fin 6) : free (F := F) d s = iprop((∃ f, wLoc d ↦[wSlot s.val]{fullShare} f) ∗ (∃ f, bLoc d ↦[bSlot s.val]{fullShare} f)
    ∗ (semVal (SparseCore.T d, .dma (wsem s 0)) 0 ∗ semVal (SparseCore.T d, .dma (wsem s 1)) 0
      ∗ semVal (SparseCore.T d, .dma (wsem s 2)) 0 ∗ semVal (SparseCore.T d, .dma (wsem s 3)) 0) ∗ semVal (SparseCore.T d, .dma (bsem s)) 0) := by
  rw [free, bigSep_fin4]

theorem split_w4 (s : ℕ) (f : Buf (Elt F) (wLoc d)) : (wLoc d ↦[wSlot s]{fullShare} f : sProp 𝕄) = iprop((wLoc d ↦[wPiece s (0 : Fin 4).val]{fullShare} f)
    ∗ (wLoc d ↦[wPiece s (1 : Fin 4).val]{fullShare} f) ∗ (wLoc d ↦[wPiece s (2 : Fin 4).val]{fullShare} f) ∗ (wLoc d ↦[wPiece s (3 : Fin 4).val]{fullShare} f)) :=
  (split_w d s f).trans (bigSep_fin4 _)

theorem split_o4 (s : ℕ) (f : Buf (Elt F) (obLoc d)) : (obLoc d ↦[oSlot s]{fullShare} f : sProp 𝕄) = iprop((obLoc d ↦[oPiece s (0 : Fin 4).val]{fullShare} f)
    ∗ (obLoc d ↦[oPiece s (1 : Fin 4).val]{fullShare} f) ∗ (obLoc d ↦[oPiece s (2 : Fin 4).val]{fullShare} f) ∗ (obLoc d ↦[oPiece s (3 : Fin 4).val]{fullShare} f)) :=
  (split_o d s f).trans (bigSep_fin4 _)

theorem split_wh4 (t : ℕ) (f : Buf (Elt F) (whLoc d)) : (whLoc d ↦[hTile t]{fullShare} f : sProp 𝕄) = iprop((whLoc d ↦[hPiece t (0 : Fin 4).val]{fullShare} f)
    ∗ (whLoc d ↦[hPiece t (1 : Fin 4).val]{fullShare} f) ∗ (whLoc d ↦[hPiece t (2 : Fin 4).val]{fullShare} f) ∗ (whLoc d ↦[hPiece t (3 : Fin 4).val]{fullShare} f)) :=
  (split_wh d t f).trans (bigSep_fin4 _)

theorem split_oh4 (t : ℕ) (f : Buf (Elt F) (ohLoc d)) : (ohLoc d ↦[hTile t]{fullShare} f : sProp 𝕄) = iprop((ohLoc d ↦[hPiece t (0 : Fin 4).val]{fullShare} f)
    ∗ (ohLoc d ↦[hPiece t (1 : Fin 4).val]{fullShare} f) ∗ (ohLoc d ↦[hPiece t (2 : Fin 4).val]{fullShare} f) ∗ (ohLoc d ↦[hPiece t (3 : Fin 4).val]{fullShare} f)) :=
  (split_oh d t f).trans (bigSep_fin4 _)

/-- The loop's body over the kernel's own buffers. -/
abbrev tbody := k1_t4_body (F := F) (win1_0.stage 0) (hstage1_0 0) (win1_1.stage 0) (hstage1_1 0) (win1_2.stage 0) (hstage1_2 0) (win1_3.stage 0) (hstage1_3 0)
  (win1_4.stage 0) (hstage1_4 0) (win1_5.stage 0) (hstage1_5 0) (win1_6.stage 0) (hstage1_6 0) (win1_7.stage 0) (hstage1_7 0)
  (win1_8.stage 0) (hstage1_8 0) (win1_9.stage 0) (hstage1_9 0) (win1_10.stage 0) (hstage1_10 0) (win1_11.stage 0) (hstage1_11 0)
  (win1_12.stage 0) (hstage1_12 0) wH (Memref.isWhole_whole _) bH (Memref.isWhole_whole _) oH (Memref.isWhole_whole _)
  (Memref.whole cc1_scratch0) (Memref.isWhole_whole _) (Memref.whole cc1_scratch1) (Memref.isWhole_whole _) (Memref.whole cc1_scratch2) (Memref.isWhole_whole _)
  (Memref.whole cc1_scratch3) (Memref.isWhole_whole _) (Memref.whole cc1_scratch4) (Memref.isWhole_whole _) wV (Memref.isWhole_whole _) bV (Memref.isWhole_whole _)
  oV (Memref.isWhole_whole _) wT (Memref.isWhole_whole _) bT (Memref.isWhole_whole _) oT (Memref.isWhole_whole _)
  cc1_scratch11 cc1_scratch12 cc1_scratch13 cc1_scratch14 0#32

variable (W₀ : Waits sig (HIx 1))

theorem cond1_iff : ∀ k : Fin k1_t4_loop.trips, k1_cond1 k = 1#1 ↔ 2 ≤ k.val := by decide +kernel
theorem cond2_iff : ∀ k : Fin k1_t4_loop.trips, k1_cond2 k = 1#1 ↔ k.val + 6 < 48 := by decide +kernel

set_option maxHeartbeats 2000000 in
theorem trip (k : Fin k1_t4_loop.trips) :
    iprop(flights d fW fB (sl k.val) k.val ∗ (xbLoc d ↦{fullShare} X)
        ∗ (if 2 ≤ k.val then oflights d X fW fB (pl k.val) (k.val - 2) else ofree d (pl k.val))
        ∗ (ohLoc d ↦[hTile k.val]{fullShare} fO) ∗ (if k.val + 6 < 48 then srcs d fW fB (k.val + 6) else emp) ∗ Owed (F := F) (SparseCore.T d) W₀)
      ⊢ wp frame (wpE (defs₀ (F := F)) 𝒱₀ (SparseCore.T d) none) Set.univ (tbody k ()) fun _ =>
        iprop(srcs d fW fB k.val ∗ (if k.val + 6 < 48 then flights d fW fB (sl k.val) (k.val + 6) else free d (sl k.val)) ∗ (xbLoc d ↦{fullShare} X)
          ∗ oflights d X fW fB (pl k.val) k.val ∗ (if 2 ≤ k.val then ohLoc d ↦[hTile (k.val - 2)]{fullShare} fOut X fW fB else emp)
          ∗ Owed (F := F) (SparseCore.T d) W₀) := by
  unfold tbody k1_t4_body
  simp only [k1_part3_eq_skeleton, k1_part4_eq_skeleton, k1_part2_eq_skeleton]
  unfold k1_part3_skel k1_part4_skel k1_part2_skel
  simp only [bind_assoc, pure_bind, Prog.bind_lift, Prog.bind_op, Prog.bind_ret, Prog.pure_eq_ret]
  conv_lhs => rw [flights, bigSep_fin4]
  iintro ⟨Hfl, HX, Hoin, Hdst, Hnext, HO⟩
  icases Hfl with ⟨⟨Hw0, Hw1, Hw2, Hw3⟩, Hb⟩
  iapply (wait_w d fW W₀ (sl k.val) k.val 0 (k1_off8_eq k) rfl) $$ [Hw0 HO]
  · isplitl [Hw0] <;> iassumption
  iintro ⟨⟨Hw0, Hh0⟩, Hsw0, HO⟩
  iapply (wait_w d fW W₀ (sl k.val) k.val 1 (k1_off11_eq k) rfl) $$ [Hw1 HO]
  · isplitl [Hw1] <;> iassumption
  iintro ⟨⟨Hw1, Hh1⟩, Hsw1, HO⟩
  iapply (wait_w d fW W₀ (sl k.val) k.val 2 (k1_off14_eq k) rfl) $$ [Hw2 HO]
  · isplitl [Hw2] <;> iassumption
  iintro ⟨⟨Hw2, Hh2⟩, Hsw2, HO⟩
  iapply (wait_w d fW W₀ (sl k.val) k.val 3 (k1_off17_eq k) rfl) $$ [Hw3 HO]
  · isplitl [Hw3] <;> iassumption
  iintro ⟨⟨Hw3, Hh3⟩, Hsw3, HO⟩
  iapply (wait_b d fB W₀ (sl k.val) k.val (k1_off20_eq k) rfl) $$ [Hb HO]
  · isplitl [Hb] <;> iassumption
  iintro ⟨⟨Hb, Hbh⟩, Hsb, HO⟩
  ihave Hw := (Entails.of_eq (split_w4 d (sl k.val).val (wslot fW k.val)).symm) $$ [Hw0 Hw1 Hw2 Hw3]
  · isplitl [Hw0]; iexact Hw0
    isplitl [Hw1]; iexact Hw1
    isplitl [Hw2] <;> iassumption
  by_cases h1 : k1_cond1 k = 1#1
  case' pos =>
    have hk := (cond1_iff k).1 h1
    ihave Hoin := (Entails.of_eq (if_pos hk)) $$ Hoin
    ihave Hoin := (Entails.of_eq (oflights_eq d X fW fB _ _)) $$ Hoin
    icases Hoin with ⟨Ho0, Ho1, Ho2, Ho3⟩
    rw [dif_pos h1]
    iapply (wait_o d (fOut X fW fB) W₀ (pl k.val) (k.val - 2) 0 (k1_off23_eq k) rfl) $$ [Ho0 HO]
    · isplitl [Ho0] <;> iassumption
    iintro ⟨⟨Hd0, Ho0⟩, Hso0, HO⟩
    iapply (wait_o d (fOut X fW fB) W₀ (pl k.val) (k.val - 2) 1 (k1_off26_eq k) rfl) $$ [Ho1 HO]
    · isplitl [Ho1] <;> iassumption
    iintro ⟨⟨Hd1, Ho1⟩, Hso1, HO⟩
    iapply (wait_o d (fOut X fW fB) W₀ (pl k.val) (k.val - 2) 2 (k1_off29_eq k) rfl) $$ [Ho2 HO]
    · isplitl [Ho2] <;> iassumption
    iintro ⟨⟨Hd2, Ho2⟩, Hso2, HO⟩
    iapply (wait_o d (fOut X fW fB) W₀ (pl k.val) (k.val - 2) 3 (k1_off32_eq k) rfl) $$ [Ho3 HO]
    · isplitl [Ho3] <;> iassumption
    iintro ⟨⟨Hd3, Ho3⟩, Hso3, HO⟩
    ihave Hdone : (if 2 ≤ k.val then ohLoc d ↦[hTile (k.val - 2)]{fullShare} fOut X fW fB else emp : sProp 𝕄) $$ [Hd0 Hd1 Hd2 Hd3]
    · iapply (Entails.of_eq ((if_pos hk).trans (split_oh4 d (k.val - 2) (fOut X fW fB))).symm)
      isplitl [Hd0]; iexact Hd0
      isplitl [Hd1]; iexact Hd1
      isplitl [Hd2]; iexact Hd2
      iexact Hd3
    ihave Hob := (Entails.of_eq (split_o4 d (pl k.val).val (oslot (fOut X fW fB) (k.val - 2))).symm) $$ [Ho0 Ho1 Ho2 Ho3]
    · isplitl [Ho0]; iexact Ho0
      isplitl [Ho1]; iexact Ho1
      isplitl [Ho2]; iexact Ho2
      iexact Ho3
  case' neg =>
    have hk : ¬ 2 ≤ k.val := fun h => h1 ((cond1_iff k).2 h)
    ihave Hoin := (Entails.of_eq ((if_neg hk).trans (ofree_eq d _))) $$ Hoin
    icases Hoin with ⟨⟨%_, Hob⟩, Hso0, Hso1, Hso2, Hso3⟩
    rw [dif_neg h1]
    ihave Hdone : (if 2 ≤ k.val then ohLoc d ↦[hTile (k.val - 2)]{fullShare} fOut X fW fB else emp : sProp 𝕄) $$ []
    · iapply (Entails.of_eq (if_neg hk).symm)
      iempintro
  all_goals
    iapply (load_x d X) $$ HX
    iintro HX
    iapply (load_w d fW (sl k.val).val k.val (k1_off35_eq k)) $$ Hw
    iintro Hw
    iapply (load_b d fB (sl k.val).val k.val (k1_off36_eq k)) $$ Hb
    iintro Hb
    iapply (load_o d (pl k.val).val (k1_off37_eq k)) $$ Hob
    iintro %_ Hob
    iapply (store_o d X fW fB (pl k.val).val k.val k.isLt (k1_off37_eq k)) $$ Hob
    iintro Hob
    ihave Hob := (Entails.of_eq (split_o4 d (pl k.val).val (oslot (fOut X fW fB) k.val))) $$ Hob
    ihave Hdst := (Entails.of_eq (split_oh4 d k.val fO)) $$ Hdst
    icases Hob with ⟨Ho0, Ho1, Ho2, Ho3⟩
    icases Hdst with ⟨Hd0, Hd1, Hd2, Hd3⟩
    iapply (issue_o d (fOut X fW fB) (pl k.val) k.val 0 (k1_off38_eq k) (k1_off39_eq k) (k1_off10_eq k)) $$ [Ho0 Hd0 Hso0]
    · isplitl [Ho0]; iexact Ho0
      isplitl [Hd0] <;> iassumption
    iintro Ho0
    iapply (issue_o d (fOut X fW fB) (pl k.val) k.val 1 (k1_off40_eq k) (k1_off41_eq k) (k1_off13_eq k)) $$ [Ho1 Hd1 Hso1]
    · isplitl [Ho1]; iexact Ho1
      isplitl [Hd1] <;> iassumption
    iintro Ho1
    iapply (issue_o d (fOut X fW fB) (pl k.val) k.val 2 (k1_off42_eq k) (k1_off43_eq k) (k1_off16_eq k)) $$ [Ho2 Hd2 Hso2]
    · isplitl [Ho2]; iexact Ho2
      isplitl [Hd2] <;> iassumption
    iintro Ho2
    iapply (issue_o d (fOut X fW fB) (pl k.val) k.val 3 (k1_off44_eq k) (k1_off45_eq k) (k1_off19_eq k)) $$ [Ho3 Hd3 Hso3]
    · isplitl [Ho3]; iexact Ho3
      isplitl [Hd3] <;> iassumption
    iintro Ho3
    ihave Hh := (Entails.of_eq (split_wh4 d k.val fW).symm) $$ [Hh0 Hh1 Hh2 Hh3]
    · isplitl [Hh0]; iexact Hh0
      isplitl [Hh1]; iexact Hh1
      isplitl [Hh2] <;> iassumption
    ihave Ho := (Entails.of_eq (oflights_eq d X fW fB (pl k.val) k.val).symm) $$ [Ho0 Ho1 Ho2 Ho3]
    · isplitl [Ho0]; iexact Ho0
      isplitl [Ho1]; iexact Ho1
      isplitl [Ho2] <;> iassumption
    by_cases h2 : k1_cond2 k = 1#1
    · have hk2 := (cond2_iff k).1 h2
      ihave Hnext := (Entails.of_eq ((if_pos hk2).trans (srcs_eq d fW fB _))) $$ Hnext
      icases Hnext with ⟨Hs, Hbs⟩
      ihave Hs := (Entails.of_eq (split_wh4 d (k.val + 6) fW)) $$ Hs
      icases Hs with ⟨Hs0, Hs1, Hs2, Hs3⟩
      ihave Hw := (Entails.of_eq (split_w4 d (sl k.val).val (wslot fW k.val))) $$ Hw
      icases Hw with ⟨Hw0, Hw1, Hw2, Hw3⟩
      rw [dif_pos h2]
      iapply (issue_w d fW (sl k.val) (k.val + 6) 0 (k1_off46_eq k) (k1_off47_eq k) ((k1_off48_eq k).trans (vec2 rfl (by omega)))) $$ [Hs0 Hw0 Hsw0]
      · isplitl [Hs0]; iexact Hs0
        isplitl [Hw0] <;> iassumption
      iintro Hw0
      iapply (issue_w d fW (sl k.val) (k.val + 6) 1 (k1_off49_eq k) (k1_off50_eq k) ((k1_off51_eq k).trans (vec2 rfl (by omega)))) $$ [Hs1 Hw1 Hsw1]
      · isplitl [Hs1]; iexact Hs1
        isplitl [Hw1] <;> iassumption
      iintro Hw1
      iapply (issue_w d fW (sl k.val) (k.val + 6) 2 (k1_off52_eq k) (k1_off53_eq k) ((k1_off54_eq k).trans (vec2 rfl (by omega)))) $$ [Hs2 Hw2 Hsw2]
      · isplitl [Hs2]; iexact Hs2
        isplitl [Hw2] <;> iassumption
      iintro Hw2
      iapply (issue_w d fW (sl k.val) (k.val + 6) 3 (k1_off55_eq k) (k1_off56_eq k) ((k1_off57_eq k).trans (vec2 rfl (by omega)))) $$ [Hs3 Hw3 Hsw3]
      · isplitl [Hs3]; iexact Hs3
        isplitl [Hw3] <;> iassumption
      iintro Hw3
      iapply (issue_b d fB (sl k.val) (k.val + 6) (k1_off58_eq k) (k1_off59_eq k) ((k1_off60_eq k).trans (vec2 rfl (by omega)))) $$ [Hbs Hb Hsb]
      · isplitl [Hbs]; iexact Hbs
        isplitl [Hb] <;> iassumption
      iintro Hb
      iapply (Entails.of_eq (wp_ret ..).symm)
      imodintro
      isplitl [Hh Hbh]
      · iapply (Entails.of_eq (srcs_eq d fW fB k.val).symm)
        isplitl [Hh] <;> iassumption
      isplitl [Hw0 Hw1 Hw2 Hw3 Hb]
      · iapply (Entails.of_eq ((if_pos hk2).trans (flights_eq d fW fB _ _)).symm)
        isplitl [Hw0 Hw1 Hw2 Hw3]
        · isplitl [Hw0]; iexact Hw0
          isplitl [Hw1]; iexact Hw1
          isplitl [Hw2] <;> iassumption
        iexact Hb
      isplitl [HX]; iexact HX
      isplitl [Ho]; iexact Ho
      isplitl [Hdone] <;> iassumption
    · have hk2 : ¬ k.val + 6 < 48 := fun h => h2 ((cond2_iff k).2 h)
      rw [dif_neg h2]
      iclear Hnext
      iapply (Entails.of_eq (wp_ret ..).symm)
      imodintro
      isplitl [Hh Hbh]
      · iapply (Entails.of_eq (srcs_eq d fW fB k.val).symm)
        isplitl [Hh] <;> iassumption
      isplitl [Hw Hb Hsw0 Hsw1 Hsw2 Hsw3 Hsb]
      · iapply (Entails.of_eq ((if_neg hk2).trans (free_eq d _)).symm)
        isplitl [Hw]; iexists _; iexact Hw
        isplitl [Hb]; iexists _; iexact Hb
        isplitl [Hsw0 Hsw1 Hsw2 Hsw3]
        · isplitl [Hsw0]; iexact Hsw0
          isplitl [Hsw1]; iexact Hsw1
          isplitl [Hsw2] <;> iassumption
        iexact Hsb
      isplitl [HX]; iexact HX
      isplitl [Ho]; iexact Ho
      isplitl [Hdone] <;> iassumption

end

end Cert.Proof.Tiles

end
-- ==== Proof.Gru.lean ====
/-
  The two-layer encoder and the two attention recurrences of the second kernel: what its scratch buffers hold, as functions
  of what its inputs hold, and the run of the two parts that compute them.
-/
module

public import proofs.«01_k».proof.Proof.Tiles

@[expose] public section

set_option maxRecDepth 16384

noncomputable section

namespace Cert.Proof.Gru

open Cert.KernelIdeal Cert.KernelIdeal.Gen Cert.Proof.Base Cert.Proof.Ring

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values -/

/-- Batch rows `8t..8t+7` of the input gates; -/
def rowsOf (g : FVec F S512x768 .f32) (t : ℕ) : FVec F S8x768 .f32 := fun x => g (ix2 ⟨(8 * t + (x 0).val) % 512, Nat.mod_lt _ (by decide)⟩ (x 1))

/-- the recurrence's state before step `t`, from the zero state; -/
def hs (R : FVec F S256x768 .f32) (b : FVec F S1x768 .f32) (g : FVec F S512x768 .f32) : ℕ → FVec F S8x256 .f32
  | 0 => k1_pay6
  | t + 1 => k1_pay7 R b (hs R b g t) (rowsOf g t)

/-- every step's state, step after step. -/
def seq (R : FVec F S256x768 .f32) (b : FVec F S1x768 .f32) (g : FVec F S512x768 .f32) : FVec F S512x256 .f32 :=
  fun i => hs R b g ((i 0).val / 8 + 1) (ix2 ⟨(i 0).val % 8, Nat.mod_lt _ (by decide)⟩ (i 1))

/-- Two sequences side by side. -/
def cat (f g : FVec F S512x256 .f32) : FVec F S512x512 .f32 :=
  fun i => if (i 1).val < 256 then f (ix2 (i 0) ⟨(i 1).val % 256, Nat.mod_lt _ (by decide)⟩) else g (ix2 (i 0) ⟨(i 1).val % 256, Nat.mod_lt _ (by decide)⟩)

/-- The input bias and the recurrent bias of a layer. -/
def brow (b : FVec F S2x768 .f32) (r : Fin 2) : FVec F S1x768 .f32 := fun x => b (ix2 r (x 1))

/-- Where the second layer's input gates come from: the first layer's states; -/
def gates (x : FVec F S512x256 .f32) (W : FVec F S256x768 .f32) (b : FVec F S2x768 .f32) : FVec F S512x768 .f32 := k1_pay9 x W (brow b 0)

/-- a layer over the states below; -/
def layer (x : FVec F S512x256 .f32) (W R : FVec F S256x768 .f32) (b : FVec F S2x768 .f32) : FVec F S512x256 .f32 := seq R (brow b 1) (gates x W b)

/-- the first layer, over the embeddings; -/
def layer1 (e : FVec F S512x128 .f32) (W : FVec F S128x768 .f32) (R : FVec F S256x768 .f32) (b : FVec F S2x768 .f32) : FVec F S512x256 .f32 :=
  seq R (brow b 1) (k1_pay5 e W (brow b 0))

/-- and the features the output layer reads: the third and the fourth layer side by side over the second, batch first. -/
def feat (x2 : FVec F S512x256 .f32) (W3 R3 : FVec F S256x768 .f32) (b3 : FVec F S2x768 .f32) (W4 R4 : FVec F S256x768 .f32) (b4 : FVec F S2x768 .f32) :
    FVec F S512x512 .f32 := k1_pay19 (cat (layer x2 W3 R3 b3) (layer x2 W4 R4 b4))

/-! ## Loads and stores of a buffer whose contents are named -/

section Hold

variable (d : Dev nD) {s : Shape} {e : EltTy} (m : Memref sig .tc .vmem s e)

/-- The memref, whole, with the contents `g`. -/
def hold (g : s.Idx → Elt F e) : sProp 𝕄 :=
  iprop(∃ f : Buf (Elt F) (m.view.loc (SparseCore.T d)), ⌜m.view.read (Elt F) f = g⌝ ∗ (m.view.loc (SparseCore.T d) ↦[m.view.set]{fullShare} f))

/-- A memref that is its whole buffer: its contents are the buffer's, -/
theorem hold_out (hS : m.view.set = Finset.univ) (g : s.Idx → Elt F e) (f : Buf (Elt F) (m.view.loc (SparseCore.T d)))
    (h : ∀ f', m.view.read (Elt F) f' = g → f' = f) :
    hold d m g ⊢ (m.view.loc (SparseCore.T d) ↦[Finset.univ]{fullShare} f : sProp 𝕄) := by
  unfold hold
  rw [hS]
  iintro ⟨%f', %hf', H⟩
  obtain rfl := h f' hf'
  iexact H

/-- and the buffer's its. -/
theorem hold_in (hS : m.view.set = Finset.univ) (g : s.Idx → Elt F e) (f : Buf (Elt F) (m.view.loc (SparseCore.T d))) (hf : m.view.read (Elt F) f = g) :
    (m.view.loc (SparseCore.T d) ↦[Finset.univ]{fullShare} f : sProp 𝕄) ⊢ hold d m g := by
  unfold hold
  rw [hS]
  iintro H
  iexists f
  isplitr
  · ipureintro; exact hf
  · iexact H

/-- A rectangle's elements loaded; -/
theorem ld {α : Type} {Q : α → sProp 𝕄} (g : s.Idx → Elt F e) {r : Rect s} (v : r.shape.Idx → Elt F e) (hv : ∀ x, g (r.emb x) = v x) {hl}
    {k : (r.shape.Idx → Elt F e) → Prog (TpuEff nD τ sig (Elt F) Λ₀ .tc) α} :
    hold d m g ⊢ iprop((hold d m g -∗ wp frame (wpE (defs₀ (F := F)) 𝒱₀ (SparseCore.T d) none) Set.univ (k v) Q)
      -∗ wp frame (wpE (defs₀ (F := F)) 𝒱₀ (SparseCore.T d) none) Set.univ (.op (.load m r.toLoadRect hl) k) Q) := by
  unfold hold
  iintro ⟨%f, %hf, H⟩ Hk
  have hs : m.view.setOn r.toLoadRect.set ⊆ m.view.set := Finset.map_subset_map.2 (Finset.subset_univ _)
  have hl' := wp_load (Γ := ∅) (defs := defs₀ (F := F)) 𝒱₀ (SparseCore.T d) none Set.univ (m := m) (Q := Q) (hl := hl) (k := k) (S := m.view.set)
    (q := fullShare) (f := f) hs
  have hr : m.view.readAt (Elt F) r.toLoadRect f = v := funext fun x => (congrFun hf (r.emb x)).trans (hv x)
  rw [hr] at hl'
  iapply hl' $$ H
  iintro H
  iapply Hk
  iexists f
  isplitr
  · ipureintro; exact hf
  · iexact H

/-- a rectangle's elements stored. -/
theorem st {α : Type} {Q : α → sProp 𝕄} (g g' : s.Idx → Elt F e) {r : Rect s} {w : r.shape.Idx → Elt F e} (h1 : ∀ x, g' (r.emb x) = w x)
    (h2 : ∀ y, (∀ x, r.emb x ≠ y) → g' y = g y) {hx hm} {k : PUnit → Prog (TpuEff nD τ sig (Elt F) Λ₀ .tc) α} :
    hold d m g ⊢ iprop((hold d m g' -∗ wp frame (wpE (defs₀ (F := F)) 𝒱₀ (SparseCore.T d) none) Set.univ (k ⟨⟩) Q)
      -∗ wp frame (wpE (defs₀ (F := F)) 𝒱₀ (SparseCore.T d) none) Set.univ (.op (.store m r w Finset.univ hx hm) k) Q) := by
  unfold hold
  iintro ⟨%f, %hf, H⟩ Hk
  have hs : (m.access r).setOn Finset.univ ⊆ m.view.set := by
    intro i hi
    obtain ⟨x, -, rfl⟩ := Finset.mem_map.1 hi
    exact Finset.mem_map_of_mem _ (Finset.mem_univ (r.emb x))
  have hw := wp_store (Γ := ∅) (defs := defs₀ (F := F)) 𝒱₀ (SparseCore.T d) none Set.univ (m := m) (r := r) (w := w) (Mk := Finset.univ) (Q := Q) (hx := hx) (hm := hm)
    (k := k) (S := m.view.set) (f := f) hs
  iapply hw $$ H
  iintro H
  iapply Hk
  iexists (m.access r).write (Elt F) f w Finset.univ
  isplitr
  · ipureintro
    funext y
    by_cases hy : ∃ x, r.emb x = y
    · obtain ⟨x, rfl⟩ := hy
      exact (View.read_slice_write_emb (v := m.view) r f w (Finset.mem_univ x)).trans (h1 x).symm
    · refine (View.read_slice_write_of_not_mem (v := m.view) r f w Finset.univ fun hm => hy ?_).trans ((congrFun hf y).trans (h2 y fun x hx => hy ⟨x, hx⟩).symm)
      obtain ⟨x, -, hx⟩ := Finset.mem_map.1 hm
      exact ⟨x, hx⟩
  · iexact H

theorem emb_all {off : Fin s.rank → ℕ} {inb : ∀ a, off a + s.size a ≤ s.size a} (x : s.Idx) : (Rect.unit (s := s) off s.size inb).emb x = x := by
  funext a
  refine Fin.ext ?_
  rw [Rect.emb_apply]
  have := inb a
  show off a + 1 * (x a).val = (x a).val
  omega

/-- The whole buffer loaded; -/
theorem ldA {α : Type} {Q : α → sProp 𝕄} (g : s.Idx → Elt F e) {off : Fin s.rank → ℕ} {inb : ∀ a, off a + s.size a ≤ s.size a} {hl}
    {k : (s.Idx → Elt F e) → Prog (TpuEff nD τ sig (Elt F) Λ₀ .tc) α} :
    hold d m g ⊢ iprop((hold d m g -∗ wp frame (wpE (defs₀ (F := F)) 𝒱₀ (SparseCore.T d) none) Set.univ (k g) Q)
      -∗ wp frame (wpE (defs₀ (F := F)) 𝒱₀ (SparseCore.T d) none) Set.univ (.op (.load m (Rect.unit (s := s) off s.size inb).toLoadRect hl) k) Q) :=
  ld d m g (r := Rect.unit (s := s) off s.size inb) g (fun x => congrArg g (emb_all x))

/-- the whole buffer stored. -/
theorem stA {α : Type} {Q : α → sProp 𝕄} (g : s.Idx → Elt F e) {off : Fin s.rank → ℕ} {inb : ∀ a, off a + s.size a ≤ s.size a} {w : s.Idx → Elt F e}
    {hx hm} {k : PUnit → Prog (TpuEff nD τ sig (Elt F) Λ₀ .tc) α} :
    hold d m g ⊢ iprop((hold d m w -∗ wp frame (wpE (defs₀ (F := F)) 𝒱₀ (SparseCore.T d) none) Set.univ (k ⟨⟩) Q)
      -∗ wp frame (wpE (defs₀ (F := F)) 𝒱₀ (SparseCore.T d) none) Set.univ (.op (.store m (Rect.unit (s := s) off s.size inb) w Finset.univ hx hm) k) Q) :=
  st d m g w (r := Rect.unit (s := s) off s.size inb) (fun x => congrArg w (emb_all x)) fun y hy => absurd (emb_all y) (hy y)

end Hold

/-- A rectangle's element, from its coordinates. -/
theorem emb2 {n m p q : ℕ} {off : Fin 2 → ℕ} {inb} (x : (⟨2, ![p, q]⟩ : Shape).Idx) (i : Fin n) (j : Fin m)
    (hi : i.val = off 0 + (x 0).val) (hj : j.val = off 1 + (x 1).val) :
    (Rect.unit (s := ⟨2, ![n, m]⟩) off ![p, q] inb).emb x = ix2 i j := by
  funext a
  refine Fin.ext ?_
  rw [Rect.emb_apply]
  match a with
  | 0 => exact (congrArg (off 0 + ·) (Nat.one_mul _)).trans hi.symm
  | 1 => exact (congrArg (off 1 + ·) (Nat.one_mul _)).trans hj.symm

theorem emb_ne {n m p q : ℕ} {off : Fin 2 → ℕ} {inb} {y : (⟨2, ![n, m]⟩ : Shape).Idx} (h : ∀ x, (Rect.unit (s := ⟨2, ![n, m]⟩) off ![p, q] inb).emb x ≠ y)
    (h0 : off 0 ≤ (y 0).val) (h0' : (y 0).val < off 0 + p) (h1 : off 1 ≤ (y 1).val) (h1' : (y 1).val < off 1 + q) : False := by
  refine h (ix2 ⟨(y 0).val - off 0, by omega⟩ ⟨(y 1).val - off 1, by omega⟩) ?_
  exact (emb2 (ix2 ⟨(y 0).val - off 0, _⟩ ⟨(y 1).val - off 1, _⟩) (y 0) (y 1) (show _ = off 0 + ((y 0).val - off 0) by omega)
    (show _ = off 1 + ((y 1).val - off 1) by omega)).trans (ix2_eta y)

/-! ## One recurrence -/

section Rec

variable (d : Dev nD) (mg : Memref sig .tc .vmem S512x768 .f32) (mx : Memref sig .tc .vmem S512x256 .f32)
  (R : FVec F S256x768 .f32) (b : FVec F S1x768 .f32) (g : FVec F S512x768 .f32)

/-- The input gates of step `k`, loaded. -/
theorem ld_rows {α : Type} {Q : α → sProp 𝕄} (k : ℕ) (hk : k < 64) {off : Fin 2 → ℕ} (ho : off = ![8 * k, 0]) {inb : ∀ a, off a + S8x768.size a ≤ S512x768.size a} {hl}
    {kk : FVec F S8x768 .f32 → Prog (TpuEff nD τ sig (Elt F) Λ₀ .tc) α} :
    hold d mg g ⊢ iprop((hold d mg g -∗ wp frame (wpE (defs₀ (F := F)) 𝒱₀ (SparseCore.T d) none) Set.univ (kk (rowsOf g k)) Q)
      -∗ wp frame (wpE (defs₀ (F := F)) 𝒱₀ (SparseCore.T d) none) Set.univ
        (.op (.load mg (Rect.unit (s := S512x768) off S8x768.size inb).toLoadRect hl) kk) Q) := by
  subst ho
  refine ld d mg g (r := Rect.unit (s := S512x768) ![8 * k, 0] S8x768.size inb) (rowsOf g k) fun x => ?_
  have h0 : (x 0).val < 8 := (x 0).isLt
  exact congrArg g (emb2 (off := ![8 * k, 0]) (p := 8) (q := 768) (inb := inb) x ⟨(8 * k + (x 0).val) % 512, _⟩ (x 1)
    (show (8 * k + (x 0).val) % 512 = 8 * k + (x 0).val by omega) (Nat.zero_add _).symm)

/-- Before step `k`: the carried state, and the states of the steps before it stored. -/
def LI (k : ℕ) (acc : FVec F S8x256 .f32) : sProp 𝕄 :=
  iprop(⌜acc = hs R b g k⌝ ∗ hold d mg g ∗ ∃ f, hold d mx f ∗ ⌜∀ i, (i 0).val < 8 * k → f i = seq R b g i⌝)

omit d mg mx in
/-- The state stored at step `k`. -/
theorem seq_at (k : ℕ) (x : S8x256.Idx) (h) : seq R b g (ix2 ⟨8 * k + (x 0).val, h⟩ (x 1)) = hs R b g (k + 1) x := by
  have h0 : (x 0).val < 8 := (x 0).isLt
  show hs R b g ((8 * k + (x 0).val) / 8 + 1) (ix2 ⟨(8 * k + (x 0).val) % 8, _⟩ (x 1)) = _
  have h1 : (8 * k + (x 0).val) / 8 = k := by omega
  have h2 : (8 * k + (x 0).val) % 8 = (x 0).val := by omega
  simp only [h1, h2]
  exact congrArg (hs R b g (k + 1)) (ix2_eta x)

/-- One step. -/
theorem step (k : ℕ) (hk : k < 64) (acc : FVec F S8x256 .f32) {off off' : Fin 2 → ℕ} (ho : off = ![8 * k, 0]) (ho' : off' = ![8 * k, 0])
    {inb : ∀ a, off a + S8x768.size a ≤ S512x768.size a} {inb' : ∀ a, off' a + S8x256.size a ≤ S512x256.size a} {hl hl' hx hm} :
    LI d mg mx R b g k acc ⊢ wp frame (wpE (defs₀ (F := F)) 𝒱₀ (SparseCore.T d) none) Set.univ
      (.op (.load mg (Rect.unit (s := S512x768) off S8x768.size inb).toLoadRect hl) fun v =>
        .op (.load mx (Rect.unit (s := S512x256) off' S8x256.size inb').toLoadRect hl') fun _ =>
          .op (.store mx (Rect.unit (s := S512x256) off' S8x256.size inb') (k1_pay8 R b acc v) Finset.univ hx hm) fun _ =>
            (.ret (k1_pay7 R b acc v) : Prog (TpuEff nD τ sig (Elt F) Λ₀ .tc) (FVec F S8x256 .f32)))
      (LI d mg mx R b g (k + 1)) := by
  unfold LI
  iintro ⟨%ha, Hg, %f, Hx, %hf⟩
  iapply (ld_rows d mg g k hk ho) $$ Hg
  iintro Hg
  iapply (ld d mx f (fun x => f ((Rect.unit (s := S512x256) off' S8x256.size inb').emb x)) (fun _ => rfl)) $$ Hx
  iintro Hx
  subst ho'
  iapply (st d mx f (fun i => if (i 0).val < 8 * (k + 1) ∧ 8 * k ≤ (i 0).val then seq R b g i else f i)
    (r := Rect.unit (s := S512x256) ![8 * k, 0] S8x256.size inb') (w := k1_pay8 R b acc (rowsOf g k)) ?_ ?_) $$ Hx
  · intro (x : S8x256.Idx)
    have h0 : (x 0).val < 8 := (x 0).isLt
    refine (congrArg (fun i : S512x256.Idx => if (i 0).val < 8 * (k + 1) ∧ 8 * k ≤ (i 0).val then seq R b g i else f i)
      (emb2 (off := ![8 * k, 0]) (p := 8) (q := 256) (inb := inb') x ⟨8 * k + (x 0).val, by omega⟩ (x 1) rfl (Nat.zero_add _).symm)).trans ?_
    refine (if_pos (show 8 * k + (x 0).val < 8 * (k + 1) ∧ 8 * k ≤ 8 * k + (x 0).val by omega)).trans ?_
    rw [seq_at R b g k, ha]
    exact (congrFun (shapeCast_self _ _) x).symm
  · intro y hy
    refine if_neg fun h => emb_ne (off := ![8 * k, 0]) (p := 8) (q := 256) hy h.2 (show _ < 8 * k + 8 by omega) (Nat.zero_le _) ?_
    exact (y 1).isLt.trans_eq (Nat.zero_add _).symm
  iintro Hx
  iapply (Entails.of_eq (wp_ret ..).symm)
  imodintro
  isplitr
  · ipureintro
    rw [ha]; rfl
  isplitl [Hg]
  · iexact Hg
  iexists _
  isplitl [Hx]
  · iexact Hx
  · ipureintro
    intro i hi
    by_cases h : 8 * k ≤ (i 0).val
    · exact if_pos ⟨hi, h⟩
    · exact (if_neg fun h' => h h'.2).trans (hf i (by omega))

end Rec

/-! ## The two attention recurrences, in step -/

/-- The buffers the recurrences go through. -/
abbrev mG : Memref sig .tc .vmem S512x768 .f32 := Memref.whole cc1_scratch0
abbrev mG' : Memref sig .tc .vmem S512x768 .f32 := Memref.whole cc1_scratch1
abbrev mX : Memref sig .tc .vmem S512x256 .f32 := Memref.whole cc1_scratch2
abbrev mC : Memref sig .tc .vmem S512x512 .f32 := Memref.whole cc1_scratch3
abbrev mB : Memref sig .tc .vmem S512x512 .f32 := Memref.whole cc1_scratch4

section Rec2

variable (d : Dev nD) (R R' : FVec F S256x768 .f32) (b b' : FVec F S1x768 .f32) (g g' : FVec F S512x768 .f32)

/-- Before step `k`: both carried states, and those of the steps before it stored side by side. -/
def LI2 (k : ℕ) (acc : FVec F S8x256 .f32 × FVec F S8x256 .f32) : sProp 𝕄 :=
  iprop(⌜acc = (hs R b g k, hs R' b' g' k)⌝ ∗ hold d mG g ∗ hold d mG' g'
    ∗ ∃ f, hold d mC f ∗ ⌜∀ i, (i 0).val < 8 * k → f i = cat (seq R b g) (seq R' b' g') i⌝)

/-- One step. -/
theorem step2 (k : Fin k1_t3_loop.trips) (acc : FVec F S8x256 .f32 × FVec F S8x256 .f32) (v) :
    LI2 d R R' b b' g g' k.val acc ⊢ wp frame (wpE (defs₀ (F := F)) 𝒱₀ (SparseCore.T d) none) Set.univ
      (k1_t3_body (win1_0.stage 0) (hstage1_0 0) (win1_1.stage 0) (hstage1_1 0) (win1_2.stage 0) (hstage1_2 0) (win1_3.stage 0) (hstage1_3 0)
  (win1_4.stage 0) (hstage1_4 0) (win1_5.stage 0) (hstage1_5 0) (win1_6.stage 0) (hstage1_6 0) (win1_7.stage 0) (hstage1_7 0)
  (win1_8.stage 0) (hstage1_8 0) (win1_9.stage 0) (hstage1_9 0) (win1_10.stage 0) (hstage1_10 0) (win1_11.stage 0) (hstage1_11 0)
  (win1_12.stage 0) (hstage1_12 0) wH (Memref.isWhole_whole _) bH (Memref.isWhole_whole _) oH (Memref.isWhole_whole _)
  mG (Memref.isWhole_whole _) mG' (Memref.isWhole_whole _) mX (Memref.isWhole_whole _)
  mC (Memref.isWhole_whole _) mB (Memref.isWhole_whole _) wV (Memref.isWhole_whole _) bV (Memref.isWhole_whole _)
  oV (Memref.isWhole_whole _) wT (Memref.isWhole_whole _) bT (Memref.isWhole_whole _) oT (Memref.isWhole_whole _)
  cc1_scratch11 cc1_scratch12 cc1_scratch13 cc1_scratch14 v R R' b b' k acc)
      (LI2 d R R' b b' g g' (k.val + 1)) := by
  have hk : k.val < 64 := k.isLt
  obtain ⟨a1, a2⟩ := acc
  unfold LI2 k1_t3_body
  simp only [k1_part1_eq_skeleton]
  unfold k1_part1_skel
  simp only [bind_assoc, pure_bind, Prog.bind_lift, Prog.bind_op, Prog.bind_ret, Prog.pure_eq_ret]
  iintro ⟨%ha, Hg, Hg', %f, Hx, %hf⟩
  obtain ⟨rfl, rfl⟩ := Prod.mk.inj ha
  iapply (ld_rows d mG g k.val hk (k1_off5_eq k)) $$ Hg
  iintro Hg
  iapply (ld_rows d mG' g' k.val hk (k1_off5_eq k)) $$ Hg'
  iintro Hg'
  iapply (ld d mC f _ (fun _ => rfl)) $$ Hx
  iintro Hx
  iapply (st d mC f (fun i => if ((i 0).val < 8 * (k.val + 1) ∧ 8 * k.val ≤ (i 0).val) ∧ (i 1).val < 256 then cat (seq R b g) (seq R' b' g') i else f i)
    (w := k1_pay3 R b (hs R b g k.val) (rowsOf g k.val)) ?_ ?_) $$ Hx
  · intro (x : S8x256.Idx)
    have h0 : (x 0).val < 8 := (x 0).isLt
    have h1 : (x 1).val < 256 := (x 1).isLt
    refine (congrArg (fun i : S512x512.Idx => if ((i 0).val < 8 * (k.val + 1) ∧ 8 * k.val ≤ (i 0).val) ∧ (i 1).val < 256 then cat (seq R b g) (seq R' b' g') i else f i)
      (emb2 (p := 8) (q := 256) x ⟨8 * k.val + (x 0).val, by omega⟩ ⟨(x 1).val, by omega⟩
        (congrArg (· + (x 0).val) (congrFun (k1_off6_eq k) 0).symm) ((Nat.zero_add _).symm.trans (congrArg (· + (x 1).val) (congrFun (k1_off6_eq k) 1).symm)))).trans ?_
    refine (if_pos (show (8 * k.val + (x 0).val < 8 * (k.val + 1) ∧ 8 * k.val ≤ 8 * k.val + (x 0).val) ∧ (x 1).val < 256 by omega)).trans ?_
    refine (if_pos (show (x 1).val < 256 from h1)).trans ?_
    refine (congrArg (seq R b g) (congrArg₂ ix2 rfl (Fin.ext (Nat.mod_eq_of_lt h1)))).trans ?_
    exact (seq_at R b g k.val x (by omega)).trans (congrFun (shapeCast_self _ _) x).symm
  · intro y hy
    refine if_neg fun h => emb_ne (p := 8) (q := 256) hy ?_ ?_ ?_ ?_
    · exact (congrFun (k1_off6_eq k) 0).trans_le h.1.2
    · exact (show _ < 8 * k.val + 8 by omega : (y 0).val < 8 * k.val + 8).trans_eq (congrArg (· + 8) (congrFun (k1_off6_eq k) 0).symm)
    · exact (congrFun (k1_off6_eq k) 1).trans_le (Nat.zero_le _)
    · exact ((h.2.trans_eq (Nat.zero_add _).symm : (y 1).val < 0 + 256)).trans_eq (congrArg (· + 256) (congrFun (k1_off6_eq k) 1).symm)
  iintro Hx
  iapply (ld d mC _ _ (fun _ => rfl)) $$ Hx
  iintro Hx
  iapply (st d mC _ (fun i => if (i 0).val < 8 * (k.val + 1) ∧ 8 * k.val ≤ (i 0).val then cat (seq R b g) (seq R' b' g') i else f i)
    (w := k1_pay18 (k1_pay2 R' b' (hs R' b' g' k.val) (rowsOf g' k.val))) ?_ ?_) $$ Hx
  · intro (x : S8x256.Idx)
    have h0 : (x 0).val < 8 := (x 0).isLt
    have h1 : (x 1).val < 256 := (x 1).isLt
    refine (congrArg (fun i : S512x512.Idx => if (i 0).val < 8 * (k.val + 1) ∧ 8 * k.val ≤ (i 0).val then cat (seq R b g) (seq R' b' g') i else f i)
      (emb2 (p := 8) (q := 256) x ⟨8 * k.val + (x 0).val, by omega⟩ ⟨256 + (x 1).val, by omega⟩
        (congrArg (· + (x 0).val) (congrFun (k1_off7_eq k) 0).symm) (congrArg (· + (x 1).val) (congrFun (k1_off7_eq k) 1).symm))).trans ?_
    refine (if_pos (show 8 * k.val + (x 0).val < 8 * (k.val + 1) ∧ 8 * k.val ≤ 8 * k.val + (x 0).val by omega)).trans ?_
    refine (if_neg (show ¬ 256 + (x 1).val < 256 by omega)).trans ?_
    refine (congrArg (seq R' b' g') (congrArg₂ ix2 rfl (Fin.ext (show (256 + (x 1).val) % 256 = (x 1).val by omega)))).trans ?_
    exact (seq_at R' b' g' k.val x (by omega)).trans (congrFun (shapeCast_self _ _) x).symm
  · intro y hy
    by_cases h : (y 0).val < 8 * (k.val + 1) ∧ 8 * k.val ≤ (y 0).val
    · by_cases h' : (y 1).val < 256
      · exact (if_pos h).trans (if_pos ⟨h, h'⟩).symm
      · refine (emb_ne (p := 8) (q := 256) hy ?_ ?_ ?_ ?_).elim
        · exact (congrFun (k1_off7_eq k) 0).trans_le h.2
        · exact (show _ < 8 * k.val + 8 by omega : (y 0).val < 8 * k.val + 8).trans_eq (congrArg (· + 8) (congrFun (k1_off7_eq k) 0).symm)
        · exact (congrFun (k1_off7_eq k) 1).trans_le (Nat.le_of_not_lt h')
        · exact ((y 1).isLt : (y 1).val < 256 + 256).trans_eq (congrArg (· + 256) (congrFun (k1_off7_eq k) 1).symm)
    · exact (if_neg h).trans (if_neg fun h' => h h'.1).symm
  iintro Hx
  iapply (Entails.of_eq (wp_ret ..).symm)
  imodintro
  isplitr
  · ipureintro
    rfl
  isplitl [Hg]
  · iexact Hg
  isplitl [Hg']
  · iexact Hg'
  iexists _
  isplitl [Hx]
  · iexact Hx
  · ipureintro
    intro i hi
    by_cases h : 8 * k.val ≤ (i 0).val
    · exact if_pos ⟨hi, h⟩
    · exact (if_neg fun h' => h h'.2).trans (hf i (by omega))

end Rec2

/-! ## The run of the two parts -/

section Parts

variable (d : Dev nD) (W2 : FVec F S256x768 .f32) (R1 R2 W3 R3 W4 R4 : FVec F S256x768 .f32) (b1 b2 b3 b4 : FVec F S2x768 .f32)

/-- The weights and the biases in their windows. -/
def params : sProp 𝕄 :=
  iprop(hold d (win1_2.stage 0) R1 ∗ hold d (win1_3.stage 0) b1 ∗ hold d (win1_4.stage 0) W2 ∗ hold d (win1_5.stage 0) R2 ∗ hold d (win1_6.stage 0) b2
    ∗ hold d (win1_7.stage 0) W3 ∗ hold d (win1_8.stage 0) R3 ∗ hold d (win1_9.stage 0) b3 ∗ hold d (win1_10.stage 0) W4 ∗ hold d (win1_11.stage 0) R4
    ∗ hold d (win1_12.stage 0) b4)

theorem params_eq : params d W2 R1 R2 W3 R3 W4 R4 b1 b2 b3 b4
    = iprop(hold d (win1_2.stage 0) R1 ∗ hold d (win1_3.stage 0) b1 ∗ hold d (win1_4.stage 0) W2 ∗ hold d (win1_5.stage 0) R2 ∗ hold d (win1_6.stage 0) b2
    ∗ hold d (win1_7.stage 0) W3 ∗ hold d (win1_8.stage 0) R3 ∗ hold d (win1_9.stage 0) b3 ∗ hold d (win1_10.stage 0) W4 ∗ hold d (win1_11.stage 0) R4
    ∗ hold d (win1_12.stage 0) b4) := rfl

/-- A bias row, loaded. -/
theorem ld_row {α : Type} {Q : α → sProp 𝕄} (m : Memref sig .tc .vmem S2x768 .f32) (b : FVec F S2x768 .f32) (r : Fin 2)
    {inb : ∀ a, (![r.val, 0] : Fin 2 → ℕ) a + S1x768.size a ≤ S2x768.size a} {hl} {kk : FVec F S1x768 .f32 → Prog (TpuEff nD τ sig (Elt F) Λ₀ .tc) α} :
    hold d m b ⊢ iprop((hold d m b -∗ wp frame (wpE (defs₀ (F := F)) 𝒱₀ (SparseCore.T d) none) Set.univ (kk (brow b r)) Q)
      -∗ wp frame (wpE (defs₀ (F := F)) 𝒱₀ (SparseCore.T d) none) Set.univ
        (.op (.load m (Rect.unit (s := S2x768) ![r.val, 0] S1x768.size inb).toLoadRect hl) kk) Q) := by
  refine ld d m b (r := Rect.unit (s := S2x768) ![r.val, 0] S1x768.size inb) (brow b r) fun x => ?_
  have h0 : (x 0).val < 1 := (x 0).isLt
  exact congrArg b (emb2 (off := ![r.val, 0]) (p := 1) (q := 768) (inb := inb) x r (x 1) (show r.val = r.val + (x 0).val by omega) (Nat.zero_add _).symm)

/-- The encoder, and the first attention layer's input gates: from the first layer's input gates. -/
theorem part12 (g1 : FVec F S512x768 .f32) :
    iprop(params d W2 R1 R2 W3 R3 W4 R4 b1 b2 b3 b4 ∗ hold d mG g1 ∗ (∃ f, hold d mG' f) ∗ (∃ f, hold d mX f))
      ⊢ wp frame (wpE (defs₀ (F := F)) 𝒱₀ (SparseCore.T d) none) Set.univ (k1_part12 (win1_0.stage 0) (hstage1_0 0) (win1_1.stage 0) (hstage1_1 0) (win1_2.stage 0) (hstage1_2 0) (win1_3.stage 0) (hstage1_3 0)
  (win1_4.stage 0) (hstage1_4 0) (win1_5.stage 0) (hstage1_5 0) (win1_6.stage 0) (hstage1_6 0) (win1_7.stage 0) (hstage1_7 0)
  (win1_8.stage 0) (hstage1_8 0) (win1_9.stage 0) (hstage1_9 0) (win1_10.stage 0) (hstage1_10 0) (win1_11.stage 0) (hstage1_11 0)
  (win1_12.stage 0) (hstage1_12 0) wH (Memref.isWhole_whole _) bH (Memref.isWhole_whole _) oH (Memref.isWhole_whole _)
  mG (Memref.isWhole_whole _) mG' (Memref.isWhole_whole _) mX (Memref.isWhole_whole _)
  mC (Memref.isWhole_whole _) mB (Memref.isWhole_whole _) wV (Memref.isWhole_whole _) bV (Memref.isWhole_whole _)
  oV (Memref.isWhole_whole _) wT (Memref.isWhole_whole _) bT (Memref.isWhole_whole _) oT (Memref.isWhole_whole _)
  cc1_scratch11 cc1_scratch12 cc1_scratch13 cc1_scratch14) fun v =>
        iprop(⌜v = gates (layer (seq R1 (brow b1 1) g1) W2 R2 b2) W3 b3⌝ ∗ params d W2 R1 R2 W3 R3 W4 R4 b1 b2 b3 b4 ∗ (∃ f, hold d mG f) ∗ (∃ f, hold d mG' f)
          ∗ hold d mX (layer (seq R1 (brow b1 1) g1) W2 R2 b2)) := by
  rw [k1_part12_eq_skeleton]
  unfold k1_part12_skel params
  simp only [bind_assoc, pure_bind, Prog.bind_lift, Prog.bind_op, Prog.bind_ret, Prog.pure_eq_ret]
  iintro ⟨⟨H2, H3, H4, H5, H6, H7, H8, H9, H10, H11, H12⟩, HG, ⟨%fg, HG'⟩, ⟨%fx, HX⟩⟩
  iapply (ldA d _ R1) $$ H2
  iintro H2
  iapply (ld_row d _ b1 1) $$ H3
  iintro H3
  iapply (Scf.wp_for_bind frame (wpE (defs₀ (F := F)) 𝒱₀ (SparseCore.T d) none) Set.univ _ _ _ k1_t1_ok _ _ (LI d mG mX R1 (brow b1 1) g1) ?_) $$ [HG HX]
  · intro k acc
    unfold k1_t1_body
    simp only [bind_assoc, pure_bind, Prog.bind_lift, Prog.bind_op, Prog.bind_ret, Prog.pure_eq_ret]
    exact step d mG mX R1 (brow b1 1) g1 k.val k.isLt acc (k1_off1_eq k) (k1_off2_eq k)
  · unfold LI
    isplitr
    · ipureintro; rfl
    isplitl [HG]
    · iexact HG
    iexists fx
    isplitl [HX]
    · iexact HX
    · ipureintro
      intro i hi
      exact absurd hi (Nat.not_lt_zero _)
  iintro %acc HI
  unfold LI
  icases HI with ⟨%_, HG, %f, HX, %hf⟩
  obtain rfl : f = seq R1 (brow b1 1) g1 := funext fun i => hf i (i 0).isLt
  iapply (ldA d _ _) $$ HX
  iintro HX
  iapply (ldA d _ W2) $$ H4
  iintro H4
  iapply (ld_row d _ b2 0) $$ H6
  iintro H6
  iapply (ldA d _ _) $$ HG'
  iintro HG'
  iapply (stA d _ _) $$ HG'
  iintro HG'
  iapply (ldA d _ R2) $$ H5
  iintro H5
  iapply (ld_row d _ b2 1) $$ H6
  iintro H6
  iapply (Scf.wp_for_bind frame (wpE (defs₀ (F := F)) 𝒱₀ (SparseCore.T d) none) Set.univ _ _ _ k1_t2_ok _ _
    (LI d mG' mX R2 (brow b2 1) (gates (seq R1 (brow b1 1) g1) W2 b2)) ?_) $$ [HG' HX]
  · intro k acc
    unfold k1_t2_body
    simp only [bind_assoc, pure_bind, Prog.bind_lift, Prog.bind_op, Prog.bind_ret, Prog.pure_eq_ret]
    exact step d mG' mX R2 (brow b2 1) _ k.val k.isLt acc (k1_off3_eq k) (k1_off4_eq k)
  · unfold LI
    isplitr
    · ipureintro; rfl
    isplitl [HG']
    · iexact HG'
    iexists _
    isplitl [HX]
    · iexact HX
    · ipureintro
      intro i hi
      exact absurd hi (Nat.not_lt_zero _)
  iintro %acc' HI
  unfold LI
  icases HI with ⟨%_, HG', %f', HX, %hf'⟩
  obtain rfl : f' = layer (seq R1 (brow b1 1) g1) W2 R2 b2 := funext fun i => hf' i (i 0).isLt
  iapply (ldA d _ _) $$ HX
  iintro HX
  iapply (ldA d _ W3) $$ H7
  iintro H7
  iapply (ld_row d _ b3 0) $$ H9
  iintro H9
  iapply (Entails.of_eq (wp_ret ..).symm)
  imodintro
  isplitr
  · ipureintro
    exact (shapeCast_self _ _).symm
  isplitl [H2 H3 H4 H5 H6 H7 H8 H9 H10 H11 H12]
  · isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11] <;> iassumption
  isplitl [HG]
  · iexists _; iexact HG
  isplitl [HG']
  · iexists _; iexact HG'
  · iexact HX

/-- The attention layers and the features: from the encoder's states. -/
theorem part13 (x2 : FVec F S512x256 .f32) :
    iprop(params d W2 R1 R2 W3 R3 W4 R4 b1 b2 b3 b4 ∗ (∃ f, hold d mG f) ∗ (∃ f, hold d mG' f) ∗ hold d mX x2 ∗ (∃ f, hold d mC f) ∗ (∃ f, hold d mB f))
      ⊢ wp frame (wpE (defs₀ (F := F)) 𝒱₀ (SparseCore.T d) none) Set.univ (k1_part13 (win1_0.stage 0) (hstage1_0 0) (win1_1.stage 0) (hstage1_1 0) (win1_2.stage 0) (hstage1_2 0) (win1_3.stage 0) (hstage1_3 0)
  (win1_4.stage 0) (hstage1_4 0) (win1_5.stage 0) (hstage1_5 0) (win1_6.stage 0) (hstage1_6 0) (win1_7.stage 0) (hstage1_7 0)
  (win1_8.stage 0) (hstage1_8 0) (win1_9.stage 0) (hstage1_9 0) (win1_10.stage 0) (hstage1_10 0) (win1_11.stage 0) (hstage1_11 0)
  (win1_12.stage 0) (hstage1_12 0) wH (Memref.isWhole_whole _) bH (Memref.isWhole_whole _) oH (Memref.isWhole_whole _)
  mG (Memref.isWhole_whole _) mG' (Memref.isWhole_whole _) mX (Memref.isWhole_whole _)
  mC (Memref.isWhole_whole _) mB (Memref.isWhole_whole _) wV (Memref.isWhole_whole _) bV (Memref.isWhole_whole _)
  oV (Memref.isWhole_whole _) wT (Memref.isWhole_whole _) bT (Memref.isWhole_whole _) oT (Memref.isWhole_whole _)
  cc1_scratch11 cc1_scratch12 cc1_scratch13 cc1_scratch14 (gates x2 W3 b3)) fun v =>
        iprop(⌜v = 0#32⌝ ∗ params d W2 R1 R2 W3 R3 W4 R4 b1 b2 b3 b4 ∗ (∃ f, hold d mG f) ∗ (∃ f, hold d mG' f) ∗ (∃ f, hold d mX f) ∗ (∃ f, hold d mC f)
          ∗ hold d mB (feat x2 W3 R3 b3 W4 R4 b4)) := by
  rw [k1_part13_eq_skeleton]
  unfold k1_part13_skel params
  simp only [bind_assoc, pure_bind, Prog.bind_lift, Prog.bind_op, Prog.bind_ret, Prog.pure_eq_ret]
  iintro ⟨⟨H2, H3, H4, H5, H6, H7, H8, H9, H10, H11, H12⟩, ⟨%fg, HG⟩, ⟨%fg', HG'⟩, HX, ⟨%fc, HC⟩, ⟨%fb, HB⟩⟩
  iapply (ldA d _ _) $$ HG
  iintro HG
  iapply (stA d _ _) $$ HG
  iintro HG
  iapply (ldA d _ _) $$ HX
  iintro HX
  iapply (ldA d _ W4) $$ H10
  iintro H10
  iapply (ld_row d _ b4 0) $$ H12
  iintro H12
  iapply (ldA d _ _) $$ HG'
  iintro HG'
  iapply (stA d _ _) $$ HG'
  iintro HG'
  iapply (ldA d _ R3) $$ H8
  iintro H8
  iapply (ldA d _ R4) $$ H11
  iintro H11
  iapply (ld_row d _ b3 1) $$ H9
  iintro H9
  iapply (ld_row d _ b4 1) $$ H12
  iintro H12
  iapply (Scf.wp_for_bind frame (wpE (defs₀ (F := F)) 𝒱₀ (SparseCore.T d) none) Set.univ _ _ _ k1_t3_ok _ _
    (LI2 d R3 R4 (brow b3 1) (brow b4 1) (gates x2 W3 b3) (gates x2 W4 b4)) ?_) $$ [HG HG' HC]
  · exact fun k acc => step2 d R3 R4 (brow b3 1) (brow b4 1) (gates x2 W3 b3) (gates x2 W4 b4) k acc _
  · unfold LI2
    isplitr
    · ipureintro; rfl
    isplitl [HG]
    · ihave HG := (Entails.of_eq (congrArg (hold d mG) (show k1_pay14 (gates x2 W3 b3) = gates x2 W3 b3 from shapeCast_self _ _))) $$ HG
      iexact HG
    isplitl [HG']
    · iexact HG'
    iexists fc
    isplitl [HC]
    · iexact HC
    · ipureintro
      intro i hi
      exact absurd hi (Nat.not_lt_zero _)
  iintro %acc HI
  unfold LI2
  icases HI with ⟨%_, HG, HG', %f, HC, %hf⟩
  obtain rfl : f = cat (layer x2 W3 R3 b3) (layer x2 W4 R4 b4) := funext fun i => hf i (i 0).isLt
  iapply (ldA d _ _) $$ HC
  iintro HC
  iapply (ldA d _ _) $$ HB
  iintro HB
  iapply (stA d _ _) $$ HB
  iintro HB
  iapply (Entails.of_eq (wp_ret ..).symm)
  imodintro
  isplitr
  · ipureintro; rfl
  isplitl [H2 H3 H4 H5 H6 H7 H8 H9 H10 H11 H12]
  · isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11] <;> iassumption
  isplitl [HG]
  · iexists _; iexact HG
  isplitl [HG']
  · iexists _; iexact HG'
  isplitl [HX]
  · iexists _; iexact HX
  isplitl [HC]
  · iexists _; iexact HC
  · iexact HB

end Parts

end Cert.Proof.Gru
-- ==== Proof.Cell.lean ====
/-
  The recurrences over the extended reals, and that the fused kernel's layers are these.
-/
module

public import proofs.«01_k».proof.Proof.Gru
public import Idealize.ShloMosaic.Lib.Pointwise

@[expose] public section

set_option maxRecDepth 16384

noncomputable section

namespace Cert.Proof.Cell

open Cert.KernelIdeal Cert.KernelIdeal.Gen Cert.Proof.Gru
open Idealize.ShloMosaic

/-- Column `j` of a gate row's first part, -/
abbrev c0 (j : Fin 256) : Fin 768 := ⟨j.val, by omega⟩
/-- of its second, -/
abbrev c1 (j : Fin 256) : Fin 768 := ⟨256 + j.val, by omega⟩
/-- and of its third. -/
abbrev c2 (j : Fin 256) : Fin 768 := ⟨512 + j.val, by omega⟩

/-- One step: the gates from the input's row `gx` and the state's row `gh`, and the state they make of `h`. -/
def cell (gx gh : FVec Ideal S8x768 .f32) (h : FVec Ideal S8x256 .f32) : FVec Ideal S8x256 .f32 := fun i =>
  Ideal.logistic (gx (ix2 (i 0) (c0 (i 1))) + gh (ix2 (i 0) (c0 (i 1)))) * h i
    + (1 - Ideal.logistic (gx (ix2 (i 0) (c0 (i 1))) + gh (ix2 (i 0) (c0 (i 1)))))
      * Ideal.tanh (gx (ix2 (i 0) (c2 (i 1)))
        + Ideal.logistic (gx (ix2 (i 0) (c1 (i 1))) + gh (ix2 (i 0) (c1 (i 1)))) * gh (ix2 (i 0) (c2 (i 1))))

/-- A matrix of `n` columns times a weight, one row of the bias added to each row. -/
def lin {m n : ℕ} (x : FVec Ideal ⟨2, ![m, n]⟩ .f32) (W : FVec Ideal ⟨2, ![n, 768]⟩ .f32) (b : FVec Ideal S2x768 .f32) (r : Fin 2) :
    FVec Ideal ⟨2, ![m, 768]⟩ .f32 := fun i => (∑ k : Fin n, x (ix2 (i 0) k) * W (ix2 k (i 1))) + b (ix2 r (i 1))

theorem pay7_eq (R : FVec Ideal S256x768 .f32) (b : FVec Ideal S2x768 .f32) (h : FVec Ideal S8x256 .f32) (g : FVec Ideal S8x768 .f32) :
    k1_pay7 R (brow b 1) h g = cell g (lin h R b 1) h := by
  funext i
  pointwise [k1_pay7, cell, lin, brow]

theorem gates_eq (x : FVec Ideal S512x256 .f32) (W : FVec Ideal S256x768 .f32) (b : FVec Ideal S2x768 .f32) :
    gates x W b = lin x W b 0 := by
  funext i
  pointwise [gates, k1_pay9, lin, brow]

theorem gates1_eq (x : FVec Ideal S512x128 .f32) (W : FVec Ideal S128x768 .f32) (b : FVec Ideal S2x768 .f32) :
    k1_pay5 x W (brow b 0) = lin x W b 0 := by
  funext i
  pointwise [k1_pay5, lin, brow]

/-! ## A recurrence -/

/-- The recurrence over the inputs `x 0, x 1, …` from the zero state: its state before step `t`. -/
def run {n : ℕ} (x : ℕ → FVec Ideal ⟨2, ![8, n]⟩ .f32) (W : FVec Ideal ⟨2, ![n, 768]⟩ .f32) (b : FVec Ideal S2x768 .f32) (R : FVec Ideal S256x768 .f32) :
    ℕ → FVec Ideal S8x256 .f32
  | 0 => fun _ => 0
  | t + 1 => cell (lin (x t) W b 0) (lin (run x W b R t) R b 1) (run x W b R t)

/-- A recurrence depends on its inputs up to the step only. -/
theorem run_congr {n : ℕ} {x x' : ℕ → FVec Ideal ⟨2, ![8, n]⟩ .f32} (W : FVec Ideal ⟨2, ![n, 768]⟩ .f32) (b : FVec Ideal S2x768 .f32)
    (R : FVec Ideal S256x768 .f32) : ∀ {t : ℕ}, (∀ k < t, x k = x' k) → run x W b R t = run x' W b R t
  | 0, _ => rfl
  | t + 1, h => by
    rw [run, run, h t (Nat.lt_succ_self t), run_congr W b R (t := t) fun k hk => h k (hk.trans (Nat.lt_succ_self t))]

/-- Rows `8t..8t+7`: step `t` of a sequence of 512 rows. -/
def rows8 {n : ℕ} (e : FVec Ideal ⟨2, ![512, n]⟩ .f32) (t : ℕ) : FVec Ideal ⟨2, ![8, n]⟩ .f32 :=
  fun i => e (ix2 ⟨(8 * t + (i 0).val) % 512, Nat.mod_lt _ (by decide)⟩ (i 1))

theorem rowsOf_lin {n : ℕ} (e : FVec Ideal ⟨2, ![512, n]⟩ .f32) (W : FVec Ideal ⟨2, ![n, 768]⟩ .f32) (b : FVec Ideal S2x768 .f32) (t : ℕ) :
    rowsOf (lin e W b 0) t = lin (rows8 e t) W b 0 := rfl

theorem hs_eq {n : ℕ} (e : FVec Ideal ⟨2, ![512, n]⟩ .f32) (W : FVec Ideal ⟨2, ![n, 768]⟩ .f32) (b : FVec Ideal S2x768 .f32)
    (R : FVec Ideal S256x768 .f32) : ∀ t, hs R (brow b 1) (lin e W b 0) t = run (rows8 e) W b R t
  | 0 => by
    funext i
    pointwise [hs, k1_pay6, run]
  | t + 1 => by rw [hs, run, hs_eq e W b R t, pay7_eq, rowsOf_lin]

/-- Step `t`'s rows of a layer's states: the state after that step. -/
theorem rows8_seq (R : FVec Ideal S256x768 .f32) (b : FVec Ideal S1x768 .f32) (g : FVec Ideal S512x768 .f32) {t : ℕ} (ht : t < 64) :
    rows8 (seq R b g) t = hs R b g (t + 1) := by
  funext i
  have hb : (i 0).val < 8 := (i 0).isLt
  show hs R b g ((8 * t + (i 0).val) % 512 / 8 + 1) (ix2 ⟨(8 * t + (i 0).val) % 512 % 8, _⟩ (i 1)) = _
  have e1 : (8 * t + (i 0).val) % 512 / 8 = t := by omega
  have e2 : (⟨(8 * t + (i 0).val) % 512 % 8, Nat.mod_lt _ (by decide)⟩ : Fin 8) = i 0 := Fin.ext (by show (8 * t + (i 0).val) % 512 % 8 = (i 0).val; omega)
  rw [e1, e2]
  congr 1
  funext a
  match a with
  | 0 => rfl
  | 1 => rfl

theorem layer1_rows (e : FVec Ideal S512x128 .f32) (W : FVec Ideal S128x768 .f32) (R : FVec Ideal S256x768 .f32) (b : FVec Ideal S2x768 .f32)
    {t : ℕ} (ht : t < 64) : rows8 (layer1 e W R b) t = run (rows8 e) W b R (t + 1) := by
  rw [layer1, gates1_eq, rows8_seq _ _ _ ht, hs_eq]

theorem layer_rows (x : FVec Ideal S512x256 .f32) (W R : FVec Ideal S256x768 .f32) (b : FVec Ideal S2x768 .f32)
    {t : ℕ} (ht : t < 64) : rows8 (layer x W R b) t = run (rows8 x) W b R (t + 1) := by
  rw [layer, gates_eq, rows8_seq _ _ _ ht, hs_eq]

end Cert.Proof.Cell
-- ==== Proof.Trips.lean ====
/-
  The reference's loop over time: before trip `k` its carried states are the recurrences' before step `k`, and its two
  stacks hold in their first `k` rows the third and the fourth recurrence's states.
-/
module

public import proofs.«01_k».proof.Proof.Cell
public import proofs.«01_k».proof.Proof.Gen.ReferenceIdeal.Run
public import Idealize.ShloMosaic.Lib.Pointwise
public import Idealize.ShloMosaic.Lib.DynamicIndex
public import Idealize.ShloMosaic.Lib.Pipeline.Value

@[expose] public section

set_option maxRecDepth 16384

noncomputable section

namespace Cert.Proof.Trips

open Cert.ReferenceIdeal Cert.ReferenceIdeal.Gen Cert.ReferenceIdeal.Value Cert.Proof.Cell
open Idealize.ShloMosaic

variable (V : Valuation τ sig (Elt Ideal))

/-! ## One trip's values -/

/-- The reference's step is the recurrence's, -/
theorem cell_host (gx gh : FVec Ideal S8x768 .f32) (h : FVec Ideal S8x256 .f32) :
    addf (mulf (Host.divf (broadcastInDim S8x256 ![] bcast_S_S8x256 (constant S_ .f32 0x3F800000#32)) (addf (broadcastInDim S8x256 ![] bcast_S_S8x256 (constant S_ .f32 0x3F800000#32)) (Host.exp (Host.negf (addf (extractStridedSlice S8x256 ![0, 0] gx slices_S8x768_S8x256_0_0) (extractStridedSlice S8x256 ![0, 0] gh slices_S8x768_S8x256_0_0)))))) h)
      (mulf (subf (broadcastInDim S8x256 ![] bcast_S_S8x256 (constant S_ .f32 0x3F800000#32)) (Host.divf (broadcastInDim S8x256 ![] bcast_S_S8x256 (constant S_ .f32 0x3F800000#32)) (addf (broadcastInDim S8x256 ![] bcast_S_S8x256 (constant S_ .f32 0x3F800000#32)) (Host.exp (Host.negf (addf (extractStridedSlice S8x256 ![0, 0] gx slices_S8x768_S8x256_0_0) (extractStridedSlice S8x256 ![0, 0] gh slices_S8x768_S8x256_0_0)))))))
        (Host.tanh (addf (extractStridedSlice S8x256 ![0, 512] gx slices_S8x768_S8x256_0_512) (mulf (Host.divf (broadcastInDim S8x256 ![] bcast_S_S8x256 (constant S_ .f32 0x3F800000#32)) (addf (broadcastInDim S8x256 ![] bcast_S_S8x256 (constant S_ .f32 0x3F800000#32)) (Host.exp (Host.negf (addf (extractStridedSlice S8x256 ![0, 256] gx slices_S8x768_S8x256_0_256) (extractStridedSlice S8x256 ![0, 256] gh slices_S8x768_S8x256_0_256)))))) (extractStridedSlice S8x256 ![0, 512] gh slices_S8x768_S8x256_0_512)))))
      = cell gx gh h := by
  funext i
  pointwise [cell]
  rfl

/-- its input rows are the recurrence's, -/
theorem lin0_host (x : FVec Ideal S8x256 .f32) (W : FVec Ideal S256x768 .f32) (b : FVec Ideal S2x768 .f32) :
    addf (Host.dotGeneral dot_S8x256_S256x768_S8x768_1_0_0_1_n_n none x W) (broadcastInDim S8x768 ![0, 1] bcast_S1x768_S8x768_0_1 (broadcastInDim S1x768 ![1] bcast_S768_S1x768_1 (shapeCast S768 (extractStridedSlice S1x768 ![0, 0] b slices_S2x768_S1x768_0_0) shapeCasts_S1x768_S768)))
      = lin x W b 0 := by
  funext i
  pointwise [lin]

/-- and so are its state's rows. -/
theorem lin1_host (x : FVec Ideal S8x256 .f32) (W : FVec Ideal S256x768 .f32) (b : FVec Ideal S2x768 .f32) :
    addf (Host.dotGeneral dot_S8x256_S256x768_S8x768_1_0_0_1_n_n none x W) (broadcastInDim S8x768 ![0, 1] bcast_S1x768_S8x768_0_1 (broadcastInDim S1x768 ![1] bcast_S768_S1x768_1 (shapeCast S768 (extractStridedSlice S1x768 ![1, 0] b slices_S2x768_S1x768_1_0) shapeCasts_S1x768_S768)))
      = lin x W b 1 := by
  funext i
  pointwise [lin]

theorem word_toInt {t : ℕ} (ht : t < 64) : (BitVec.ofNat 32 t).toInt = (t : Int) := by
  have h : (BitVec.ofNat 32 t).toNat = t := by rw [BitVec.toNat_ofNat]; exact Nat.mod_eq_of_lt (by omega)
  rw [BitVec.toInt_eq_toNat_of_lt (by omega), h]

/-- Step `t`'s inputs. -/
def xt (X : FVec Ideal S64x8x128 .f32) (t : ℕ) : FVec Ideal S8x128 .f32 := fun i => X (ix3 ⟨t % 64, Nat.mod_lt _ (by decide)⟩ (i 0) (i 1))

/-- The starts of a trip's slices: the counter's number, and zeros. -/
theorem starts {t : ℕ} (ht : t < 64) (a : Fin 3) :
    ((((![(fun _ => BitVec.ofNat 32 t), constantI S_ 32 0#32, constantI S_ 32 0#32] : Fin 3 → (⟨S_, .i32⟩ : BufTy).Contents (Elt Ideal))) a (Shape.Idx.first h_S_)).toInt)
      = ((![t, 0, 0] : Fin 3 → ℕ) a : Int) := by
  match a with
  | 0 => exact word_toInt ht
  | 1 => rfl
  | 2 => rfl

/-- The first layer's input rows at trip `t`. -/
theorem lin_xt (X : FVec Ideal S64x8x128 .f32) (W : FVec Ideal S128x768 .f32) (b : FVec Ideal S2x768 .f32) {t : ℕ} (ht : t < 64) :
    addf (Host.dotGeneral dot_S8x128_S128x768_S8x768_1_0_0_1_n_n none (shapeCast S8x128 (Host.dynamicSlice S1x8x128 X (fun k => (((![(fun _ => BitVec.ofNat 32 t), constantI S_ 32 0#32, constantI S_ 32 0#32] : Fin 3 → (⟨S_, .i32⟩ : BufTy).Contents (Elt Ideal))) k (Shape.Idx.first h_S_)).toInt) sliceFits_S64x8x128_S1x8x128) shapeCasts_S1x8x128_S8x128) W) (broadcastInDim S8x768 ![0, 1] bcast_S1x768_S8x768_0_1 (broadcastInDim S1x768 ![1] bcast_S768_S1x768_1 (shapeCast S768 (extractStridedSlice S1x768 ![0, 0] b slices_S2x768_S1x768_0_0) shapeCasts_S1x768_S768)))
      = lin (xt X t) W b 0 := by
  rw [Host.dynamicSlice_eq_extractStridedSlice S1x8x128 X _ ![t, 0, 0] _ (by refine ⟨rfl, fun a => ?_⟩; fin_cases a <;> simp <;> omega) (starts ht)]
  funext i
  pointwise [lin, xt]
  rw [show (⟨t % 64, Nat.mod_lt _ (by decide)⟩ : Fin 64) = ⟨t, ht⟩ from Fin.ext (Nat.mod_eq_of_lt ht)]

/-- A trip's write of the third or the fourth recurrence's state: row `t` of the stack is the state, the others stay. -/
theorem stack_host (Y : FVec Ideal S64x8x256 .f32) (h : FVec Ideal S8x256 .f32) {t : ℕ} (ht : t < 64) (k : Fin 64) (b : Fin 8) (j : Fin 256) :
    Host.dynamicUpdateSlice Y (broadcastInDim S1x8x256 ![1, 2] bcast_S8x256_S1x8x256_1_2 h) (fun k => (((![(fun _ => BitVec.ofNat 32 t), constantI S_ 32 0#32, constantI S_ 32 0#32] : Fin 3 → (⟨S_, .i32⟩ : BufTy).Contents (Elt Ideal))) k (Shape.Idx.first h_S_)).toInt) updateFits_S64x8x256_S1x8x256
        (ix3 k b j)
      = if k.val = t then h (ix2 b j) else Y (ix3 k b j) := by
  rw [Host.dynamicUpdateSlice_eq_updateSlice Y _ _ _ ![t, 0, 0]
    (fun a => by rw [starts ht a]; match a with | 0 => (show (min (max (t : Int) 0) 63).toNat = t; omega) | 1 => rfl | 2 => rfl)
    (by refine ⟨rfl, fun a => ?_⟩; fin_cases a <;> simp <;> omega)]
  pointwise
  by_cases hk : k.val = t
  · rw [dif_pos ⟨by omega, by omega⟩, if_pos hk]
  · rw [dif_neg (by omega), if_neg hk]

/-! ## The trips -/

/-- The scanned inputs and the weights. -/
structure Par where
  X : FVec Ideal S64x8x128 .f32
  W1 : FVec Ideal S128x768 .f32
  b1 : FVec Ideal S2x768 .f32
  R1 : FVec Ideal S256x768 .f32
  W2 : FVec Ideal S256x768 .f32
  b2 : FVec Ideal S2x768 .f32
  R2 : FVec Ideal S256x768 .f32
  W3 : FVec Ideal S256x768 .f32
  b3 : FVec Ideal S2x768 .f32
  R3 : FVec Ideal S256x768 .f32
  W4 : FVec Ideal S256x768 .f32
  b4 : FVec Ideal S2x768 .f32
  R4 : FVec Ideal S256x768 .f32

/-- The first recurrence, over the inputs; -/
def Par.s1 (p : Par) : ℕ → FVec Ideal S8x256 .f32 := run (xt p.X) p.W1 p.b1 p.R1
/-- the second, over the first's states; -/
def Par.s2 (p : Par) : ℕ → FVec Ideal S8x256 .f32 := run (fun t => p.s1 (t + 1)) p.W2 p.b2 p.R2
/-- the third, over the second's; -/
def Par.s3 (p : Par) : ℕ → FVec Ideal S8x256 .f32 := run (fun t => p.s2 (t + 1)) p.W3 p.b3 p.R3
/-- the fourth, over the second's too. -/
def Par.s4 (p : Par) : ℕ → FVec Ideal S8x256 .f32 := run (fun t => p.s2 (t + 1)) p.W4 p.b4 p.R4

/-- What the loop carries before trip `t`. -/
structure At (p : Par) (t : ℕ) (V : Valuation τ sig (Elt Ideal)) : Prop where
  eX : V (Proc.devRef .tc main_v5_0) = p.X
  eW1 : V (Proc.devRef .tc main_v5_1) = p.W1
  eb1 : V (Proc.devRef .tc main_v5_2) = p.b1
  eR1 : V (Proc.devRef .tc main_v5_3) = p.R1
  eW2 : V (Proc.devRef .tc main_v5_4) = p.W2
  eb2 : V (Proc.devRef .tc main_v5_5) = p.b2
  eR2 : V (Proc.devRef .tc main_v5_6) = p.R2
  eW3 : V (Proc.devRef .tc main_v5_7) = p.W3
  eb3 : V (Proc.devRef .tc main_v5_8) = p.b3
  eR3 : V (Proc.devRef .tc main_v5_9) = p.R3
  eW4 : V (Proc.devRef .tc main_v5_10) = p.W4
  eb4 : V (Proc.devRef .tc main_v5_11) = p.b4
  eR4 : V (Proc.devRef .tc main_v5_12) = p.R4
  ct : V (Proc.devRef .tc main_v5_13) = fun _ => BitVec.ofNat 32 t
  h1 : V (Proc.devRef .tc main_v5_14) = p.s1 t
  h2 : V (Proc.devRef .tc main_v5_15) = p.s2 t
  h3 : V (Proc.devRef .tc main_v5_16) = p.s3 t
  h4 : V (Proc.devRef .tc main_v5_17) = p.s4 t
  y3 : ∀ (k : Fin 64) (b : Fin 8) (j : Fin 256), k.val < t → V (Proc.devRef .tc main_v5_18) (ix3 k b j) = p.s3 (k.val + 1) (ix2 b j)
  y4 : ∀ (k : Fin 64) (b : Fin 8) (j : Fin 256), k.val < t → V (Proc.devRef .tc main_v5_19) (ix3 k b j) = p.s4 (k.val + 1) (ix2 b j)

section Step

variable {V} {p : Par} {t : ℕ}

/-- A step from the input's rows and the state's rows. -/
theorem run_step {n : ℕ} {x : ℕ → FVec Ideal ⟨2, ![8, n]⟩ .f32} {W : FVec Ideal ⟨2, ![n, 768]⟩ .f32} {b : FVec Ideal S2x768 .f32} {R : FVec Ideal S256x768 .f32}
    {gx gh : FVec Ideal S8x768 .f32} {s : FVec Ideal S8x256 .f32} (ex : gx = lin (x t) W b 0) (eh : gh = lin (run x W b R t) R b 1)
    (es : s = run x W b R t) : cell gx gh s = run x W b R (t + 1) := by
  rw [ex, eh, es]
  rfl

/-- The first recurrence's step in a trip, -/
theorem v53_eq (h : At p t V) (ht : t < 64) : res_main_while0b_v53 V = p.s1 (t + 1) :=
  (cell_host (res_main_while0b_v19 V) (res_main_while0b_v25 V) (V (Proc.devRef .tc main_v5_14))).trans (run_step
    (by unfold res_main_while0b_v19; rw [h.ct, h.eX, h.eW1, h.eb1]; exact lin_xt p.X p.W1 p.b1 ht)
    (by unfold res_main_while0b_v25; rw [h.h1, h.eR1, h.eb1]; exact lin1_host (p.s1 t) p.R1 p.b1) h.h1)
/-- the second's, -/
theorem v93_eq (h : At p t V) (ht : t < 64) : res_main_while0b_v93 V = p.s2 (t + 1) :=
  (cell_host (res_main_while0b_v59 V) (res_main_while0b_v65 V) (V (Proc.devRef .tc main_v5_15))).trans (run_step (x := fun t => p.s1 (t + 1))
    (by unfold res_main_while0b_v59; rw [v53_eq h ht, h.eW2, h.eb2]; exact lin0_host (p.s1 (t + 1)) p.W2 p.b2)
    (by unfold res_main_while0b_v65; rw [h.h2, h.eR2, h.eb2]; exact lin1_host (p.s2 t) p.R2 p.b2) h.h2)
/-- the third's, -/
theorem v133_eq (h : At p t V) (ht : t < 64) : res_main_while0b_v133 V = p.s3 (t + 1) :=
  (cell_host (res_main_while0b_v99 V) (res_main_while0b_v105 V) (V (Proc.devRef .tc main_v5_16))).trans (run_step (x := fun t => p.s2 (t + 1))
    (by unfold res_main_while0b_v99; rw [v93_eq h ht, h.eW3, h.eb3]; exact lin0_host (p.s2 (t + 1)) p.W3 p.b3)
    (by unfold res_main_while0b_v105; rw [h.h3, h.eR3, h.eb3]; exact lin1_host (p.s3 t) p.R3 p.b3) h.h3)
/-- and the fourth's. -/
theorem v173_eq (h : At p t V) (ht : t < 64) : res_main_while0b_v173 V = p.s4 (t + 1) :=
  (cell_host (res_main_while0b_v139 V) (res_main_while0b_v145 V) (V (Proc.devRef .tc main_v5_17))).trans (run_step (x := fun t => p.s2 (t + 1))
    (by unfold res_main_while0b_v139; rw [v93_eq h ht, h.eW4, h.eb4]; exact lin0_host (p.s2 (t + 1)) p.W4 p.b4)
    (by unfold res_main_while0b_v145; rw [h.h4, h.eR4, h.eb4]; exact lin1_host (p.s4 t) p.R4 p.b4) h.h4)

/-- A stack with this trip's state stored holds one row more of the states. -/
theorem stack_step {Y : FVec Ideal S64x8x256 .f32} {s : ℕ → FVec Ideal S8x256 .f32} (ht : t < 64) (hY : ∀ (k : Fin 64) (b : Fin 8) (j : Fin 256), k.val < t → Y (ix3 k b j) = s (k.val + 1) (ix2 b j))
    (k : Fin 64) (b : Fin 8) (j : Fin 256) (hk : k.val < t + 1) :
    (if k.val = t then s (t + 1) (ix2 b j) else Y (ix3 k b j)) = s (k.val + 1) (ix2 b j) := by
  by_cases e : k.val = t
  · rw [if_pos e, e]
  · rw [if_neg e, hY k b j (by omega)]

/-- One trip. -/
theorem At.step (h : At p t V) (ht : t < 64) : At p (t + 1) (STEP V) where
  eX := (STEP_main_v5_0 V).trans h.eX
  eW1 := (STEP_main_v5_1 V).trans h.eW1
  eb1 := (STEP_main_v5_2 V).trans h.eb1
  eR1 := (STEP_main_v5_3 V).trans h.eR1
  eW2 := (STEP_main_v5_4 V).trans h.eW2
  eb2 := (STEP_main_v5_5 V).trans h.eb2
  eR2 := (STEP_main_v5_6 V).trans h.eR2
  eW3 := (STEP_main_v5_7 V).trans h.eW3
  eb3 := (STEP_main_v5_8 V).trans h.eb3
  eR3 := (STEP_main_v5_9 V).trans h.eR3
  eW4 := (STEP_main_v5_10 V).trans h.eW4
  eb4 := (STEP_main_v5_11 V).trans h.eb4
  eR4 := (STEP_main_v5_12 V).trans h.eR4
  ct := by
    rw [STEP_main_v5_13]
    unfold step_main_v5_13
    rw [h.ct]
    funext _
    exact (BitVec.ofNat_add t 1).symm
  h1 := (STEP_main_v5_14 V).trans (v53_eq h ht)
  h2 := (STEP_main_v5_15 V).trans (v93_eq h ht)
  h3 := (STEP_main_v5_16 V).trans (v133_eq h ht)
  h4 := (STEP_main_v5_17 V).trans (v173_eq h ht)
  y3 := fun k b j hk => by
    rw [STEP_main_v5_18]
    unfold step_main_v5_18
    rw [h.ct, v133_eq h ht]
    exact (stack_host (V (Proc.devRef .tc main_v5_18)) (p.s3 (t + 1)) ht k b j).trans (stack_step ht h.y3 k b j hk)
  y4 := fun k b j hk => by
    rw [STEP_main_v5_19]
    unfold step_main_v5_19
    rw [h.ct, v173_eq h ht]
    exact (stack_host (V (Proc.devRef .tc main_v5_19)) (p.s4 (t + 1)) ht k b j).trans (stack_step ht h.y4 k b j hk)

/-- All of them, `n` trips in. -/
theorem At.iter (h : At p 0 V) : ∀ n ≤ 64, At p n (STEP^[n] V)
  | 0, _ => h
  | n + 1, hn => by
    rw [Function.iterate_succ_apply']
    exact (At.iter h n (by omega)).step (by omega)

end Step

end Cert.Proof.Trips
-- ==== Proof.Entry.lean ====
/-
  The reference's loop as it is entered: the scanned inputs, the weights and the zero states.
-/
module

public import proofs.«01_k».proof.Proof.Trips
public import Idealize.ShloMosaic.Lib.ReduceAll
public import Idealize.ShloMosaic.Lib.WordArith
public import proofs.«01_k».proof.Proof.Gen.ReferenceIdeal.Run
public import Idealize.ShloMosaic.Lib.Pointwise
public import Idealize.ShloMosaic.Lib.DynamicIndex
public import Idealize.ShloMosaic.Lib.Pipeline.Value

@[expose] public section

set_option maxRecDepth 16384

noncomputable section

namespace Cert.Proof.Entry

open Cert.Proof.Trips Cert.ReferenceIdeal Cert.ReferenceIdeal.Gen Cert.ReferenceIdeal.Value Cert.Proof.Cell
open Idealize.ShloMosaic Idealize.ShloMosaic.StableHlo Idealize.ShloMosaic.Tactic

/-! ## The table's rows that the reference takes -/

/-- The indices, a negative one counted from the table's end; -/
def wrapped (I : IVec S8x64 32) : IVec S8x64x1 32 :=
  broadcastInDim S8x64x1 ![0, 1] bcast_S8x64_S8x64x1_0_1 (select (cmpi .slt I (broadcastInDim S8x64 ![] bcast_S_S8x64 (constantI S_ 32 0#32)))
    (addi I (broadcastInDim S8x64 ![] bcast_S_S8x64 (constantI S_ 32 100000#32))) I)
/-- which of them name a row; -/
def mask (I : IVec S8x64 32) : IVec S8x64 1 :=
  Host.reduce IntOp.andi (andi (cmpi .sge (wrapped I) (broadcastInDim S8x64x1 ![] bcast_S_S8x64x1 (constantI S_ 32 0#32)))
    (cmpi .sle (wrapped I) (broadcastInDim S8x64x1 ![0, 1, 2] bcast_S1x1x1_S8x64x1_0_1_2 (broadcastInDim S1x1x1 ![2] bcast_S1_S1x1x1_2 (constantI S1 32 99999#32)))))
    (constantI S_ 1 1#1) reducesTo_S8x64x1_S8x64_d2 h_S_
/-- and the rows. -/
def taken (T : FVec Ideal S100000x128 .f32) (I : IVec S8x64 32) : FVec Ideal S8x64x128 .f32 :=
  select (broadcastInDim S8x64x128 ![0, 1] bcast_S8x64_S8x64x128_0_1 (mask I))
    (Host.gather gather_S100000x128_S8x64x1_S8x64x128_2_0_n_n_0_2_1128 T (wrapped I))
    (broadcastInDim S8x64x128 ![] bcast_S_S8x64x128 (constant S_ .f32 0x7FC00000#32))

/-- The gather at an index: the table's row at the start index, read signed and clamped. -/
theorem gather_apply (T : FVec Ideal S100000x128 .f32) (x : IVec S8x64x1 32) (b : Fin 8) (t : Fin 64) (k : Fin 128) :
    Host.gather gather_S100000x128_S8x64x1_S8x64x128_2_0_n_n_0_2_1128 T x (ix3 b t k)
      = T (ix2 ⟨min (x (ix3 b t 0)).toInt.toNat 99999, by omega⟩ k) := by
  unfold Host.gather
  congr 1
  funext a
  refine Fin.ext ?_
  match a with
  | 0 =>
    show (gather_S100000x128_S8x64x1_S8x64x128_2_0_n_n_0_2_1128).start (ix3 b t k) x 0 + (gather_S100000x128_S8x64x1_S8x64x128_2_0_n_n_0_2_1128).batchCoord (ix3 b t k) 0
      + (gather_S100000x128_S8x64x1_S8x64x128_2_0_n_n_0_2_1128).offCoord (ix3 b t k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x128_S8x64x1_S8x64x128_2_0_n_n_0_2_1128).startIndexMap from List.mem_singleton.mpr rfl)]
    have hsi : (gather_S100000x128_S8x64x1_S8x64x128_2_0_n_n_0_2_1128).siIdx (ix3 b t k) ⟨List.idxOf (0 : Fin 2) (gather_S100000x128_S8x64x1_S8x64x128_2_0_n_n_0_2_1128).startIndexMap,
        List.idxOf_lt_length_iff.2 (List.mem_singleton.mpr rfl)⟩ = ix3 b t 0 := by
      funext q; refine Fin.ext ?_
      match q with
      | 0 => rfl
      | 1 => rfl
      | 2 => rfl
    rw [hsi]
    rfl
  | 1 =>
    show (gather_S100000x128_S8x64x1_S8x64x128_2_0_n_n_0_2_1128).start (ix3 b t k) x 1 + (gather_S100000x128_S8x64x1_S8x64x128_2_0_n_n_0_2_1128).batchCoord (ix3 b t k) 1
      + (gather_S100000x128_S8x64x1_S8x64x128_2_0_n_n_0_2_1128).offCoord (ix3 b t k) 1 = _
    rw [GatherDims.batchCoord_eq_zero _ _ _ List.not_mem_nil]
    unfold GatherDims.start
    rw [dif_neg (by decide)]
    simp only [Nat.add_zero, Nat.zero_add]
    rfl

theorem toInt_of_lt {w : BitVec 32} (h : w.toNat < 100000) : w.toInt = (w.toNat : Int) := BitVec.toInt_eq_toNat_of_lt (by omega)

theorem wrapped_apply (I : IVec S8x64 32) (h : ∀ b t, (I (ix2 b t)).toNat < 100000) (b : Fin 8) (t : Fin 64) (z : Fin 1) :
    wrapped I (ix3 b t z) = I (ix2 b t) := by
  have hn : 0 ≤ (I (ix2 b t)).toInt := by rw [toInt_of_lt (h b t)]; omega
  have h0 : (I (ix2 b t)).slt 0#32 = false := by
    simp only [BitVec.slt, BitVec.toInt_zero, decide_eq_false_iff_not, Int.not_lt]
    exact hn
  pointwise [wrapped]
  show Scalar.select (BitVec.ofBool ((I (ix2 b t)).slt 0#32)) _ _ = _
  rw [h0]
  rfl

theorem mask_apply (I : IVec S8x64 32) (h : ∀ b t, (I (ix2 b t)).toNat < 100000) (j : S8x64.Idx) : mask I j = 1#1 := by
  refine Host.reduce_andi_one _ _ _ _ _ rfl fun i => ?_
  obtain ⟨b, t, z, rfl⟩ : ∃ b t z, i = ix3 b t z := ⟨i 0, i 1, i 2, by funext a; match a with | 0 => rfl | 1 => rfl | 2 => rfl⟩
  pointwise
  rw [wrapped_apply I h]
  have e := toInt_of_lt (h b t)
  have hl := h b t
  refine IntOp.andi_eq_one.2 ⟨?_, ?_⟩
  · show BitVec.ofBool ((0#32).sle (I (ix2 b t))) = 1#1
    rw [show (0#32).sle (I (ix2 b t)) = true by simp only [BitVec.sle, decide_eq_true_eq]; rw [e]; exact Int.natCast_nonneg _]
    rfl
  · show BitVec.ofBool ((I (ix2 b t)).sle 99999#32) = 1#1
    rw [show (I (ix2 b t)).sle 99999#32 = true by
      simp only [BitVec.sle, decide_eq_true_eq]; rw [e, show (99999#32 : BitVec 32).toInt = 99999 from rfl]; omega]
    rfl

theorem taken_apply (T : FVec Ideal S100000x128 .f32) (I : IVec S8x64 32) (h : ∀ b t, (I (ix2 b t)).toNat < 100000) (b : Fin 8) (t : Fin 64) (k : Fin 128) :
    taken T I (ix3 b t k) = T (ix2 ⟨(I (ix2 b t)).toNat, h b t⟩ k) := by
  have e : (I (ix2 b t)).toInt.toNat = (I (ix2 b t)).toNat := by rw [toInt_of_lt (h b t)]; rfl
  pointwise [taken]
  rw [mask_apply I h]
  show Host.gather gather_S100000x128_S8x64x1_S8x64x128_2_0_n_n_0_2_1128 T (wrapped I) (ix3 b t k) = _
  rw [gather_apply]
  refine congrArg (fun r => T (ix2 r k)) (Fin.ext ?_)
  show min (wrapped I (ix3 b t 0)).toInt.toNat 99999 = (I (ix2 b t)).toNat
  rw [wrapped_apply I h, e]
  have := h b t
  omega

/-! ## The entry -/

/-- The zero states and the empty stacks. -/
theorem zero_states : broadcastInDim S8x256 ![] bcast_S_S8x256 (constant (F := Ideal) S_ .f32 0x00000000#32) = fun _ => (0 : EReal) := by
  funext i
  pointwise

variable (m : (ℓ : Loc nD τ sig) → Buf (Elt Ideal) ℓ) (c : Dev nD)

/-- The loop's inputs and weights, of the program's arguments. -/
def par : Par where
  X := transpose S64x8x128 [1, 0, 2] (taken (m ((c.tc : Thread nD τ).loc main_arg1)) (m ((c.tc : Thread nD τ).loc main_arg0))) transposes_S8x64x128_S64x8x128_1_0_2
  W1 := m ((c.tc : Thread nD τ).loc main_arg2)
  b1 := m ((c.tc : Thread nD τ).loc main_arg4)
  R1 := m ((c.tc : Thread nD τ).loc main_arg3)
  W2 := m ((c.tc : Thread nD τ).loc main_arg5)
  b2 := m ((c.tc : Thread nD τ).loc main_arg7)
  R2 := m ((c.tc : Thread nD τ).loc main_arg6)
  W3 := m ((c.tc : Thread nD τ).loc main_arg8)
  b3 := m ((c.tc : Thread nD τ).loc main_arg10)
  R3 := m ((c.tc : Thread nD τ).loc main_arg9)
  W4 := m ((c.tc : Thread nD τ).loc main_arg11)
  b4 := m ((c.tc : Thread nD τ).loc main_arg13)
  R4 := m ((c.tc : Thread nD τ).loc main_arg12)

/-- The loop is entered before its first trip. -/
theorem entry : At (par m c) 0 (entryContents preI m c) := by
  constructor
  case ct => exact ctr_entry m c
  case y3 => exact fun _ _ _ h => absurd h (Nat.not_lt_zero _)
  case y4 => exact fun _ _ _ h => absurd h (Nat.not_lt_zero _)
  case' h1 | h2 | h3 | h4 => refine Eq.trans ?_ zero_states
  all_goals
    simp only [entryContents, afterL_cons, afterL_nil]
    after_reads_simp
    rfl

end Cert.Proof.Entry
-- ==== Proof.Gather.lean ====
/-
  The SparseCore gather: thirty-two tasks, task `(c, i)` on vector subcore `i` of SparseCore `c`. Each fetches its sixteen
  row numbers, gathers those rows of the table by the indirect stream, and writes them out as its sixteen rows of the
  result. Row `r` of the result ends as row `idx r` of the table (`gath`), provided every index is a row of the table.
-/
module

public import proofs.«01_k».proof.Proof.Base

@[expose] public section

noncomputable section

namespace Cert.Proof.Gather

open Cert.KernelIdeal Cert.KernelIdeal.Gen Cert.Proof.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v1_scv : Memref Cert.KernelIdeal.sig Kind.scVector Space.hbm Cert.KernelIdeal.S512 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S512x128 EltTy.f32)
local notation "sV" => (Memref.whole Cert.KernelIdeal.cc0_scratch0 : Memref Cert.KernelIdeal.sig Kind.scVector Space.vmem Cert.KernelIdeal.S16 EltTy.i32)
local notation "rV" => (Memref.whole Cert.KernelIdeal.cc0_scratch1 : Memref Cert.KernelIdeal.sig Kind.scVector Space.vmem Cert.KernelIdeal.S16x128 EltTy.f32)

/-! ## The gathered rows -/

/-- The row of the table that word `n` names (in range on every index the kernel is given). -/
def rowAt (n : ℕ) (y : Fin 128) : S100000x128.Idx := fun
  | 0 => ⟨n % 100000, Nat.mod_lt _ (by decide)⟩
  | 1 => y
  | ⟨_ + 2, h⟩ => absurd h (Nat.not_lt.2 (Nat.le_add_left _ _))

/-- Entry `r` of a 512-entry list. -/
def ix512 (r : Fin 512) : S512.Idx := fun
  | 0 => r
  | ⟨_ + 1, h⟩ => absurd h (Nat.not_lt.2 (Nat.le_add_left _ _))

/-- The gathered rows: row `r` is the table's row `idx r`. -/
def gath (fI : S512.Idx → Elt F .i32) (fT : S100000x128.Idx → Elt F .f32) : S512x128.Idx → Elt F .f32 :=
  fun x => fT (rowAt (fI (ix512 (x 0))).toNat (x 1))

/-! ## The tasks' blocks -/

theorem idiv : 32 ∣ S512.size 0 := ⟨16, rfl⟩
theorem odiv : 32 ∣ S512x128.size 0 := ⟨16, rfl⟩
/-- The sixteen entries, and the sixteen rows, of task `t`. -/
abbrev irow (t : Fin 32) : Rect S512 := Rect.part (s := S512) (a₀ := 0) idiv t
abbrev orow (t : Fin 32) : Rect S512x128 := Rect.part (s := S512x128) (a₀ := 0) odiv t

/-- The task of subcore `i` of SparseCore `c`. -/
def tix (c : Fin 2) (i : Fin 16) : Fin 32 := ⟨2 * i.val + c.val, by omega⟩

/-- Task `t`'s share of the table. -/
abbrev xq (t : Fin 32) : PosShare TreeShare := pieceOf fullShare 32 (by decide) t

variable [FloatOps F]

/-! ## What a task takes and brings back -/

variable (fI : (d : Dev nD) → Buf (Elt F) (iLoc d)) (fT : (d : Dev nD) → Buf (Elt F) (xLoc d)) (fO : (d : Dev nD) → Buf (Elt F) (oLoc d))

/-- A task takes its entries of the index list, its share of the table and its rows of the output; -/
abbrev taskIn (d : Dev nD) (t : Fin 32) : sProp 𝕄 :=
  iprop((iLoc d ↦[(irow t).set]{fullShare} fI d) ∗ (xLoc d ↦{xq t} fT d) ∗ oLoc d ↦[(orow t).set]{fullShare} fO d)
/-- it brings them back with the gathered rows written. -/
abbrev taskOut (d : Dev nD) (t : Fin 32) : sProp 𝕄 :=
  iprop((iLoc d ↦[(irow t).set]{fullShare} fI d) ∗ (xLoc d ↦{xq t} fT d) ∗ oLoc d ↦[(orow t).set]{fullShare} gath (fI d) (fT d))

theorem nCore_zero : (K (F := F)).nCore 0 = 2 := rfl
theorem nSub_zero : (K (F := F)).nSub 0 = 16 := rfl

/-- The call hands each SparseCore its sixteen tasks' resources. -/
def P : (K (F := F)).Pay (nD := nD) (Val := Elt F) (Name := ℕ) (U := UU) where
  st := fun q d c => match q with | 0 => bigSep Finset.univ fun i : Fin 16 => taskIn fI fT fO d (tix (Fin.cast nCore_zero c) i)
  dn := fun q d c => match q with | 0 => bigSep Finset.univ fun i : Fin 16 => taskOut fI fT d (tix (Fin.cast nCore_zero c) i)
  go := fun q d c i => match q with | 0 => taskIn fI fT fO d (tix (Fin.cast nCore_zero c) (Fin.cast nSub_zero i))
  td := fun q d c i => match q with | 0 => taskOut fI fT d (tix (Fin.cast nCore_zero c) (Fin.cast nSub_zero i))
  x := fun _ _ => iprop(emp)

instance P_storable : (P (F := F) fI fT fO).IsStorable where
  st q d c := match q with
    | 0 => (inferInstance : BI.Storable (upEmb : UEmb _ 𝕄) (bigSep Finset.univ fun i : Fin 16 => taskIn fI fT fO d (tix (Fin.cast nCore_zero c) i)))
  dn q d c := match q with
    | 0 => (inferInstance : BI.Storable (upEmb : UEmb _ 𝕄) (bigSep Finset.univ fun i : Fin 16 => taskOut fI fT d (tix (Fin.cast nCore_zero c) i)))
  go q d c i := match q with
    | 0 => (inferInstance : BI.Storable (upEmb : UEmb _ 𝕄) (taskIn fI fT fO d (tix (Fin.cast nCore_zero c) (Fin.cast nSub_zero i))))
  td q d c i := match q with
    | 0 => (inferInstance : BI.Storable (upEmb : UEmb _ 𝕄) (taskOut fI fT d (tix (Fin.cast nCore_zero c) (Fin.cast nSub_zero i))))

/-- What the kernel asks of the index list: every word is a row of the table. -/
def InRows : Prop := ∀ (d : Dev nD) (j : S512.Idx), (fI d j).toNat < 100000

/-! ## The task -/

section Tile

variable (d : Dev nD) (L : grid0.Coords)

abbrev cV (L : grid0.Coords) : Fin τ.nSC := (L 0).castLE hcore0
abbrev jV (L : grid0.Coords) : Fin τ.nSub := (L 1).castLE hsub0
/-- The task at grid coordinates `L`. -/
abbrev tL (L : grid0.Coords) : Fin 32 := tix (Fin.cast (show grid0.bound 0 = 2 from rfl) (L 0)) (Fin.cast (show grid0.bound 1 = 16 from rfl) (L 1))

abbrev irowK (L : grid0.Coords) : Rect S512 := Rect.unit (s := S512) (k0_off1 L) S16.size (k0_off1_inb L)
abbrev orowK (L : grid0.Coords) : Rect S512x128 := Rect.unit (s := S512x128) (k0_off2 L) S16x128.size (k0_off2_inb L)
/-- The task's entries and rows, and the whole table, as the program addresses them. -/
abbrev iRowK (L : grid0.Coords) : Memref sig .scVector .hbm S16 .i32 := (iV).slice (irowK L) (fun _ => rfl)
abbrev oRowK (L : grid0.Coords) : Memref sig .scVector .hbm S16x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
theorem irowK_eq : irowK L = irow (tL L) := by
  unfold irowK irow Rect.part Rect.block
  congr 1 <;> funext a
  · rw [k0_off1_eq]
    match a with
    | 0 =>
      show 32 * (L 1).val + 16 * (L 0).val = (2 * (L 1).val + (L 0).val) * 16
      omega
  · match a with
    | 0 => simp [Shape.partSize]
omit [FloatOps F] in
theorem orowK_eq : orowK L = orow (tL L) := by
  unfold orowK orow Rect.part Rect.block
  congr 1 <;> funext a
  · rw [k0_off2_eq]
    match a with
    | 0 =>
      show 32 * (L 1).val + 16 * (L 0).val = (2 * (L 1).val + (L 0).val) * 16
      omega
    | 1 => simp [Shape.partIx, Shape.partSize]
  · match a with
    | 0 => simp [Shape.partSize]
    | 1 => simp [Shape.partSize]

omit [FloatOps F] in
theorem set_iRowK : (iRowK L).view.set = (irow (tL L)).set := by
  show ((View.whole (main_v1_scv : Ref sig .scVector)).slice (irowK L)).set = _
  rw [View.set_slice, irowK_eq L]; exact Finset.map_refl
omit [FloatOps F] in
theorem set_oRowK : (oRowK L).view.set = (orow (tL L)).set := by
  show ((View.whole (main_v2_scv : Ref sig .scVector)).slice (orowK L)).set = _
  rw [View.set_slice, orowK_eq L]; exact Finset.map_refl

omit [FloatOps F] in
theorem pts_iRowK (f : Buf (Elt F) (iLoc d)) :
    ((iRowK L).view.loc (V d (cV L) (jV L)) ↦[(iRowK L).view.set]{fullShare} f : sProp 𝕄) = iLoc d ↦[(irow (tL L)).set]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[(orow (tL L)).set]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three transfers' cells: the stream's, the index fetch's, the write-out's. -/
abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
/-- The three cells are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words the stream reads as row numbers: the task's entries of the index list. -/
theorem list_read (fs : Buf (Elt F) ((V d (cV L) (jV L)).loc cc0_scratch0)) (x : S16.Idx) :
    (sV).view.read (Elt F) (View.write (Elt F) (sV).view fs ((iRowK L).view.read (Elt F) (fI d)) Finset.univ) x = fI d ((irowK L).emb x) := by
  rw [View.write_whole_univ]
  simp only [Memref.view_whole, View.read_whole]
  rfl

/-- They are rows of the table. -/
theorem list_inRows (hpre : InRows fI) (fs : Buf (Elt F) ((V d (cV L) (jV L)).loc cc0_scratch0)) (pay : S16.Idx → Elt F .i32)
    (hpay : pay = (iRowK L).view.read (Elt F) (fI d)) :
    ∀ x, ((sV).view.read (Elt F) (View.write (Elt F) (sV).view fs pay Finset.univ) x).toNat < S100000x128.size gathers_S100000x128_S16x128.axis := by
  subst hpay; intro x; rw [list_read]; exact hpre d _

/-- What the stream leaves in the row scratch: at each of its elements the gathered rows' element of the task's block. -/
theorem stream_rows (hpre : InRows fI) (fs : Buf (Elt F) ((V d (cV L) (jV L)).loc cc0_scratch0)) (pay : S16.Idx → Elt F .i32)
    (hpay : pay = (iRowK L).view.read (Elt F) (fI d)) (hn : S16.numel = S16x128.size gathers_S100000x128_S16x128.axis')
    (hin : ∀ x, ((sV).view.read (Elt F) (View.write (Elt F) (sV).view fs pay Finset.univ) x).toNat < S100000x128.size gathers_S100000x128_S16x128.axis) (y : S16x128.Idx) :
    SparseCore.gatherPayload gathers_S100000x128_S16x128 ((xAllK).view.read (Elt F) (fT d))
      (SparseCore.rows ((sV).view.read (Elt F) (View.write (Elt F) (sV).view fs pay Finset.univ)) hn hin) y
      = gath (fI d) (fT d) ((orowK L).emb y) := by
  subst hpay
  unfold SparseCore.gatherPayload gath
  have hx : ∀ j, (xAllK).view.read (Elt F) (fT d) j = fT d ((xAllK).view.emb j) := fun j => (View.read_apply _ _).trans (cast_eq _ _)
  rw [hx]
  refine congrArg (fT d) (funext fun b => Fin.ext ?_)
  have hlist : fI d (ix512 (((orowK L).emb y) 0)) = (sV).view.read (Elt F)
      (View.write (Elt F) (sV).view fs ((iRowK L).view.read (Elt F) (fI d)) Finset.univ) (S16.rowMajor.symm ((y 0).cast hn.symm)) := by
    rw [list_read]
    refine congrArg (fI d) (funext fun a => Fin.ext ?_)
    match a with
    | 0 =>
      have e : ((S16.rowMajor.symm ((y 0).cast hn.symm)) 0).val = (y 0).val := by
        rw [← Shape.rowMajor_val_one, Equiv.apply_symm_apply]; rfl
      show k0_off2 L 0 + 1 * (y 0).val = k0_off1 L 0 + 1 * ((S16.rowMajor.symm ((y 0).cast hn.symm)) 0).val
      rw [e, k0_off1_eq, k0_off2_eq]; rfl
  match b with
  | 0 =>
    show 0 + 1 * ((gathers_S100000x128_S16x128.idx _ y) 0).val = (fI d (ix512 (((orowK L).emb y) 0))).toNat % 100000
    rw [Nat.mod_eq_of_lt (hpre d _), hlist, Nat.zero_add, Nat.one_mul]
    exact congrArg Fin.val (Shape.Gathers.idx_axis gathers_S100000x128_S16x128 _ y)
  | 1 =>
    show 0 + 1 * ((gathers_S100000x128_S16x128.idx _ y) 1).val = k0_off2 L 1 + 1 * (y 1).val
    rw [Shape.Gathers.idx_of_ne gathers_S100000x128_S16x128 _ y 1 (by decide), k0_off2_eq]
    rfl

/-- The gathered rows of the task's block. -/
def blockRows : S16x128.Idx → Elt F .f32 := fun y => gath (fI d) (fT d) ((orowK L).emb y)

/-- Writing the gathered rows through the task's block of the output leaves the gathered rows there. -/
theorem out_rows (f : Buf (Elt F) (oLoc d)) (g : S16x128.Idx → Elt F .f32) (hg : g = (rV).view.read (Elt F) (blockRows fI fT d L)) :
    ∀ x ∈ (oRowK L).view.set, (oRowK L).view.writes (Elt F) f [⟨Rect.whole S16x128, g⟩] x = gath (fI d) (fT d) x := by
  intro x hx
  rw [← View.write_univ_eq_writes_whole, View.writes_nil]
  obtain ⟨y, -, rfl⟩ := Finset.mem_map.1 hx
  rw [View.write_emb, if_pos (Finset.mem_univ _)]
  subst hg
  simp only [Memref.view_whole, View.read_whole]
  rfl

set_option maxHeartbeats 4000000 in
/-- The task at grid coordinates `L` of device `d`, from what it takes to what it brings back. -/
theorem tile_body (hF : (K (F := F)).Facts) (hpre : InRows fI) (O : CellTallies nD τ sig (HIx 1)) (W : Waits sig (HIx 1)) (hO : ∀ g, O g none = 0) :
    iprop(levAts (K (F := F)).L (K (F := F)).lev ∗ emp ∗ taskIn fI fT fO d (tL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(taskOut fI fT d (tL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect stream over the fetched list
  ihave Hxs := (pointsTo_split_subset (q := xq (tL L)) (f := fT d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 fI d L) Finset.univ : sProp 𝕄)
      = (sV).view.loc (V d (cV L) (jV L)) ↦[(sV).view.set]{fullShare} View.write (Elt F) (sV).view fs (tile_body.sl.dma0 fI d L) Finset.univ
      by rw [hss])) $$ Hs'
  have hN : ∀ h : S100000x128.Gathers 0 S16x128, ∑ j, ((rV).slice (S16x128.rowRect h.axis' j) (S16x128.stride_rowRect h.axis' j)).view.dmaCredit
      = (rV).view.dmaCredit := by decide
  have hin := list_inRows fI d L hpre fs (tile_body.sl.dma0 fI d L) rfl
  iapply (SparseCore.wp_indirectGatherLocal countersEmb 𝒱₀ (V d (cV L) (jV L)) none (hg := gathers_S100000x128_S16x128) (default : HIx 1)
      (rV).view.dmaCredit (hN _) (by decide) hin) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (q := xq (tL L)) (f := fT d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} blockRows fI fT d L by
        rw [hrs, View.write_whole_univ]
        exact pointsTo_congr fun y _ => stream_rows fI fT d L hpre fs (tile_body.sl.dma0 fI d L) rfl rfl hin y)) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_rows fI fT d L _ _ rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- Grid coordinates from a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of the kernel: every task runs from what it is given to what it hands back. -/
theorem tileObl (hF : (K (F := F)).Facts) (hpre : InRows fI) : (K (F := F)).TileObl (D (F := F)) 𝒱 (P fI fT fO) v₀ 0 := by
  intro d c i O W hO _ _
  simp only [show (P fI fT fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fI fT fO d (coordsV ⟨_, hci.1⟩ ⟨_, hci.2⟩) hF hpre O W hO).trans (wp_mono frame _ _ fun _ => obl_post)

end Tile

/-- The call's operands are dealt to the tasks as they come. -/
theorem vecSplit : (K (F := F)).VecSplit' (P fI fT fO) 0 := by
  intro d c
  show (bigSep Finset.univ fun i : Fin 16 => taskIn fI fT fO d (tix (Fin.cast nCore_zero c) i)) ⊢ |={Set.univ}=> iprop(
      (bigSep Finset.univ fun i : Fin 16 => taskIn fI fT fO d (tix (Fin.cast nCore_zero c) i))
      ∗ ((bigSep Finset.univ fun i : Fin 16 => taskOut fI fT d (tix (Fin.cast nCore_zero c) i))
          -∗ bigSep Finset.univ fun i : Fin 16 => taskOut fI fT d (tix (Fin.cast nCore_zero c) i)))
  iintro H; imodintro
  isplitl [H]; · iexact H
  iintro H; iexact H

/-! ## All the tasks at once -/

omit [FloatOps F] in
/-- The thirty-two tasks, SparseCore by SparseCore. -/
theorem bigSep_tasks (Φ : Fin 32 → sProp 𝕄) :
    (bigSep Finset.univ fun c : Fin 2 => bigSep Finset.univ fun i : Fin 16 => Φ (tix c i)) = bigSep Finset.univ Φ := by
  have e : Function.Bijective fun p : Fin 2 × Fin 16 => tix p.1 p.2 := by decide
  rw [bigSep_univ_equiv (Equiv.ofBijective _ e) Φ, bigSep_univ_prod]
  rfl

omit [FloatOps F] in
theorem iPts_tasks (d : Dev nD) (f : Buf (Elt F) (iLoc d)) :
    (iLoc d ↦{fullShare} f : sProp 𝕄) = bigSep Finset.univ fun t : Fin 32 => iLoc d ↦[(irow t).set]{fullShare} f := by
  rw [← pointsTo_biUnion Finset.univ (ℓ := iLoc d) (fun t => (irow t).set) fun i _ j _ h => Rect.part_disjoint idiv h, Rect.biUnion_part idiv]
omit [FloatOps F] in
theorem oPts_tasks (d : Dev nD) (f : Buf (Elt F) (oLoc d)) :
    (oLoc d ↦{fullShare} f : sProp 𝕄) = bigSep Finset.univ fun t : Fin 32 => oLoc d ↦[(orow t).set]{fullShare} f := by
  rw [← pointsTo_biUnion Finset.univ (ℓ := oLoc d) (fun t => (orow t).set) fun i _ j _ h => Rect.part_disjoint odiv h, Rect.biUnion_part odiv]
omit [FloatOps F] in
theorem xPts_tasks (d : Dev nD) (f : Buf (Elt F) (xLoc d)) :
    (xLoc d ↦{fullShare} f : sProp 𝕄) = bigSep Finset.univ fun t : Fin 32 => xLoc d ↦{xq t} f :=
  pointsTo_piecesOf Finset.univ f (by decide) fullShare

/-- What the call takes, from the three arrays whole; -/
theorem st_eq (d : Dev nD) : (bigSep Finset.univ fun c : Fin ((K (F := F)).nCore 0) => (P fI fT fO).st 0 d c)
    = (iprop((iLoc d ↦{fullShare} fI d) ∗ (xLoc d ↦{fullShare} fT d) ∗ oLoc d ↦{fullShare} fO d) : sProp 𝕄) := by
  rw [iPts_tasks, xPts_tasks, oPts_tasks, ← bigSep_sep', ← bigSep_sep']
  exact bigSep_tasks fun t => taskIn fI fT fO d t
/-- what it hands back, as the three arrays whole, the output holding the gathered rows. -/
theorem dn_eq (d : Dev nD) : (bigSep Finset.univ fun c : Fin ((K (F := F)).nCore 0) => (P fI fT fO).dn 0 d c)
    = (iprop((iLoc d ↦{fullShare} fI d) ∗ (xLoc d ↦{fullShare} fT d) ∗ oLoc d ↦{fullShare} gath (fI d) (fT d)) : sProp 𝕄) := by
  rw [iPts_tasks, xPts_tasks, oPts_tasks, ← bigSep_sep', ← bigSep_sep']
  exact bigSep_tasks fun t => taskOut fI fT d t

end Cert.Proof.Gather

end
-- ==== Proof.Slots.lean ====
/-
  A slot's five copies issued, a result slot's four copies drained, and the copies of the last 1696 columns.
-/
module

public import proofs.«01_k».proof.Proof.Gru

@[expose] public section

set_option maxRecDepth 16384

noncomputable section

namespace Cert.Proof.Slots

open Cert.KernelIdeal Cert.KernelIdeal.Gen Cert.Proof.Base Cert.Proof.Ring Cert.Proof.Tiles

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The step `e` of the second kernel takes `P` to `P'`. -/
def Does (d : Dev nD) (e : TpuEff nD τ sig (Elt F) Λ₀ .tc PUnit) (P P' : sProp 𝕄) : Prop :=
  ∀ (α : Type) (k : PUnit → Prog (TpuEff nD τ sig (Elt F) Λ₀ .tc) α) (Q : α → sProp 𝕄),
    P ⊢ iprop((P' -∗ wp frame (wpE (defs₀ (F := F)) 𝒱₀ (SparseCore.T d) none) Set.univ (k ⟨⟩) Q)
      -∗ wp frame (wpE (defs₀ (F := F)) 𝒱₀ (SparseCore.T d) none) Set.univ (.op e k) Q)

section

variable (d : Dev nD) (X : FVec F S512x512 .f32) (fW : S512x100000.Idx → Elt F .f32) (fB : S1x100000.Idx → Elt F .f32) (W₀ : Waits sig (HIx 1))

/-- A copy of a weight row block to slot `s`, as a step; -/
def WDoes (s : Fin 6) (t : ℕ) (r : Fin 4) (e : TpuEff nD τ sig (Elt F) Λ₀ .tc PUnit) : Prop :=
  ∀ fd : Buf (Elt F) (wLoc d), Does d e iprop((whLoc d ↦[hPiece t r.val]{fullShare} fW) ∗ (wLoc d ↦[wPiece s.val r.val]{fullShare} fd) ∗ semVal (SparseCore.T d, .dma (wsem s r)) 0)
    (WFl d fW s t r)
/-- of a bias tile. -/
def BDoes (s : Fin 6) (t : ℕ) (e : TpuEff nD τ sig (Elt F) Λ₀ .tc PUnit) : Prop :=
  ∀ fd : Buf (Elt F) (bLoc d), Does d e iprop((bhLoc d ↦[bTile t]{fullShare} fB) ∗ (bLoc d ↦[bSlot s.val]{fullShare} fd) ∗ semVal (SparseCore.T d, .dma (bsem s)) 0)
    (BFl d fB s t)

/-- Tile `t` fetched to the idle slot `s`. -/
theorem issue_slot (s : Fin 6) (t : ℕ) {e0 e1 e2 e3 eb : TpuEff nD τ sig (Elt F) Λ₀ .tc PUnit} (h0 : WDoes d fW s t 0 e0) (h1 : WDoes d fW s t 1 e1)
    (h2 : WDoes d fW s t 2 e2) (h3 : WDoes d fW s t 3 e3) (hb : BDoes d fB s t eb)
    {α : Type} {k : PUnit → Prog (TpuEff nD τ sig (Elt F) Λ₀ .tc) α} {Q : α → sProp 𝕄} :
    iprop(srcs d fW fB t ∗ free d s) ⊢ iprop((flights d fW fB s t -∗ wp frame (wpE (defs₀ (F := F)) 𝒱₀ (SparseCore.T d) none) Set.univ (k ⟨⟩) Q)
      -∗ wp frame (wpE (defs₀ (F := F)) 𝒱₀ (SparseCore.T d) none) Set.univ (.op e0 fun _ => .op e1 fun _ => .op e2 fun _ => .op e3 fun _ => .op eb k) Q) := by
  rw [srcs_eq, free_eq, flights_eq, split_wh4]
  iintro ⟨⟨⟨Hs0, Hs1, Hs2, Hs3⟩, Hbs⟩, ⟨%fw, Hw⟩, ⟨%fb, Hb⟩, ⟨Hv0, Hv1, Hv2, Hv3⟩, Hvb⟩ Hk
  ihave Hw := (Entails.of_eq (split_w4 d s.val fw)) $$ Hw
  icases Hw with ⟨Hw0, Hw1, Hw2, Hw3⟩
  iapply (h0 fw _ _ _) $$ [Hs0 Hw0 Hv0]
  · isplitl [Hs0]; iexact Hs0
    isplitl [Hw0] <;> iassumption
  iintro Hw0
  iapply (h1 fw _ _ _) $$ [Hs1 Hw1 Hv1]
  · isplitl [Hs1]; iexact Hs1
    isplitl [Hw1] <;> iassumption
  iintro Hw1
  iapply (h2 fw _ _ _) $$ [Hs2 Hw2 Hv2]
  · isplitl [Hs2]; iexact Hs2
    isplitl [Hw2] <;> iassumption
  iintro Hw2
  iapply (h3 fw _ _ _) $$ [Hs3 Hw3 Hv3]
  · isplitl [Hs3]; iexact Hs3
    isplitl [Hw3] <;> iassumption
  iintro Hw3
  iapply (hb fb _ _ _) $$ [Hbs Hb Hvb]
  · isplitl [Hbs]; iexact Hbs
    isplitl [Hb] <;> iassumption
  iintro Hb
  iapply Hk
  isplitr [Hb]; swap; · iexact Hb
  isplitl [Hw0]; iexact Hw0
  isplitl [Hw1]; iexact Hw1
  isplitl [Hw2] <;> iassumption

/-- A wait for a result row block's copy, as a step. -/
def ODoes (p : Fin 2) (t : ℕ) (r : Fin 4) (e : TpuEff nD τ sig (Elt F) Λ₀ .tc PUnit) : Prop :=
  Does d e iprop(OFl d (fOut X fW fB) p t r ∗ Owed (F := F) (SparseCore.T d) W₀)
    iprop(((ohLoc d ↦[hPiece t r.val]{fullShare} fOut X fW fB) ∗ (obLoc d ↦[oPiece p.val r.val]{fullShare} oslot (fOut X fW fB) t))
      ∗ semVal (SparseCore.T d, .dma (osem p r)) 0 ∗ Owed (F := F) (SparseCore.T d) W₀)

/-- Result tile `t`'s copies drained: the tile lies in the result and the slot is idle. -/
theorem drain (p : Fin 2) (t : ℕ) {e0 e1 e2 e3 : TpuEff nD τ sig (Elt F) Λ₀ .tc PUnit} (h0 : ODoes d X fW fB W₀ p t 0 e0) (h1 : ODoes d X fW fB W₀ p t 1 e1)
    (h2 : ODoes d X fW fB W₀ p t 2 e2) (h3 : ODoes d X fW fB W₀ p t 3 e3) {α : Type} {k : PUnit → Prog (TpuEff nD τ sig (Elt F) Λ₀ .tc) α} {Q : α → sProp 𝕄} :
    iprop(oflights d X fW fB p t ∗ Owed (F := F) (SparseCore.T d) W₀)
      ⊢ iprop((iprop((ohLoc d ↦[hTile t]{fullShare} fOut X fW fB) ∗ ofree d p ∗ Owed (F := F) (SparseCore.T d) W₀)
          -∗ wp frame (wpE (defs₀ (F := F)) 𝒱₀ (SparseCore.T d) none) Set.univ (k ⟨⟩) Q)
      -∗ wp frame (wpE (defs₀ (F := F)) 𝒱₀ (SparseCore.T d) none) Set.univ (.op e0 fun _ => .op e1 fun _ => .op e2 fun _ => .op e3 k) Q) := by
  rw [oflights_eq, ofree_eq, split_oh4]
  iintro ⟨⟨Hf0, Hf1, Hf2, Hf3⟩, HO⟩ Hk
  iapply (h0 _ _ _) $$ [Hf0 HO]
  · isplitl [Hf0] <;> iassumption
  iintro ⟨⟨Hd0, Ho0⟩, Hv0, HO⟩
  iapply (h1 _ _ _) $$ [Hf1 HO]
  · isplitl [Hf1] <;> iassumption
  iintro ⟨⟨Hd1, Ho1⟩, Hv1, HO⟩
  iapply (h2 _ _ _) $$ [Hf2 HO]
  · isplitl [Hf2] <;> iassumption
  iintro ⟨⟨Hd2, Ho2⟩, Hv2, HO⟩
  iapply (h3 _ _ _) $$ [Hf3 HO]
  · isplitl [Hf3] <;> iassumption
  iintro ⟨⟨Hd3, Ho3⟩, Hv3, HO⟩
  iapply Hk
  isplitl [Hd0 Hd1 Hd2 Hd3]
  · isplitl [Hd0]; iexact Hd0
    isplitl [Hd1]; iexact Hd1
    isplitl [Hd2] <;> iassumption
  isplitr [HO]; swap; · iexact HO
  isplitr [Hv0 Hv1 Hv2 Hv3]
  · iexists _
    iapply (Entails.of_eq (split_o4 d p.val _).symm)
    isplitl [Ho0]; iexact Ho0
    isplitl [Ho1]; iexact Ho1
    isplitl [Ho2] <;> iassumption
  isplitl [Hv0]; iexact Hv0
  isplitl [Hv1]; iexact Hv1
  isplitl [Hv2] <;> iassumption

end

/-! ## The last columns -/

/-- The buffers of the last columns. -/
abbrev wtLoc (d : Dev nD) : Loc nD τ sig := (SparseCore.T d).loc cc1_scratch8
abbrev btLoc (d : Dev nD) : Loc nD τ sig := (SparseCore.T d).loc cc1_scratch9
abbrev otLoc (d : Dev nD) : Loc nD τ sig := (SparseCore.T d).loc cc1_scratch10

/-- The last columns of the weight, of the bias and of the result. -/
abbrev wtMem (inb : ∀ a, (![0, 98304] : Fin 2 → ℕ) a + S512x1696.size a ≤ S512x100000.size a) : Memref sig .tc .hbm S512x1696 .f32 :=
  wH.slice (Rect.unit (s := S512x100000) ![0, 98304] S512x1696.size inb) (fun _ => rfl)
abbrev btMem (inb : ∀ a, (![0, 98304] : Fin 2 → ℕ) a + S1x1696.size a ≤ S1x100000.size a) : Memref sig .tc .hbm S1x1696 .f32 :=
  bH.slice (Rect.unit (s := S1x100000) ![0, 98304] S1x1696.size inb) (fun _ => rfl)
abbrev otMem (inb : ∀ a, (![0, 98304] : Fin 2 → ℕ) a + S512x1696.size a ≤ S512x100000.size a) : Memref sig .tc .hbm S512x1696 .f32 :=
  oH.slice (Rect.unit (s := S512x100000) ![0, 98304] S512x1696.size inb) (fun _ => rfl)

theorem set_wtMem (inb) : (wtMem inb).view.set = hTile 48 := by
  ext i
  refine (ValueKit.mem_set_slice_whole_iff main_arg14 _ i ((Rect.mem_set_unit ..).trans (unit2 0 98304 512 1696 fun a => (i a).val))).trans ?_
  have h0 : (i 0).val < 512 := (i 0).isLt
  have h1 : (i 1).val < 100000 := (i 1).isLt
  simp only [hTile, Finset.mem_filter, Finset.mem_univ, true_and]
  omega

theorem set_otMem (inb) : (otMem inb).view.set = hTile 48 := by
  ext i
  refine (ValueKit.mem_set_slice_whole_iff main_v4 _ i ((Rect.mem_set_unit ..).trans (unit2 0 98304 512 1696 fun a => (i a).val))).trans ?_
  have h0 : (i 0).val < 512 := (i 0).isLt
  have h1 : (i 1).val < 100000 := (i 1).isLt
  simp only [hTile, Finset.mem_filter, Finset.mem_univ, true_and]
  omega

theorem set_btMem (inb) : (btMem inb).view.set = bTile 48 := by
  ext i
  refine (ValueKit.mem_set_slice_whole_iff main_v3 _ i ((Rect.mem_set_unit ..).trans (unit2 0 98304 1 1696 fun a => (i a).val))).trans ?_
  have h0 : (i 0).val < 1 := (i 0).isLt
  have h1 : (i 1).val < 100000 := (i 1).isLt
  simp only [bTile, Finset.mem_filter, Finset.mem_univ, true_and]
  omega

theorem read_wt (fW : S512x100000.Idx → Elt F .f32) (inb) : wT.view.read (Elt F) (wlast fW) = (wtMem inb).view.read (Elt F) fW := by
  funext x
  refine congrArg fW (ixW_eq _ ?_ ?_)
  · exact (ValueKit.view_emb_slice_whole_unit_val main_arg14 ![0, 98304] S512x1696.size inb x 0).trans (Nat.zero_add _)
  · exact ValueKit.view_emb_slice_whole_unit_val main_arg14 ![0, 98304] S512x1696.size inb x 1

theorem read_bt (fB : S1x100000.Idx → Elt F .f32) (inb) : bT.view.read (Elt F) (blast fB) = (btMem inb).view.read (Elt F) fB := by
  funext x
  exact congrArg fB (ixB_eq _ (ValueKit.view_emb_slice_whole_unit_val main_v3 ![0, 98304] S1x1696.size inb x 1))

theorem read_ot (X : FVec F S512x512 .f32) (fW : S512x100000.Idx → Elt F .f32) (fB : S1x100000.Idx → Elt F .f32) (inb) :
    (otMem inb).view.read (Elt F) (fOut X fW fB) = oT.view.read (Elt F) (k1_pay20 X (wlast fW) (blast fB)) := by
  funext x
  refine Eq.trans (congrArg (fOut X fW fB) (ixW_eq (i := (x 0).val) (j := 98304 + (x 1).val) _ ?_ ?_).symm) (fOut_last X fW fB x)
  · exact (ValueKit.view_emb_slice_whole_unit_val main_v4 ![0, 98304] S512x1696.size inb x 0).trans (Nat.zero_add _)
  · exact ValueKit.view_emb_slice_whole_unit_val main_v4 ![0, 98304] S512x1696.size inb x 1

/-- What a copy of the last columns counts. -/
abbrev NWT : ℕ := (cc1_scratch8 : Ref sig .tc).dmaCredit S512x1696 .f32
abbrev NBT : ℕ := (cc1_scratch9 : Ref sig .tc).dmaCredit S1x1696 .f32
abbrev NOT : ℕ := (main_v4 : Ref sig .tc).dmaCredit S512x1696 .f32

section

variable (d : Dev nD) (X : FVec F S512x512 .f32) (fW : S512x100000.Idx → Elt F .f32) (fB : S1x100000.Idx → Elt F .f32) (W₀ : Waits sig (HIx 1))

/-- The weight's last columns in flight; -/
def WTFl : sProp 𝕄 := Transfers.Flight countersEmb (SparseCore.T d) (.dma (tsem 0)) (default : HIx 1) NWT
  iprop((wtLoc d ↦[Finset.univ]{fullShare} wlast fW) ∗ (whLoc d ↦[hTile 48]{fullShare} fW))
/-- the bias's; -/
def BTFl : sProp 𝕄 := Transfers.Flight countersEmb (SparseCore.T d) (.dma (tsem 1)) (default : HIx 1) NBT
  iprop((btLoc d ↦[Finset.univ]{fullShare} blast fB) ∗ (bhLoc d ↦[bTile 48]{fullShare} fB))
/-- the result's. -/
def OTFl : sProp 𝕄 := Transfers.Flight countersEmb (SparseCore.T d) (.dma (tsem 2)) (default : HIx 1) NOT
  iprop((ohLoc d ↦[hTile 48]{fullShare} fOut X fW fB) ∗ (otLoc d ↦[Finset.univ]{fullShare} k1_pay20 X (wlast fW) (blast fB)))

/-- The weight's last columns fetched; -/
theorem issue_wt {inbS : ∀ a, (![0] : Fin 1 → ℕ) a + S1.size a ≤ S3.size a} {inb} {hsrc hdst hsem} (fd : Buf (Elt F) (wtLoc d)) :
    Does d (.enqueueDma (wtMem inb) (.here wT) (.dma ((cc1_scratch14.slice (Rect.unit (s := S3) ![0] S1.size inbS)).squeeze S_ squeezes_S1_S_).sem) hsrc hdst hsem)
      iprop((whLoc d ↦[hTile 48]{fullShare} fW) ∗ (wtLoc d ↦[Finset.univ]{fullShare} fd) ∗ semVal (SparseCore.T d, .dma (tsem 0)) 0) (WTFl d fW) := by
  revert hsem; rw [tsem_eq _ inbS 0 rfl]; intro hsem α k Q
  exact issue defs₀ 𝒱₀ (SparseCore.T d) none (src := wtMem inb) (dst := wT) (g := wlast fW) NWT rfl (by decide) (read_wt fW inb) (View.set_whole _) (set_wtMem inb)

/-- the bias's; -/
theorem issue_bt {inbS : ∀ a, (![1] : Fin 1 → ℕ) a + S1.size a ≤ S3.size a} {inb} {hsrc hdst hsem} (fd : Buf (Elt F) (btLoc d)) :
    Does d (.enqueueDma (btMem inb) (.here bT) (.dma ((cc1_scratch14.slice (Rect.unit (s := S3) ![1] S1.size inbS)).squeeze S_ squeezes_S1_S_).sem) hsrc hdst hsem)
      iprop((bhLoc d ↦[bTile 48]{fullShare} fB) ∗ (btLoc d ↦[Finset.univ]{fullShare} fd) ∗ semVal (SparseCore.T d, .dma (tsem 1)) 0) (BTFl d fB) := by
  revert hsem; rw [tsem_eq _ inbS 1 rfl]; intro hsem α k Q
  exact issue defs₀ 𝒱₀ (SparseCore.T d) none (src := btMem inb) (dst := bT) (g := blast fB) NBT rfl (by decide) (read_bt fB inb) (View.set_whole _) (set_btMem inb)

/-- the result's written out. -/
theorem issue_ot {inbS : ∀ a, (![2] : Fin 1 → ℕ) a + S1.size a ≤ S3.size a} {inb} {hsrc hdst hsem} (fd : Buf (Elt F) (ohLoc d)) :
    Does d (.enqueueDma oT (.here (otMem inb)) (.dma ((cc1_scratch14.slice (Rect.unit (s := S3) ![2] S1.size inbS)).squeeze S_ squeezes_S1_S_).sem) hsrc hdst hsem)
      iprop((otLoc d ↦[Finset.univ]{fullShare} k1_pay20 X (wlast fW) (blast fB)) ∗ (ohLoc d ↦[hTile 48]{fullShare} fd) ∗ semVal (SparseCore.T d, .dma (tsem 2)) 0)
      (OTFl d X fW fB) := by
  revert hsem; rw [tsem_eq _ inbS 2 rfl]; intro hsem α k Q
  exact issue defs₀ 𝒱₀ (SparseCore.T d) none (src := oT) (dst := otMem inb) (g := fOut X fW fB) NOT rfl (by decide) (read_ot X fW fB inb) (set_otMem inb) (View.set_whole _)

/-- A wait of one of these copies. -/
theorem wait_t (i : Fin 3) (N : ℕ) (Y : sProp 𝕄) {off : Fin 1 → ℕ} {inbS : ∀ a, off a + S1.size a ≤ S3.size a} (h : off = ![i.val])
    {sp sp' : Space} {s₁ s₂ : Shape} {e₁ e₂ : EltTy} {src : Memref sig .tc sp s₁ e₁} {dst : Memref sig .tc sp' s₂ e₂}
    {hsrc : src.view.WordExact} {hdst : dst.view.WordExact} (hN : dst.view.dmaCredit = N) :
    Does d (.waitDma2 ((cc1_scratch14.slice (Rect.unit (s := S3) off S1.size inbS)).squeeze S_ squeezes_S1_S_).sem src dst hsrc hdst)
      iprop(Transfers.Flight countersEmb (SparseCore.T d) (.dma (tsem i)) (default : HIx 1) N Y ∗ Owed (F := F) (SparseCore.T d) W₀)
      iprop(Y ∗ semVal (SparseCore.T d, .dma (tsem i)) 0 ∗ Owed (F := F) (SparseCore.T d) W₀) := by
  intro α k Q
  rw [tsem_eq off inbS i h]
  exact await defs₀ 𝒱₀ (SparseCore.T d) none N hN W₀

/-- The wait for the weight's last columns leaves them and lends the weight back; -/
theorem wait_wt {inbS : ∀ a, (![0] : Fin 1 → ℕ) a + S1.size a ≤ S3.size a} {inb} {hsrc hdst} :
    Does d (.waitDma2 ((cc1_scratch14.slice (Rect.unit (s := S3) ![0] S1.size inbS)).squeeze S_ squeezes_S1_S_).sem (wtMem inb) wT hsrc hdst)
      iprop(WTFl d fW ∗ Owed (F := F) (SparseCore.T d) W₀)
      iprop(((wtLoc d ↦[Finset.univ]{fullShare} wlast fW) ∗ (whLoc d ↦[hTile 48]{fullShare} fW)) ∗ semVal (SparseCore.T d, .dma (tsem 0)) 0
        ∗ Owed (F := F) (SparseCore.T d) W₀) := wait_t d W₀ 0 NWT _ rfl rfl

/-- the bias's; -/
theorem wait_bt {inbS : ∀ a, (![1] : Fin 1 → ℕ) a + S1.size a ≤ S3.size a} {inb} {hsrc hdst} :
    Does d (.waitDma2 ((cc1_scratch14.slice (Rect.unit (s := S3) ![1] S1.size inbS)).squeeze S_ squeezes_S1_S_).sem (btMem inb) bT hsrc hdst)
      iprop(BTFl d fB ∗ Owed (F := F) (SparseCore.T d) W₀)
      iprop(((btLoc d ↦[Finset.univ]{fullShare} blast fB) ∗ (bhLoc d ↦[bTile 48]{fullShare} fB)) ∗ semVal (SparseCore.T d, .dma (tsem 1)) 0
        ∗ Owed (F := F) (SparseCore.T d) W₀) := wait_t d W₀ 1 NBT _ rfl rfl

/-- the result's. -/
theorem wait_ot {inbS : ∀ a, (![2] : Fin 1 → ℕ) a + S1.size a ≤ S3.size a} {inb} {hsrc hdst} :
    Does d (.waitDma2 ((cc1_scratch14.slice (Rect.unit (s := S3) ![2] S1.size inbS)).squeeze S_ squeezes_S1_S_).sem oT (otMem inb) hsrc hdst)
      iprop(OTFl d X fW fB ∗ Owed (F := F) (SparseCore.T d) W₀)
      iprop(((ohLoc d ↦[hTile 48]{fullShare} fOut X fW fB) ∗ (otLoc d ↦[Finset.univ]{fullShare} k1_pay20 X (wlast fW) (blast fB)))
        ∗ semVal (SparseCore.T d, .dma (tsem 2)) 0 ∗ Owed (F := F) (SparseCore.T d) W₀) := wait_t d W₀ 2 NOT _ rfl rfl

end

end Cert.Proof.Slots
-- ==== Proof.Loop.lean ====
/-
  The second kernel's loop over the weight's tiles: before each trip, the tiles already stored, the two on their way out,
  the six being fetched, and the ones still to come.
-/
module

public import proofs.«01_k».proof.Proof.Tiles

@[expose] public section

set_option maxRecDepth 16384

noncomputable section

namespace Cert.Proof.Loop

open Cert.KernelIdeal Cert.KernelIdeal.Gen Cert.Proof.Base Cert.Proof.Ring Cert.Proof.Tiles

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A family over `Fin n` is its component at `a` (nothing where `a` is past the end) and the others. -/
theorem take (n a : ℕ) (Φ : ℕ → sProp 𝕄) : (bigSep (Finset.univ : Finset (Fin n)) fun t => Φ t.val)
    = iprop((if a < n then Φ a else iprop(emp)) ∗ bigSep (Finset.univ : Finset (Fin n)) fun t => if t.val = a then iprop(emp) else Φ t.val) := by
  by_cases ha : a < n
  · rw [if_pos ha, bigSep_univ_split (⟨a, ha⟩ : Fin n) (Φ := fun t => Φ t.val), bigSep_univ_split (⟨a, ha⟩ : Fin n) (Φ := fun t => if t.val = a then iprop(emp) else Φ t.val),
      bigSep_congr (s := Finset.univ.erase (⟨a, ha⟩ : Fin n)) (Φ := fun t => if t.val = a then iprop(emp) else Φ t.val) (Ψ := fun t => Φ t.val)
        fun t ht => if_neg fun e => Finset.ne_of_mem_erase ht (Fin.ext e)]
    rw [if_pos rfl]
    exact congrArg _ (emp_sep_eq _).symm
  · rw [if_neg ha, bigSep_congr (Φ := fun t : Fin n => if t.val = a then iprop(emp) else Φ t.val) (Ψ := fun t => Φ t.val) fun t _ => if_neg fun e => ha (lt_of_eq_of_lt e.symm t.isLt)]
    exact (emp_sep_eq _).symm

/-- A family over `Fin (m + n)` cut after its first `m`. -/
theorem cut (m n : ℕ) (Φ : ℕ → sProp 𝕄) : (bigSep (Finset.univ : Finset (Fin (m + n))) fun t => Φ t.val)
    = iprop((bigSep (Finset.univ : Finset (Fin m)) fun t => Φ t.val) ∗ (bigSep (Finset.univ : Finset (Fin n)) fun t => Φ (m + t.val))) :=
  (bigSep_univ_equiv (finSumFinEquiv (m := m) (n := n)) (fun t : Fin (m + n) => Φ t.val)).trans (bigSep_univ_sum _)

theorem two (Φ : ℕ → sProp 𝕄) : (bigSep (Finset.univ : Finset (Fin 2)) fun t => Φ t.val) = iprop(Φ 0 ∗ Φ 1) := bigSep_fin_two _

/-- Two components taken out, to be put back as another family's, where the families agree elsewhere. -/
theorem focus (n a b : ℕ) (hab : b ≠ a) (Φ Φ' : ℕ → sProp 𝕄) (h : ∀ t, t < n → t ≠ a → t ≠ b → Φ t = Φ' t) :
    (bigSep (Finset.univ : Finset (Fin n)) fun t => Φ t.val)
      ⊢ iprop((if a < n then Φ a else iprop(emp)) ∗ (if b < n then Φ b else iprop(emp))
        ∗ (iprop((if a < n then Φ' a else iprop(emp)) ∗ (if b < n then Φ' b else iprop(emp))) -∗ bigSep (Finset.univ : Finset (Fin n)) fun t => Φ' t.val)) := by
  rw [take n a Φ, take n b (fun t => if t = a then iprop(emp) else Φ t), take n a Φ', take n b (fun t => if t = a then iprop(emp) else Φ' t), if_neg hab, if_neg hab,
    bigSep_congr (Φ := fun t : Fin n => if t.val = b then iprop(emp) else if t.val = a then iprop(emp) else Φ t.val)
      (Ψ := fun t => if t.val = b then iprop(emp) else if t.val = a then iprop(emp) else Φ' t.val) fun t _ => by
        by_cases hb : t.val = b
        · rw [if_pos hb, if_pos hb]
        by_cases ha : t.val = a
        · rw [if_pos ha, if_pos ha]
        rw [if_neg hb, if_neg hb, if_neg ha, if_neg ha, h t.val t.isLt ha hb]]
  iintro ⟨Ha, Hb, HR⟩
  isplitl [Ha]; iexact Ha
  isplitl [Hb]; iexact Hb
  iintro ⟨Ha, Hb⟩
  isplitl [Ha]; iexact Ha
  isplitl [Hb] <;> iassumption

section

variable (d : Dev nD) (X : FVec F S512x512 .f32) (fW : S512x100000.Idx → Elt F .f32) (fB : S1x100000.Idx → Elt F .f32) (fO : S512x100000.Idx → Elt F .f32)
variable (W₀ : Waits sig (HIx 1))

/-- Weight tile `t` before trip `k`: in flight if it is one of the next six, else at rest; -/
def WT (k t : ℕ) : sProp 𝕄 := if t < k then srcs d fW fB t else if t < k + 6 then flights d fW fB (sl t) t else srcs d fW fB t
/-- weight slot `s` once no tile is left for it; -/
def FT (k s : ℕ) : sProp 𝕄 := if 42 + s < k then free d (sl s) else iprop(emp)
/-- result tile `t` before trip `k`: stored, on its way out, or still to come; -/
def OT (k t : ℕ) : sProp 𝕄 := if t + 2 < k then ohLoc d ↦[hTile t]{fullShare} fOut X fW fB else if t < k then oflights d X fW fB (pl t) t else ohLoc d ↦[hTile t]{fullShare} fO
/-- result slot `p` before any tile has used it. -/
def PT (k p : ℕ) : sProp 𝕄 := if k ≤ p then ofree d (pl p) else iprop(emp)

/-- What is held before trip `k`. -/
def inv (k : ℕ) : sProp 𝕄 :=
  iprop((bigSep (Finset.univ : Finset (Fin 48)) fun t => WT d fW fB k t.val) ∗ (bigSep (Finset.univ : Finset (Fin 6)) fun s => FT (F := F) d k s.val)
    ∗ (bigSep (Finset.univ : Finset (Fin 48)) fun t => OT d X fW fB fO k t.val) ∗ (bigSep (Finset.univ : Finset (Fin 2)) fun p => PT (F := F) d k p.val)
    ∗ (xbLoc d ↦{fullShare} X) ∗ Owed (F := F) (SparseCore.T d) W₀)

theorem sl_add (k : ℕ) : sl (k + 6) = sl k := Fin.ext (show (k + 6) % 6 = k % 6 by omega)

/-- The weight's tiles and slots through trip `k`. -/
theorem step_w (k : ℕ) (hk : k < 48) :
    iprop((bigSep (Finset.univ : Finset (Fin 48)) fun t => WT d fW fB k t.val) ∗ (bigSep (Finset.univ : Finset (Fin 6)) fun s => FT (F := F) d k s.val))
      ⊢ iprop(flights d fW fB (sl k) k ∗ (if k + 6 < 48 then srcs d fW fB (k + 6) else emp)
        ∗ ((srcs d fW fB k ∗ (if k + 6 < 48 then flights d fW fB (sl k) (k + 6) else free d (sl k)))
          -∗ ((bigSep (Finset.univ : Finset (Fin 48)) fun t => WT d fW fB (k + 1) t.val) ∗ (bigSep (Finset.univ : Finset (Fin 6)) fun s => FT (F := F) d (k + 1) s.val)))) := by
  have e1 : WT d fW fB k k = flights d fW fB (sl k) k := by rw [WT, if_neg (by omega), if_pos (by omega)]
  have e2 : WT d fW fB (k + 1) k = srcs d fW fB k := by rw [WT, if_pos (by omega)]
  have e3 : WT d fW fB k (k + 6) = srcs d fW fB (k + 6) := by rw [WT, if_neg (by omega), if_neg (by omega)]
  have e4 : WT d fW fB (k + 1) (k + 6) = flights d fW fB (sl k) (k + 6) := by rw [WT, if_neg (by omega), if_pos (by omega), sl_add]
  have f1 := focus (F := F) 48 k (k + 6) (by omega) (WT d fW fB k) (WT d fW fB (k + 1)) (fun t _ ht ht' => by
    simp only [WT, show (t < k + 1) = (t < k) from propext ⟨fun h => by omega, fun h => by omega⟩,
      show (t < k + 1 + 6) = (t < k + 6) from propext ⟨fun h => by omega, fun h => by omega⟩])
  rw [if_pos hk, if_pos hk, e1, e2, e3, e4] at f1
  have f2 : (bigSep (Finset.univ : Finset (Fin 6)) fun s => FT (F := F) d k s.val)
      ⊢ iprop((if k + 6 < 48 then iprop(emp) else free d (sl k)) -∗ bigSep (Finset.univ : Finset (Fin 6)) fun s => FT (F := F) d (k + 1) s.val) := by
    by_cases h : k + 6 < 48
    · rw [if_pos h, bigSep_congr (Φ := fun s : Fin 6 => FT (F := F) d k s.val) (Ψ := fun s => FT (F := F) d (k + 1) s.val) fun s _ => by
        rw [FT, FT, if_neg (by omega), if_neg (by omega)]]
      iintro HF -
      iexact HF
    · have e : k - 42 < 6 := by omega
      have e5 : FT (F := F) d (k + 1) (k - 42) = free d (sl k) := by
        rw [FT, if_pos (by omega), show sl (k - 42) = sl k from Fin.ext (show (k - 42) % 6 = k % 6 by omega)]
      have e6 : FT (F := F) d k (k - 42) = iprop(emp) := by rw [FT, if_neg (by omega)]
      have f := focus (F := F) 6 (k - 42) 6 (by omega) (FT d k) (FT d (k + 1)) (fun s hs hne _ => by
        simp only [FT, show (42 + s < k + 1) = (42 + s < k) from propext ⟨fun h => by omega, fun h => by omega⟩])
      rw [if_pos e, if_pos e, if_neg (by decide), if_neg (by decide), e5, e6] at f
      rw [if_neg h]
      iintro HF Hs
      ihave HF := f $$ HF
      icases HF with ⟨-, -, HF⟩
      iapply HF
      isplitl [Hs]; iexact Hs
      iempintro
  iintro ⟨HW, HF⟩
  ihave HW := f1 $$ HW
  ihave HF := f2 $$ HF
  icases HW with ⟨Hk, Hn, HW⟩
  isplitl [Hk]; iexact Hk
  isplitl [Hn]; iexact Hn
  iintro ⟨Hs, Hx⟩
  by_cases h : k + 6 < 48
  · simp only [if_pos h]
    isplitl [HW Hs Hx]
    · iapply HW
      isplitl [Hs] <;> iassumption
    iapply HF
    iempintro
  · simp only [if_neg h]
    isplitl [HW Hs]
    · iapply HW
      isplitl [Hs]; iexact Hs
      iempintro
    iapply HF
    iexact Hx

/-- The result's tiles and slots through trip `k`. -/
theorem step_o (k : ℕ) (hk : k < 48) :
    iprop((bigSep (Finset.univ : Finset (Fin 48)) fun t => OT d X fW fB fO k t.val) ∗ (bigSep (Finset.univ : Finset (Fin 2)) fun p => PT (F := F) d k p.val))
      ⊢ iprop((if 2 ≤ k then oflights d X fW fB (pl k) (k - 2) else ofree d (pl k)) ∗ (ohLoc d ↦[hTile k]{fullShare} fO)
        ∗ (iprop(oflights d X fW fB (pl k) k ∗ (if 2 ≤ k then ohLoc d ↦[hTile (k - 2)]{fullShare} fOut X fW fB else emp))
          -∗ ((bigSep (Finset.univ : Finset (Fin 48)) fun t => OT d X fW fB fO (k + 1) t.val) ∗ (bigSep (Finset.univ : Finset (Fin 2)) fun p => PT (F := F) d (k + 1) p.val)))) := by
  have e1 : OT d X fW fB fO k k = (ohLoc d ↦[hTile k]{fullShare} fO) := by rw [OT, if_neg (by omega), if_neg (by omega)]
  have e2 : OT d X fW fB fO (k + 1) k = oflights d X fW fB (pl k) k := by rw [OT, if_neg (by omega), if_pos (by omega)]
  by_cases h : 2 ≤ k
  · have e3 : OT d X fW fB fO k (k - 2) = oflights d X fW fB (pl k) (k - 2) := by
      rw [OT, if_neg (by omega), if_pos (by omega), show pl (k - 2) = pl k from Fin.ext (show (k - 2) % 2 = k % 2 by omega)]
    have e4 : OT d X fW fB fO (k + 1) (k - 2) = (ohLoc d ↦[hTile (k - 2)]{fullShare} fOut X fW fB) := by rw [OT, if_pos (by omega)]
    have f1 := focus (F := F) 48 k (k - 2) (by omega) (OT d X fW fB fO k) (OT d X fW fB fO (k + 1)) (fun t _ ht ht' => by
      simp only [OT, show (t < k + 1) = (t < k) from propext ⟨fun h => by omega, fun h => by omega⟩,
        show (t + 2 < k + 1) = (t + 2 < k) from propext ⟨fun h => by omega, fun h => by omega⟩])
    rw [if_pos hk, if_pos hk, if_pos (by omega : k - 2 < 48), if_pos (by omega : k - 2 < 48), e1, e2, e3, e4] at f1
    rw [if_pos h, if_pos h, bigSep_congr (Φ := fun p : Fin 2 => PT (F := F) d k p.val) (Ψ := fun p => PT (F := F) d (k + 1) p.val) fun p _ => by
        rw [PT, PT, if_neg (by omega), if_neg (by omega)]]
    iintro ⟨HO, HP⟩
    ihave HO := f1 $$ HO
    icases HO with ⟨Hk, Hp, HO⟩
    isplitl [Hp]; iexact Hp
    isplitl [Hk]; iexact Hk
    iintro ⟨Hk, Hp⟩
    isplitl [HO Hk Hp]
    · iapply HO
      isplitl [Hk] <;> iassumption
    iexact HP
  · have f1 := focus (F := F) 48 k 48 (by omega) (OT d X fW fB fO k) (OT d X fW fB fO (k + 1)) (fun t _ ht ht' => by
      simp only [OT, show (t < k + 1) = (t < k) from propext ⟨fun h => by omega, fun h => by omega⟩,
        show (t + 2 < k + 1) = (t + 2 < k) from propext ⟨fun h => by omega, fun h => by omega⟩])
    rw [if_pos hk, if_pos hk, if_neg (by decide), if_neg (by decide), e1, e2] at f1
    have f2 := focus (F := F) 2 k 2 (by omega) (PT d k) (PT d (k + 1)) (fun p hp hne _ => by
      simp only [PT, show (k + 1 ≤ p) = (k ≤ p) from propext ⟨fun h => by omega, fun h => by omega⟩])
    have e3 : PT (F := F) d k k = ofree d (pl k) := by rw [PT, if_pos (by omega)]
    have e4 : PT (F := F) d (k + 1) k = iprop(emp) := by rw [PT, if_neg (by omega)]
    rw [if_pos (by omega : k < 2), if_pos (by omega : k < 2), if_neg (by decide), if_neg (by decide), e3, e4] at f2
    rw [if_neg h, if_neg h]
    iintro ⟨HO, HP⟩
    ihave HO := f1 $$ HO
    icases HO with ⟨Hk, -, HO⟩
    ihave HP := f2 $$ HP
    icases HP with ⟨Hp, -, HP⟩
    isplitl [Hp]; iexact Hp
    isplitl [Hk]; iexact Hk
    iintro ⟨Hk, -⟩
    isplitl [HO Hk]
    · iapply HO
      isplitl [Hk]; iexact Hk
      iempintro
    iapply HP
    isplitl []
    · iempintro
    iempintro

/-- The invariant through one trip. -/
theorem inv_trip (k : Fin k1_t4_loop.trips) :
    inv d X fW fB fO W₀ k.val ⊢ wp frame (wpE (defs₀ (F := F)) 𝒱₀ (SparseCore.T d) none) Set.univ (tbody k ()) fun _ => inv d X fW fB fO W₀ (k.val + 1) := by
  unfold inv
  iintro ⟨HW, HF, HO, HP, HX, HE⟩
  ihave Hw := (step_w d fW fB k.val k.isLt) $$ [HW HF]
  · isplitl [HW] <;> iassumption
  icases Hw with ⟨Hk, Hn, Hw⟩
  ihave Ho := (step_o d X fW fB fO k.val k.isLt) $$ [HO HP]
  · isplitl [HO] <;> iassumption
  icases Ho with ⟨Hp, Hd, Ho⟩
  iapply (wp_wand_r frame _ _)
  isplitl [Hk HX Hp Hd Hn HE]
  · iapply (trip d X fW fB fO W₀ k)
    isplitl [Hk]; iexact Hk
    isplitl [HX]; iexact HX
    isplitl [Hp]; iexact Hp
    isplitl [Hd]; iexact Hd
    isplitl [Hn] <;> iassumption
  iintro %_ ⟨Hs, Hx, HX, Hof, Hd, HE⟩
  ihave HW := Hw $$ [Hs Hx]
  · isplitl [Hs] <;> iassumption
  icases HW with ⟨HW, HF⟩
  ihave HO := Ho $$ [Hof Hd]
  · isplitl [Hof] <;> iassumption
  icases HO with ⟨HO, HP⟩
  isplitl [HW]; iexact HW
  isplitl [HF]; iexact HF
  isplitl [HO]; iexact HO
  isplitl [HP]; iexact HP
  isplitl [HX] <;> iassumption

/-- The six tiles being fetched before the first trip, and the others at rest, as the invariant's tiles. -/
theorem inv_start_w : iprop((bigSep (Finset.univ : Finset (Fin 6)) fun s => flights d fW fB s s.val)
      ∗ bigSep (Finset.univ : Finset (Fin 42)) fun t => srcs d fW fB (t.val + 6))
    ⊢ bigSep (Finset.univ : Finset (Fin 48)) fun t => WT d fW fB 0 t.val := by
  rw [show (bigSep (Finset.univ : Finset (Fin 48)) fun t => WT d fW fB 0 t.val) = _ from cut 6 42 (WT d fW fB 0)]
  refine BIClass.sep_mono (Entails.of_eq (bigSep_congr fun s _ => ?_)) (Entails.of_eq (bigSep_congr fun t _ => ?_))
  · show _ = WT d fW fB 0 s.val
    rw [WT, if_neg (by omega), if_pos (by omega), show sl s.val = s from Fin.ext (show s.val % 6 = s.val by omega)]
  · show _ = WT d fW fB 0 (6 + t.val)
    rw [WT, if_neg (by omega), if_neg (by omega), Nat.add_comm]

/-- The invariant before the first trip. -/
theorem inv_start :
    iprop((bigSep (Finset.univ : Finset (Fin 6)) fun s => flights d fW fB s s.val) ∗ (bigSep (Finset.univ : Finset (Fin 42)) fun t => srcs d fW fB (t.val + 6))
        ∗ (bigSep (Finset.univ : Finset (Fin 48)) fun t => ohLoc d ↦[hTile t.val]{fullShare} fO) ∗ ofree d 0 ∗ ofree d 1
        ∗ (xbLoc d ↦{fullShare} X) ∗ Owed (F := F) (SparseCore.T d) W₀)
      ⊢ inv d X fW fB fO W₀ 0 := by
  unfold inv
  iintro ⟨HW, HS, HO, Hp0, Hp1, HX, HE⟩
  isplitl [HW HS]
  · iapply (inv_start_w d fW fB)
    isplitl [HW] <;> iassumption
  isplitl []
  · iapply (Entails.of_eq ((bigSep_congr (Ψ := fun _ => iprop(emp)) fun s _ => by rw [FT, if_neg (by omega)]).trans (bigSep_emp_const _)).symm)
    iempintro
  isplitl [HO]
  · iapply (Entails.of_eq (bigSep_congr (Φ := fun t : Fin 48 => ohLoc d ↦[hTile t.val]{fullShare} fO) (Ψ := fun t => OT d X fW fB fO 0 t.val) fun t _ => by
      rw [OT, if_neg (by omega), if_neg (by omega)]))
    iexact HO
  isplitl [Hp0 Hp1]
  · iapply (Entails.of_eq (two (PT (F := F) d 0)).symm)
    isplitl [Hp0]
    · iapply (Entails.of_eq (show ofree (F := F) d 0 = PT d 0 0 by rw [PT, if_pos (by decide)]; rfl)); iexact Hp0
    · iapply (Entails.of_eq (show ofree (F := F) d 1 = PT d 0 1 by rw [PT, if_pos (by decide)]; rfl)); iexact Hp1
  isplitl [HX] <;> iassumption

/-- The invariant after the last trip: every tile at rest, the slots idle, the last two results on their way out. -/
theorem inv_end : inv d X fW fB fO W₀ 48
    ⊢ iprop((bigSep (Finset.univ : Finset (Fin 48)) fun t => srcs d fW fB t.val) ∗ (bigSep (Finset.univ : Finset (Fin 6)) fun s => free (F := F) d s)
        ∗ (bigSep (Finset.univ : Finset (Fin 46)) fun t => ohLoc d ↦[hTile t.val]{fullShare} fOut X fW fB) ∗ oflights d X fW fB 0 46 ∗ oflights d X fW fB 1 47
        ∗ (xbLoc d ↦{fullShare} X) ∗ Owed (F := F) (SparseCore.T d) W₀) := by
  unfold inv
  iintro ⟨HW, HF, HO, -, HX, HE⟩
  isplitl [HW]
  · iapply (Entails.of_eq (bigSep_congr (Φ := fun t : Fin 48 => WT d fW fB 48 t.val) (Ψ := fun t => srcs d fW fB t.val) fun t _ => by rw [WT, if_pos t.isLt]))
    iexact HW
  isplitl [HF]
  · iapply (Entails.of_eq (bigSep_congr (Φ := fun s : Fin 6 => FT (F := F) d 48 s.val) (Ψ := fun s => free d s) fun s _ => by
      rw [FT, if_pos (by omega), show sl s.val = s from Fin.ext (show s.val % 6 = s.val by omega)]))
    iexact HF
  ihave HO := (Entails.of_eq (cut 46 2 (OT d X fW fB fO 48))) $$ HO
  icases HO with ⟨HO, HT⟩
  ihave HT := (Entails.of_eq (two fun t => OT d X fW fB fO 48 (46 + t))) $$ HT
  icases HT with ⟨H0, H1⟩
  isplitl [HO]
  · iapply (Entails.of_eq (bigSep_congr (Φ := fun t : Fin 46 => OT d X fW fB fO 48 t.val) (Ψ := fun t => ohLoc d ↦[hTile t.val]{fullShare} fOut X fW fB) fun t _ => by
      rw [OT, if_pos (by omega)]))
    iexact HO
  isplitl [H0]
  · iapply (Entails.of_eq (show OT d X fW fB fO 48 46 = oflights d X fW fB 0 46 by rw [OT, if_neg (by decide), if_pos (by decide)]; rfl)); iexact H0
  isplitl [H1]
  · iapply (Entails.of_eq (show OT d X fW fB fO 48 47 = oflights d X fW fB 1 47 by rw [OT, if_neg (by decide), if_pos (by decide)]; rfl)); iexact H1
  isplitl [HX] <;> iassumption

end

end Cert.Proof.Loop

end
-- ==== Proof.Body.lean ====
/-
  The second kernel's body: the weight's first six tiles and its last columns fetched, the recurrences run, the tiles'
  products sent out one by one, the last columns' product, and every copy drained.
-/
module

public import proofs.«01_k».proof.Proof.Slots
public import proofs.«01_k».proof.Proof.Loop

@[expose] public section

set_option maxRecDepth 16384

noncomputable section

namespace Cert.Proof.Body

open Cert.KernelIdeal Cert.KernelIdeal.Gen Cert.Proof.Base Cert.Proof.Ring Cert.Proof.Tiles Cert.Proof.Gru Cert.Proof.Slots Cert.Proof.Loop

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem bigSep_fin6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide) Φ]
  rfl

/-- A triple at the head of a program. -/
theorem wp_seq (d : Dev nD) {α β : Type} {p : Prog (TpuEff nD τ sig (Elt F) Λ₀ .tc) β} {P : sProp 𝕄} {Φ : β → sProp 𝕄}
    (h : P ⊢ wp frame (wpE (defs₀ (F := F)) 𝒱₀ (SparseCore.T d) none) Set.univ p Φ) {k : β → Prog (TpuEff nD τ sig (Elt F) Λ₀ .tc) α} {Q : α → sProp 𝕄} :
    P ⊢ iprop((∀ a, Φ a -∗ wp frame (wpE (defs₀ (F := F)) 𝒱₀ (SparseCore.T d) none) Set.univ (k a) Q)
      -∗ wp frame (wpE (defs₀ (F := F)) 𝒱₀ (SparseCore.T d) none) Set.univ (p >>= k) Q) := by
  rw [wp_bind]
  iintro HP Hk
  iapply (wp_wand_r frame _ _)
  isplitl [HP]
  · iapply h
    iexact HP
  · iexact Hk

section

variable (d : Dev nD)

/-- Of 48 components the last two set apart. -/
theorem last_two (Φ : ℕ → sProp 𝕄) : iprop((bigSep (Finset.univ : Finset (Fin 46)) fun t => Φ t.val) ∗ Φ 46 ∗ Φ 47)
    ⊢ (bigSep (Finset.univ : Finset (Fin 48)) fun t => Φ t.val) := by
  refine .trans ?_ (Entails.of_eq (cut 46 2 Φ).symm)
  iintro ⟨H, H0, H1⟩
  isplitl [H]; iexact H
  iapply (Entails.of_eq (two fun t => Φ (46 + t)).symm)
  isplitl [H0]
  · iexact H0
  · iexact H1

/-- The body's own buffers at anything, with nothing in flight. -/
def scr : sProp 𝕄 :=
  iprop((∃ f, hold d mG f) ∗ (∃ f, hold d mG' f) ∗ (∃ f, hold d mX f) ∗ (∃ f, hold d mC f) ∗ (∃ f, hold d mB f)
    ∗ (bigSep Finset.univ fun s : Fin 6 => free (F := F) d s) ∗ ofree d 0 ∗ ofree d 1
    ∗ (∃ f : Buf (Elt F) (wtLoc d), wtLoc d ↦[Finset.univ]{fullShare} f) ∗ (∃ f : Buf (Elt F) (btLoc d), btLoc d ↦[Finset.univ]{fullShare} f)
    ∗ (∃ f : Buf (Elt F) (otLoc d), otLoc d ↦[Finset.univ]{fullShare} f)
    ∗ semVal (SparseCore.T d, .dma (tsem 0)) 0 ∗ semVal (SparseCore.T d, .dma (tsem 1)) 0 ∗ semVal (SparseCore.T d, .dma (tsem 2)) 0)

/-- The second kernel's body, over its operands. -/
abbrev body := cc1__fused_body (F := F) (win1_0.stage 0) (hstage1_0 0) (win1_1.stage 0) (hstage1_1 0) (win1_2.stage 0) (hstage1_2 0) (win1_3.stage 0) (hstage1_3 0)
  (win1_4.stage 0) (hstage1_4 0) (win1_5.stage 0) (hstage1_5 0) (win1_6.stage 0) (hstage1_6 0) (win1_7.stage 0) (hstage1_7 0)
  (win1_8.stage 0) (hstage1_8 0) (win1_9.stage 0) (hstage1_9 0) (win1_10.stage 0) (hstage1_10 0) (win1_11.stage 0) (hstage1_11 0)
  (win1_12.stage 0) (hstage1_12 0) wH (Memref.isWhole_whole _) bH (Memref.isWhole_whole _) oH (Memref.isWhole_whole _)
  mG (Memref.isWhole_whole _) mG' (Memref.isWhole_whole _) mX (Memref.isWhole_whole _)
  mC (Memref.isWhole_whole _) mB (Memref.isWhole_whole _) wV (Memref.isWhole_whole _) bV (Memref.isWhole_whole _)
  oV (Memref.isWhole_whole _) wT (Memref.isWhole_whole _) bT (Memref.isWhole_whole _) oT (Memref.isWhole_whole _)
  cc1_scratch11 cc1_scratch12 cc1_scratch13 cc1_scratch14

variable (e : FVec F S512x128 .f32) (W1 : FVec F S128x768 .f32) (R1 W2 R2 W3 R3 W4 R4 : FVec F S256x768 .f32) (b1 b2 b3 b4 : FVec F S2x768 .f32)
  (fW : S512x100000.Idx → Elt F .f32) (fB : S1x100000.Idx → Elt F .f32) (fO : S512x100000.Idx → Elt F .f32) (W₀ : Waits sig (HIx 1))

/-- The features, from the embeddings. -/
abbrev feats : FVec F S512x512 .f32 := feat (layer (layer1 e W1 R1 b1) W2 R2 b2) W3 R3 b3 W4 R4 b4

/-- The body: the result's tiles become those of the features' product with the weight and the bias. -/
theorem run :
    iprop((hold d (win1_0.stage 0) e ∗ hold d (win1_1.stage 0) W1 ∗ params d W2 R1 R2 W3 R3 W4 R4 b1 b2 b3 b4) ∗ scr (F := F) d
        ∗ (bigSep (Finset.univ : Finset (Fin 48)) fun t => srcs d fW fB t.val) ∗ srcs d fW fB 48
        ∗ (bigSep (Finset.univ : Finset (Fin 48)) fun t => ohLoc d ↦[hTile t.val]{fullShare} fO) ∗ (ohLoc d ↦[hTile 48]{fullShare} fO)
        ∗ Owed (F := F) (SparseCore.T d) W₀)
      ⊢ wp frame (wpE (defs₀ (F := F)) 𝒱₀ (SparseCore.T d) none) Set.univ body fun _ =>
        iprop((hold d (win1_0.stage 0) e ∗ hold d (win1_1.stage 0) W1 ∗ params d W2 R1 R2 W3 R3 W4 R4 b1 b2 b3 b4) ∗ scr (F := F) d
          ∗ (bigSep (Finset.univ : Finset (Fin 48)) fun t => srcs d fW fB t.val) ∗ srcs d fW fB 48
          ∗ (bigSep (Finset.univ : Finset (Fin 48)) fun t => ohLoc d ↦[hTile t.val]{fullShare} fOut (feats e W1 R1 W2 R2 W3 R3 W4 R4 b1 b2 b3 b4) fW fB)
          ∗ (ohLoc d ↦[hTile 48]{fullShare} fOut (feats e W1 R1 W2 R2 W3 R3 W4 R4 b1 b2 b3 b4) fW fB)
          ∗ Owed (F := F) (SparseCore.T d) W₀) := by
  unfold body
  rw [cc1__fused_body_eq_skeleton]
  unfold cc1__fused_body_skel
  simp only [k1_part5_eq_skeleton, k1_part6_eq_skeleton, k1_part7_eq_skeleton, k1_part8_eq_skeleton, k1_part9_eq_skeleton, k1_part10_eq_skeleton, k1_part11_eq_skeleton,
    k1_part14_eq_skeleton, k1_part15_eq_skeleton]
  unfold k1_part5_skel k1_part6_skel k1_part7_skel k1_part8_skel k1_part9_skel k1_part10_skel k1_part11_skel k1_part14_skel k1_part15_skel
  simp only [bind_assoc, pure_bind, Prog.bind_lift, Prog.bind_op, Prog.bind_ret, Prog.pure_eq_ret]
  conv_lhs => rw [scr, bigSep_fin6, show (bigSep (Finset.univ : Finset (Fin 48)) fun t => srcs d fW fB t.val) = _ from cut 6 42 (fun t => srcs d fW fB t), bigSep_fin6]
  conv_lhs => rw [srcs_eq d fW fB 48]
  iintro ⟨⟨He, HW1, Hp⟩, ⟨HG, HG', HX, HC, HB, ⟨Hf0, Hf1, Hf2, Hf3, Hf4, Hf5⟩, Hp0, Hp1, ⟨%fwt, Hwt⟩, ⟨%fbt, Hbt⟩, Hot, Ht0, Ht1, Ht2⟩,
    ⟨⟨Hs0, Hs1, Hs2, Hs3, Hs4, Hs5⟩, Hsr⟩, ⟨Hsw, Hsb⟩, HO, HOl, HE⟩
  iapply (issue_slot d fW fB 0 0 (fun _ _ _ _ => issue_w d fW 0 0 0 rfl rfl rfl) (fun _ _ _ _ => issue_w d fW 0 0 1 rfl rfl rfl)
    (fun _ _ _ _ => issue_w d fW 0 0 2 rfl rfl rfl) (fun _ _ _ _ => issue_w d fW 0 0 3 rfl rfl rfl) (fun _ _ _ _ => issue_b d fB 0 0 rfl rfl rfl)) $$ [Hs0 Hf0]
  · isplitl [Hs0]; iexact Hs0
    iexact Hf0
  iintro Hs0
  iapply (issue_slot d fW fB 1 1 (fun _ _ _ _ => issue_w d fW 1 1 0 rfl rfl rfl) (fun _ _ _ _ => issue_w d fW 1 1 1 rfl rfl rfl)
    (fun _ _ _ _ => issue_w d fW 1 1 2 rfl rfl rfl) (fun _ _ _ _ => issue_w d fW 1 1 3 rfl rfl rfl) (fun _ _ _ _ => issue_b d fB 1 1 rfl rfl rfl)) $$ [Hs1 Hf1]
  · isplitl [Hs1]; iexact Hs1
    iexact Hf1
  iintro Hs1
  iapply (issue_slot d fW fB 2 2 (fun _ _ _ _ => issue_w d fW 2 2 0 rfl rfl rfl) (fun _ _ _ _ => issue_w d fW 2 2 1 rfl rfl rfl)
    (fun _ _ _ _ => issue_w d fW 2 2 2 rfl rfl rfl) (fun _ _ _ _ => issue_w d fW 2 2 3 rfl rfl rfl) (fun _ _ _ _ => issue_b d fB 2 2 rfl rfl rfl)) $$ [Hs2 Hf2]
  · isplitl [Hs2]; iexact Hs2
    iexact Hf2
  iintro Hs2
  iapply (issue_slot d fW fB 3 3 (fun _ _ _ _ => issue_w d fW 3 3 0 rfl rfl rfl) (fun _ _ _ _ => issue_w d fW 3 3 1 rfl rfl rfl)
    (fun _ _ _ _ => issue_w d fW 3 3 2 rfl rfl rfl) (fun _ _ _ _ => issue_w d fW 3 3 3 rfl rfl rfl) (fun _ _ _ _ => issue_b d fB 3 3 rfl rfl rfl)) $$ [Hs3 Hf3]
  · isplitl [Hs3]; iexact Hs3
    iexact Hf3
  iintro Hs3
  iapply (issue_slot d fW fB 4 4 (fun _ _ _ _ => issue_w d fW 4 4 0 rfl rfl rfl) (fun _ _ _ _ => issue_w d fW 4 4 1 rfl rfl rfl)
    (fun _ _ _ _ => issue_w d fW 4 4 2 rfl rfl rfl) (fun _ _ _ _ => issue_w d fW 4 4 3 rfl rfl rfl) (fun _ _ _ _ => issue_b d fB 4 4 rfl rfl rfl)) $$ [Hs4 Hf4]
  · isplitl [Hs4]; iexact Hs4
    iexact Hf4
  iintro Hs4
  iapply (issue_slot d fW fB 5 5 (fun _ _ _ _ => issue_w d fW 5 5 0 rfl rfl rfl) (fun _ _ _ _ => issue_w d fW 5 5 1 rfl rfl rfl)
    (fun _ _ _ _ => issue_w d fW 5 5 2 rfl rfl rfl) (fun _ _ _ _ => issue_w d fW 5 5 3 rfl rfl rfl) (fun _ _ _ _ => issue_b d fB 5 5 rfl rfl rfl)) $$ [Hs5 Hf5]
  · isplitl [Hs5]; iexact Hs5
    iexact Hf5
  iintro Hs5
  iapply (issue_wt d fW fwt _ _ _) $$ [Hsw Hwt Ht0]
  · isplitl [Hsw]; iexact Hsw
    isplitl [Hwt] <;> iassumption
  iintro Hwt
  iapply (issue_bt d fB fbt _ _ _) $$ [Hsb Hbt Ht1]
  · isplitl [Hsb]; iexact Hsb
    isplitl [Hbt] <;> iassumption
  iintro Hbt
  ihave Hp := (Entails.of_eq (params_eq d W2 R1 R2 W3 R3 W4 R4 b1 b2 b3 b4)) $$ Hp
  icases Hp with ⟨Hp2, Hp3, Hpr⟩
  icases HG with ⟨%fg, HG⟩
  iapply (ldA d _ e) $$ He
  iintro He
  iapply (ldA d _ W1) $$ HW1
  iintro HW1
  iapply (ld_row d _ b1 0) $$ Hp3
  iintro Hp3
  iapply (ldA d _ _) $$ HG
  iintro HG
  iapply (stA d _ _) $$ HG
  iintro HG
  ihave Hp := (Entails.of_eq (params_eq d W2 R1 R2 W3 R3 W4 R4 b1 b2 b3 b4).symm) $$ [Hp2 Hp3 Hpr]
  · isplitl [Hp2]; iexact Hp2
    isplitl [Hp3] <;> iassumption
  iapply (wp_seq d (part12 d W2 R1 R2 W3 R3 W4 R4 b1 b2 b3 b4 (k1_pay5 e W1 (brow b1 0)))) $$ [Hp HG HG' HX]
  · isplitl [Hp]; iexact Hp
    isplitl [HG]; iexact HG
    isplitl [HG'] <;> iassumption
  iintro %v ⟨%hv, Hp, HG, HG', HX⟩
  subst hv
  iapply (wp_seq d (part13 d W2 R1 R2 W3 R3 W4 R4 b1 b2 b3 b4 (layer (layer1 e W1 R1 b1) W2 R2 b2))) $$ [Hp HG HG' HX HC HB]
  · isplitl [Hp]; iexact Hp
    isplitl [HG]; iexact HG
    isplitl [HG']; iexact HG'
    isplitl [HX]; iexact HX
    isplitl [HC] <;> iassumption
  iintro %v ⟨%hv, Hp, HG, HG', HX, HC, HB⟩
  subst hv
  ihave HB := (hold_out d mB (View.set_whole _) (feats e W1 R1 W2 R2 W3 R3 W4 R4 b1 b2 b3 b4) _ (fun _ h => h)) $$ HB
  iapply (Scf.wp_for_bind frame (wpE (defs₀ (F := F)) 𝒱₀ (SparseCore.T d) none) Set.univ _ _ _ k1_t4_ok _ _
    (fun k _ => inv d (feats e W1 R1 W2 R2 W3 R3 W4 R4 b1 b2 b3 b4) fW fB fO W₀ k) ?_) $$ [Hs0 Hs1 Hs2 Hs3 Hs4 Hs5 Hsr HO Hp0 Hp1 HB HE]
  · intro k acc
    exact inv_trip d (feats e W1 R1 W2 R2 W3 R3 W4 R4 b1 b2 b3 b4) fW fB fO W₀ k
  · iapply (inv_start d (feats e W1 R1 W2 R2 W3 R3 W4 R4 b1 b2 b3 b4) fW fB fO W₀)
    isplitl [Hs0 Hs1 Hs2 Hs3 Hs4 Hs5]
    · iapply (Entails.of_eq (bigSep_fin6 (fun s : Fin 6 => flights d fW fB s s.val)).symm)
      isplitl [Hs0]; iexact Hs0
      isplitl [Hs1]; iexact Hs1
      isplitl [Hs2]; iexact Hs2
      isplitl [Hs3]; iexact Hs3
      isplitl [Hs4]
      · iexact Hs4
      · iexact Hs5
    isplitl [Hsr]
    · iapply (Entails.of_eq (bigSep_congr (Φ := fun t : Fin 42 => srcs d fW fB (6 + t.val)) (Ψ := fun t : Fin 42 => srcs d fW fB (t.val + 6)) fun t _ => by rw [Nat.add_comm]))
      iexact Hsr
    isplitl [HO]; iexact HO
    isplitl [Hp0]; iexact Hp0
    isplitl [Hp1]; iexact Hp1
    isplitl [HB]
    · iexact HB
    · iexact HE
  iintro %_
  rw [show Scf.trips k1_t4_loop.lb k1_t4_loop.ub k1_t4_loop.st = 48 from by decide]
  iintro HI
  ihave HI := (inv_end d (feats e W1 R1 W2 R2 W3 R3 W4 R4 b1 b2 b3 b4) fW fB fO W₀) $$ HI
  icases HI with ⟨Hsr, Hfr, HO, Hof0, Hof1, HB, HE⟩
  iapply (wait_wt d fW W₀ _ _ _) $$ [Hwt HE]
  · isplitl [Hwt]
    · iexact Hwt
    · iexact HE
  iintro ⟨⟨Hwt, Hsw⟩, Ht0, HE⟩
  iapply (wait_bt d fB W₀ _ _ _) $$ [Hbt HE]
  · isplitl [Hbt]
    · iexact Hbt
    · iexact HE
  iintro ⟨⟨Hbt, Hsb⟩, Ht1, HE⟩
  ihave HB := (hold_in d mB (View.set_whole _) (feats e W1 R1 W2 R2 W3 R3 W4 R4 b1 b2 b3 b4) (feats e W1 R1 W2 R2 W3 R3 W4 R4 b1 b2 b3 b4) rfl) $$ HB
  ihave Hwt := (hold_in d wT (View.set_whole _) (wlast fW) (wlast fW) rfl) $$ Hwt
  ihave Hbt := (hold_in d bT (View.set_whole _) (blast fB) (blast fB) rfl) $$ Hbt
  icases Hot with ⟨%fot, Hot⟩
  ihave Hot := (hold_in d oT (View.set_whole _) fot fot rfl) $$ Hot
  iapply (ldA d _ _) $$ HB
  iintro HB
  iapply (ldA d _ _) $$ Hwt
  iintro Hwt
  iapply (ldA d _ _) $$ Hbt
  iintro Hbt
  iapply (ldA d _ _) $$ Hot
  iintro Hot
  iapply (stA d _ _) $$ Hot
  iintro Hot
  ihave Hwt := (hold_out d wT (View.set_whole _) (wlast fW) _ (fun _ h => h)) $$ Hwt
  ihave Hbt := (hold_out d bT (View.set_whole _) (blast fB) _ (fun _ h => h)) $$ Hbt
  ihave Hot := (hold_out d oT (View.set_whole _) (k1_pay20 (feats e W1 R1 W2 R2 W3 R3 W4 R4 b1 b2 b3 b4) (wlast fW) (blast fB)) (k1_pay20 (feats e W1 R1 W2 R2 W3 R3 W4 R4 b1 b2 b3 b4) (wlast fW) (blast fB)) (fun _ h => h)) $$ Hot
  iapply (issue_ot d (feats e W1 R1 W2 R2 W3 R3 W4 R4 b1 b2 b3 b4) fW fB fO _ _ _) $$ [Hot HOl Ht2]
  · isplitl [Hot]; iexact Hot
    isplitl [HOl] <;> iassumption
  iintro Hot
  iapply (drain d (feats e W1 R1 W2 R2 W3 R3 W4 R4 b1 b2 b3 b4) fW fB W₀ 0 46 (fun _ _ _ => wait_o d _ W₀ 0 46 0 rfl rfl) (fun _ _ _ => wait_o d _ W₀ 0 46 1 rfl rfl) (fun _ _ _ => wait_o d _ W₀ 0 46 2 rfl rfl) (fun _ _ _ => wait_o d _ W₀ 0 46 3 rfl rfl)) $$ [Hof0 HE]
  · isplitl [Hof0] <;> iassumption
  iintro ⟨Hr0, Hp0, HE⟩
  iapply (drain d (feats e W1 R1 W2 R2 W3 R3 W4 R4 b1 b2 b3 b4) fW fB W₀ 1 47 (fun _ _ _ => wait_o d _ W₀ 1 47 0 rfl rfl) (fun _ _ _ => wait_o d _ W₀ 1 47 1 rfl rfl) (fun _ _ _ => wait_o d _ W₀ 1 47 2 rfl rfl) (fun _ _ _ => wait_o d _ W₀ 1 47 3 rfl rfl)) $$ [Hof1 HE]
  · isplitl [Hof1] <;> iassumption
  iintro ⟨Hr1, Hp1, HE⟩
  iapply (wait_ot d (feats e W1 R1 W2 R2 W3 R3 W4 R4 b1 b2 b3 b4) fW fB W₀ _ _ _) $$ [Hot HE]
  · isplitl [Hot]
    · iexact Hot
    · iexact HE
  iintro ⟨⟨HOl, Hot⟩, Ht2, HE⟩
  iapply (Entails.of_eq (wp_ret ..).symm)
  imodintro
  isplitl [He HW1 Hp]
  · isplitl [He]; iexact He
    isplitl [HW1] <;> iassumption
  isplitl [HG HG' HX HC HB Hfr Hp0 Hp1 Hwt Hbt Hot Ht0 Ht1 Ht2]
  · unfold scr
    isplitl [HG]; iexact HG
    isplitl [HG']; iexact HG'
    isplitl [HX]; iexact HX
    isplitl [HC]; iexact HC
    isplitl [HB]; iexists _; iexact HB
    isplitl [Hfr]; iexact Hfr
    isplitl [Hp0]; iexact Hp0
    isplitl [Hp1]; iexact Hp1
    isplitl [Hwt]; iexists _; iexact Hwt
    isplitl [Hbt]; iexists _; iexact Hbt
    isplitl [Hot]; iexists _; iexact Hot
    isplitl [Ht0]; iexact Ht0
    isplitl [Ht1]
    · iexact Ht1
    · iexact Ht2
  isplitl [Hsr]; iexact Hsr
  isplitl [Hsw Hsb]
  · iapply (Entails.of_eq (srcs_eq d fW fB 48).symm)
    isplitl [Hsw]
    · iexact Hsw
    · iexact Hsb
  isplitl [HO Hr0 Hr1]
  · iapply (last_two fun t => ohLoc d ↦[hTile t]{fullShare} fOut (feats e W1 R1 W2 R2 W3 R3 W4 R4 b1 b2 b3 b4) fW fB)
    isplitl [HO]; iexact HO
    isplitl [Hr0]
    · iexact Hr0
    · iexact Hr1
  isplitl [HOl]
  · iexact HOl
  · iexact HE

end

end Cert.Proof.Body
-- ==== Proof.Scratch.lean ====
/-
  The second kernel's own storage: the scoped buffers and semaphores its call is handed, cut into the slots the body uses
  and put back together after it.
-/
module

public import proofs.«01_k».proof.Proof.Body
public import proofs.«01_k».proof.Proof.Gen.KernelIdeal.Launch

@[expose] public section

set_option maxRecDepth 16384

noncomputable section

namespace Cert.Proof.Scratch

open Cert.KernelIdeal Cert.KernelIdeal.Gen Cert.Proof.Base Cert.Proof.Ring Cert.Proof.Tiles Cert.Proof.Gru Cert.Proof.Slots Cert.Proof.Loop Cert.Proof.Body

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Buffers held piece by piece -/

theorem ex1 {ℓ : Loc nD τ sig} {A : Finset (Idx ℓ)} (f : Buf (Elt F) ℓ) :
    (ℓ ↦[A]{fullShare} f : sProp 𝕄) ⊢ iprop(∃ f : Buf (Elt F) ℓ, ℓ ↦[A]{fullShare} f) := by
  iintro H; iexists f; iexact H

/-- A buffer held is its slices by the key, each held; -/
theorem cutEx (n : ℕ) (ℓ : Loc nD τ sig) (key : Idx ℓ → ℕ) (hk : ∀ i, key i < n) :
    (iprop(∃ f : Buf (Elt F) ℓ, ℓ ↦[Finset.univ]{fullShare} f) : sProp 𝕄)
      ⊢ bigSep (Finset.univ : Finset (Fin n)) fun r => iprop(∃ f : Buf (Elt F) ℓ, ℓ ↦[Finset.univ.filter fun i => key i = r.val]{fullShare} f) := by
  iintro ⟨%f, H⟩
  ihave H := (Entails.of_eq (fibers n (ℓ := ℓ) (q := fullShare) Finset.univ key (fun i _ => hk i) f)) $$ H
  have hm : (bigSep (Finset.univ : Finset (Fin n)) fun r => (ℓ ↦[Finset.univ.filter fun i => key i = r.val]{fullShare} f : sProp 𝕄))
      ⊢ bigSep (Finset.univ : Finset (Fin n)) fun r => iprop(∃ f : Buf (Elt F) ℓ, ℓ ↦[Finset.univ.filter fun i => key i = r.val]{fullShare} f) :=
    bigSep_mono fun r _ => ex1 f
  iapply hm
  iexact H

/-- and back. -/
theorem joinEx (n : ℕ) (ℓ : Loc nD τ sig) (key : Idx ℓ → ℕ) (hk : ∀ i, key i < n) (hn : 0 < n) :
    (bigSep (Finset.univ : Finset (Fin n)) fun r => iprop(∃ f : Buf (Elt F) ℓ, ℓ ↦[Finset.univ.filter fun i => key i = r.val]{fullShare} f))
      ⊢ (iprop(∃ f : Buf (Elt F) ℓ, ℓ ↦[Finset.univ]{fullShare} f) : sProp 𝕄) := by
  refine (bigSep_exists_pi Finset.univ (fun (r : Fin n) (f : Buf (Elt F) ℓ) => (ℓ ↦[Finset.univ.filter fun i => key i = r.val]{fullShare} f : sProp 𝕄))).trans ?_
  iintro ⟨%fs, H⟩
  ihave H := (pointsTo_biUnion_join (ℓ := ℓ) (q := fullShare) (Val := Elt F) Finset.univ (fun r : Fin n => Finset.univ.filter fun i => key i = r.val) fs (fs ⟨0, hn⟩)
    (fun r _ r' _ h => Finset.disjoint_left.2 fun i hi hi' => h (Fin.ext ((Finset.mem_filter.1 hi).2.symm.trans (Finset.mem_filter.1 hi').2)))) $$ H
  icases H with ⟨%g, -, H⟩
  iexists g
  iapply (Entails.of_eq (congrArg (fun A => (ℓ ↦[A]{fullShare} g : sProp 𝕄)) (show Finset.univ.biUnion (fun r : Fin n => Finset.univ.filter fun i => key i = r.val) = Finset.univ from
    Finset.eq_univ_of_forall fun i => Finset.mem_biUnion.2 ⟨⟨key i, hk i⟩, Finset.mem_univ _, Finset.mem_filter.2 ⟨Finset.mem_univ _, rfl⟩⟩)))
  iexact H

/-! ## The second kernel's own semaphores -/

/-- What names them: row blocks of the weight's slots, the bias's slots, row blocks of the result's slots, the last columns' three. -/
abbrev SemIx : Type := (Fin 6 × Fin 4) ⊕ Fin 6 ⊕ (Fin 2 × Fin 4) ⊕ Fin 3

abbrev sems : SemIx → SemLoc sig
  | .inl (s, r) => .dma (wsem s r)
  | .inr (.inl s) => .dma (bsem s)
  | .inr (.inr (.inl (p, r))) => .dma (osem p r)
  | .inr (.inr (.inr i)) => .dma (tsem i)

theorem semFacts : Pipeline.OwnSemFacts spec1 sems := by decide +kernel

section

variable (d : Dev nD)

theorem sems_eq : (Pipeline.ownSems0 sems d : sProp 𝕄)
    = iprop((bigSep Finset.univ fun s : Fin 6 => bigSep Finset.univ fun r : Fin 4 => semVal (SparseCore.T d, .dma (wsem s r)) 0)
      ∗ (bigSep Finset.univ fun s : Fin 6 => semVal (SparseCore.T d, .dma (bsem s)) 0)
      ∗ (bigSep Finset.univ fun p : Fin 2 => bigSep Finset.univ fun r : Fin 4 => semVal (SparseCore.T d, .dma (osem p r)) 0)
      ∗ (bigSep Finset.univ fun i : Fin 3 => semVal (SparseCore.T d, .dma (tsem i)) 0)) := by
  unfold Pipeline.ownSems0
  rw [bigSep_univ_sum, bigSep_univ_sum, bigSep_univ_sum]
  congr 1
  · exact (SparseCore.bigSep_product Finset.univ Finset.univ fun x : Fin 6 × Fin 4 => (semVal (SparseCore.T d, .dma (wsem x.1 x.2)) 0 : sProp 𝕄))
  congr 2
  · exact (SparseCore.bigSep_product Finset.univ Finset.univ fun x : Fin 2 × Fin 4 => (semVal (SparseCore.T d, .dma (osem x.1 x.2)) 0 : sProp 𝕄))

/-! ## The slots -/

/-- The idle slots, family by family. -/
theorem free_all : (bigSep Finset.univ fun s : Fin 6 => free (F := F) d s)
    = iprop((bigSep Finset.univ fun s : Fin 6 => iprop(∃ f, wLoc d ↦[wSlot s.val]{fullShare} f)) ∗ (bigSep Finset.univ fun s : Fin 6 => iprop(∃ f, bLoc d ↦[bSlot s.val]{fullShare} f))
      ∗ (bigSep Finset.univ fun s : Fin 6 => bigSep Finset.univ fun r : Fin 4 => semVal (SparseCore.T d, .dma (wsem s r)) 0)
      ∗ (bigSep Finset.univ fun s : Fin 6 => semVal (SparseCore.T d, .dma (bsem s)) 0)) := by
  unfold free
  rw [bigSep_sep', bigSep_sep', bigSep_sep']

theorem ofree_all : iprop(ofree (F := F) d 0 ∗ ofree d 1)
    = iprop((bigSep Finset.univ fun p : Fin 2 => iprop(∃ f, obLoc d ↦[oSlot p.val]{fullShare} f))
      ∗ (bigSep Finset.univ fun p : Fin 2 => bigSep Finset.univ fun r : Fin 4 => semVal (SparseCore.T d, .dma (osem p r)) 0)) := by
  rw [← bigSep_sep']
  exact (BI.bigSep_fin_two fun p : Fin 2 => ofree (F := F) d p).symm

theorem bigSep_fin3 (Φ : Fin 3 → sProp 𝕄) : bigSep Finset.univ Φ = iprop(Φ 0 ∗ Φ 1 ∗ Φ 2) := by
  rw [bigSep_univ_eq_bigSepL [0, 1, 2] (by decide) (by decide) Φ]
  rfl

/-- What the second kernel's call is handed of its own is what its body starts from; -/
theorem to_scr : iprop(Pipeline.ownSems0 sems d ∗ Pipeline.scopedRest spec1 d) ⊢ scr (F := F) d := by
  conv_lhs => rw [sems_eq, scopedRest1_eq]
  iintro ⟨⟨Hws, Hbs, Hos, Hts⟩, ⟨%f0, H0⟩, ⟨%f1, H1⟩, ⟨%f2, H2⟩, ⟨%f3, H3⟩, ⟨%f4, H4⟩, H5, H6, H7, H8, H9, H10⟩
  unfold scr
  isplitl [H0]; iexists f0; iapply (hold_in d mG (View.set_whole _) f0 f0 rfl); iexact H0
  isplitl [H1]; iexists f1; iapply (hold_in d mG' (View.set_whole _) f1 f1 rfl); iexact H1
  isplitl [H2]; iexists f2; iapply (hold_in d mX (View.set_whole _) f2 f2 rfl); iexact H2
  isplitl [H3]; iexists f3; iapply (hold_in d mC (View.set_whole _) f3 f3 rfl); iexact H3
  isplitl [H4]; iexists f4; iapply (hold_in d mB (View.set_whole _) f4 f4 rfl); iexact H4
  isplitl [H5 H6 Hws Hbs]
  · iapply (Entails.of_eq (free_all d).symm)
    isplitl [H5]
    · iapply (cutEx 6 (wLoc d) (fun i : S6x512x2048.Idx => (i 0).val) (fun i : S6x512x2048.Idx => (i 0).isLt)); iexact H5
    isplitl [H6]
    · iapply (cutEx 6 (bLoc d) (fun i : S6x1x2048.Idx => (i 0).val) (fun i : S6x1x2048.Idx => (i 0).isLt)); iexact H6
    isplitl [Hws]
    · iexact Hws
    · iexact Hbs
  ihave Ho := (Entails.of_eq (ofree_all (F := F) d).symm) $$ [H7 Hos]
  · isplitl [H7]
    · iapply (cutEx 2 (obLoc d) (fun i : S2x512x2048.Idx => (i 0).val) (fun i : S2x512x2048.Idx => (i 0).isLt)); iexact H7
    · iexact Hos
  icases Ho with ⟨Ho0, Ho1⟩
  isplitl [Ho0]; iexact Ho0
  isplitl [Ho1]; iexact Ho1
  isplitl [H8]; iexact H8
  isplitl [H9]; iexact H9
  isplitl [H10]; iexact H10
  iapply (Entails.of_eq (bigSep_fin3 fun i => semVal (SparseCore.T d, .dma (tsem i)) 0))
  iexact Hts

/-- and what it leaves is handed back. -/
theorem of_scr : scr (F := F) d ⊢ iprop(Pipeline.ownSems0 sems d ∗ Pipeline.scopedRest spec1 d) := by
  conv_rhs => rw [sems_eq, scopedRest1_eq]
  unfold scr
  iintro ⟨⟨%f0, H0⟩, ⟨%f1, H1⟩, ⟨%f2, H2⟩, ⟨%f3, H3⟩, ⟨%f4, H4⟩, Hf, Ho0, Ho1, H8, H9, H10, Ht⟩
  ihave Hf := (Entails.of_eq (free_all (F := F) d)) $$ Hf
  icases Hf with ⟨H5, H6, Hws, Hbs⟩
  ihave Ho := (Entails.of_eq (ofree_all (F := F) d)) $$ [Ho0 Ho1]
  · isplitl [Ho0]
    · iexact Ho0
    · iexact Ho1
  icases Ho with ⟨H7, Hos⟩
  isplitl [Hws Hbs Hos Ht]
  · isplitl [Hws]; iexact Hws
    isplitl [Hbs]; iexact Hbs
    isplitl [Hos]; iexact Hos
    iapply (Entails.of_eq (bigSep_fin3 fun i => semVal (SparseCore.T d, .dma (tsem i)) 0).symm)
    iexact Ht
  isplitl [H0]; iexists f0; iapply (hold_out d mG (View.set_whole _) f0 f0 (fun _ h => h)); iexact H0
  isplitl [H1]; iexists f1; iapply (hold_out d mG' (View.set_whole _) f1 f1 (fun _ h => h)); iexact H1
  isplitl [H2]; iexists f2; iapply (hold_out d mX (View.set_whole _) f2 f2 (fun _ h => h)); iexact H2
  isplitl [H3]; iexists f3; iapply (hold_out d mC (View.set_whole _) f3 f3 (fun _ h => h)); iexact H3
  isplitl [H4]; iexists f4; iapply (hold_out d mB (View.set_whole _) f4 f4 (fun _ h => h)); iexact H4
  isplitl [H5]
  · iapply (joinEx 6 (wLoc d) (fun i : S6x512x2048.Idx => (i 0).val) (fun i : S6x512x2048.Idx => (i 0).isLt) (by decide)); iexact H5
  isplitl [H6]
  · iapply (joinEx 6 (bLoc d) (fun i : S6x1x2048.Idx => (i 0).val) (fun i : S6x1x2048.Idx => (i 0).isLt) (by decide)); iexact H6
  isplitl [H7]
  · iapply (joinEx 2 (obLoc d) (fun i : S2x512x2048.Idx => (i 0).val) (fun i : S2x512x2048.Idx => (i 0).isLt) (by decide)); iexact H7
  isplitl [H8]; iexact H8
  isplitl [H9]
  · iexact H9
  · iexact H10

end

end Cert.Proof.Scratch
-- ==== Proof.Region.lean ====
/-
  The second kernel's region: what each window stages, the body's run as the pipeline's body obligation, and the region
  entered from and left to the core's unscoped buffers.
-/
module

public import proofs.«01_k».proof.Proof.Scratch
public import Idealize.ShloMosaic.Lib.Pipeline.RegionsLoop
public import Idealize.ShloMosaic.Lib.Tactic
public import Idealize.ShloMosaic.Lib.Pipeline.ValueKit.Geometry

@[expose] public section

set_option maxRecDepth 16384

noncomputable section

namespace Cert.Proof.Region

open Cert.KernelIdeal Cert.KernelIdeal.Gen Cert.Proof.Base Cert.Proof.Ring Cert.Proof.Tiles Cert.Proof.Gru Cert.Proof.Slots Cert.Proof.Loop Cert.Proof.Body Cert.Proof.Scratch

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The matrices in HBM, tile by tile -/

theorem col_lt (n : ℕ) (h : n < 100000) : n / 2048 < 49 := by omega

theorem tiles_w (d : Dev nD) (f : Buf (Elt F) (whLoc d)) : (whLoc d ↦[Finset.univ]{fullShare} f : sProp 𝕄)
    = iprop((bigSep (Finset.univ : Finset (Fin 48)) fun t => whLoc d ↦[hTile t.val]{fullShare} f) ∗ bigSep (Finset.univ : Finset (Fin 1)) fun t => whLoc d ↦[hTile (48 + t.val)]{fullShare} f) :=
  (fibers 49 (ℓ := whLoc d) (q := fullShare) Finset.univ (fun i : S512x100000.Idx => (i 1).val / 2048) (fun i _ => col_lt _ (i 1).isLt) f).trans
    (cut 48 1 fun t => whLoc d ↦[hTile t]{fullShare} f)

theorem tiles_b (d : Dev nD) (f : Buf (Elt F) (bhLoc d)) : (bhLoc d ↦[Finset.univ]{fullShare} f : sProp 𝕄)
    = iprop((bigSep (Finset.univ : Finset (Fin 48)) fun t => bhLoc d ↦[bTile t.val]{fullShare} f) ∗ bigSep (Finset.univ : Finset (Fin 1)) fun t => bhLoc d ↦[bTile (48 + t.val)]{fullShare} f) :=
  (fibers 49 (ℓ := bhLoc d) (q := fullShare) Finset.univ (fun i : S1x100000.Idx => (i 1).val / 2048) (fun i _ => col_lt _ (i 1).isLt) f).trans
    (cut 48 1 fun t => bhLoc d ↦[bTile t]{fullShare} f)

theorem tiles_o (d : Dev nD) (f : Buf (Elt F) (ohLoc d)) : (ohLoc d ↦[Finset.univ]{fullShare} f : sProp 𝕄)
    = iprop((bigSep (Finset.univ : Finset (Fin 48)) fun t => ohLoc d ↦[hTile t.val]{fullShare} f) ∗ bigSep (Finset.univ : Finset (Fin 1)) fun t => ohLoc d ↦[hTile (48 + t.val)]{fullShare} f) :=
  (fibers 49 (ℓ := ohLoc d) (q := fullShare) Finset.univ (fun i : S512x100000.Idx => (i 1).val / 2048) (fun i _ => col_lt _ (i 1).isLt) f).trans
    (cut 48 1 fun t => ohLoc d ↦[hTile t]{fullShare} f)

theorem one (Φ : ℕ → sProp 𝕄) : (bigSep (Finset.univ : Finset (Fin 1)) fun t => Φ t.val) = Φ 0 := bigSep_univ_of_subsingleton (0 : Fin 1)

/-! ## The proof data, at an entry valuation -/

variable (V : (c : Dev nD) → (b : Ref sig .tc) → Buf (Elt F) ((c : Thread nD τ).loc b))

/-- The result matrix the body leaves. -/
abbrev res (c : Dev nD) : S512x100000.Idx → Elt F .f32 :=
  fOut (feats (V c main_v2) (V c main_arg2) (V c main_arg3) (V c main_arg5) (V c main_arg6) (V c main_arg8) (V c main_arg9) (V c main_arg11) (V c main_arg12) (V c main_arg4) (V c main_arg7) (V c main_arg10) (V c main_arg13)) (V c main_arg14) (V c main_v3)

/-- What each window stages: its whole array. -/
def stg (c : Dev nD) : (w : Fin 13) → (win1 w).block.Idx → Elt F (win1 w).elt
  | 0 => V c main_v2
  | 1 => V c main_arg2
  | 2 => V c main_arg3
  | 3 => V c main_arg4
  | 4 => V c main_arg5
  | 5 => V c main_arg6
  | 6 => V c main_arg7
  | 7 => V c main_arg8
  | 8 => V c main_arg9
  | 9 => V c main_arg10
  | 10 => V c main_arg11
  | 11 => V c main_arg12
  | 12 => V c main_arg13
  | ⟨_ + 13, h⟩ => absurd h (Nat.not_lt.2 (Nat.le_add_left _ _))

/-- What the body holds beside the windows: its storage, the weight, the bias, and the result at `g`. -/
def aside (c : Dev nD) (g : S512x100000.Idx → Elt F .f32) : sProp 𝕄 :=
  iprop(scr (F := F) c ∗ (whLoc c ↦[Finset.univ]{fullShare} (V c main_arg14 : Buf (Elt F) (whLoc c))) ∗ (bhLoc c ↦[Finset.univ]{fullShare} (V c main_v3 : Buf (Elt F) (bhLoc c)))
    ∗ (ohLoc c ↦[Finset.univ]{fullShare} g))

/-- The waits of levels the launch allows. -/
def low (c : Dev nD) : Set (SemLoc sig × HIx 1) := {p | (K (F := F)).lev (SparseCore.T c, p.1) p.2 ≤ 8 * SparseCore.Cfg.Blocks.fst (Q := 1) (N := 1) 1}

def dat (c : Dev nD) : Dat τ (Elt F) (HIx 1) ℕ UU ℕ cfg1 c where
  A w := V c (Pipeline.arrRef spec1 w)
  after w _ := stg V c w
  Φ t := aside V c (if t.val = 0 then V c main_v4 else res V c)
  q _ := fullShare
  owed _ := 0
  recorded _ := low (F := F) c

theorem before_in (c : Dev nD) (w : Fin 13) (x : (win1 w).block.Idx → Elt F (win1 w).elt) : (dat V c).before w t1_0 x = stg V c w := by
  fin_cases w <;>
  · unfold Dat.before; rw [if_pos (by decide)]
    funext j
    refine congrArg (V c _) (funext fun a => Fin.ext ?_)
    fin_cases a <;> (blk_simp; exact (congrArg (· + _) (Nat.zero_mul _)).trans (Nat.zero_add _))

theorem srcs_all (c : Dev nD) (fW : S512x100000.Idx → Elt F .f32) (fB : S1x100000.Idx → Elt F .f32) : (bigSep (Finset.univ : Finset (Fin 48)) fun t => srcs c fW fB t.val)
    = iprop((bigSep (Finset.univ : Finset (Fin 48)) fun t => whLoc c ↦[hTile t.val]{fullShare} fW) ∗ (bigSep (Finset.univ : Finset (Fin 48)) fun t => bhLoc c ↦[bTile t.val]{fullShare} fB)) :=
  bigSep_sep' (Finset.univ : Finset (Fin 48)) (fun t => (whLoc c ↦[hTile t.val]{fullShare} fW : sProp 𝕄)) fun t => bhLoc c ↦[bTile t.val]{fullShare} fB

theorem owed_eq (c : Dev nD) (W₀ : Waits sig (HIx 1)) :
    (Owed (SparseCore.T c) W₀ : sProp 𝕄) = iprop(∃ W, ⌜∀ p ∈ W, p ∈ W₀ ∨ p.2 = none⌝ ∗ owes (SparseCore.T c) 0 W) := rfl

set_option maxHeartbeats 2000000 in
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = aside V c (V c main_v4) from rfl, show (dat V c).Φ t1_0.succ = aside V c (res V c) from rfl,
    show (dat V c).owesAt none t1_0.succ = (dat V c).owesAt none t1_0.castSucc from rfl]
  unfold aside
  iintro ⟨⟨Hscr, HW, HB, HO⟩, ⟨%W, %hW, Howes⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  rw [before_in V c 0] at hf0
  rw [before_in V c 1] at hf1
  rw [before_in V c 2] at hf2
  rw [before_in V c 3] at hf3
  rw [before_in V c 4] at hf4
  rw [before_in V c 5] at hf5
  rw [before_in V c 6] at hf6
  rw [before_in V c 7] at hf7
  rw [before_in V c 8] at hf8
  rw [before_in V c 9] at hf9
  rw [before_in V c 10] at hf10
  rw [before_in V c 11] at hf11
  rw [before_in V c 12] at hf12
  ihave HW := (Entails.of_eq (tiles_w c _)) $$ HW
  ihave HB := (Entails.of_eq (tiles_b c _)) $$ HB
  ihave HO := (Entails.of_eq (tiles_o c _)) $$ HO
  icases HW with ⟨HW, HWl⟩
  icases HB with ⟨HB, HBl⟩
  icases HO with ⟨HO, HOl⟩
  iapply (wp_wand_r frame _ _)
  isplitr []
  · iapply (run c (V c main_v2) (V c main_arg2) (V c main_arg3) (V c main_arg5) (V c main_arg6) (V c main_arg8) (V c main_arg9) (V c main_arg11) (V c main_arg12) (V c main_arg4) (V c main_arg7) (V c main_arg10) (V c main_arg13) (V c main_arg14) (V c main_v3) (V c main_v4) W)
    isplitl [H0 H1 H2 H3 H4 H5 H6 H7 H8 H9 H10 H11 H12]
    · isplitl [H0]; iapply (hold_in c (win1_0.stage 0) (View.set_whole _) (V c main_v2) f0 hf0); iexact H0
      isplitl [H1]; iapply (hold_in c (win1_1.stage 0) (View.set_whole _) (V c main_arg2) f1 hf1); iexact H1
      iapply (Entails.of_eq (params_eq c _ _ _ _ _ _ _ _ _ _ _).symm)
      isplitl [H2]; iapply (hold_in c (win1_2.stage 0) (View.set_whole _) (V c main_arg3) f2 hf2); iexact H2
      isplitl [H3]; iapply (hold_in c (win1_3.stage 0) (View.set_whole _) (V c main_arg4) f3 hf3); iexact H3
      isplitl [H4]; iapply (hold_in c (win1_4.stage 0) (View.set_whole _) (V c main_arg5) f4 hf4); iexact H4
      isplitl [H5]; iapply (hold_in c (win1_5.stage 0) (View.set_whole _) (V c main_arg6) f5 hf5); iexact H5
      isplitl [H6]; iapply (hold_in c (win1_6.stage 0) (View.set_whole _) (V c main_arg7) f6 hf6); iexact H6
      isplitl [H7]; iapply (hold_in c (win1_7.stage 0) (View.set_whole _) (V c main_arg8) f7 hf7); iexact H7
      isplitl [H8]; iapply (hold_in c (win1_8.stage 0) (View.set_whole _) (V c main_arg9) f8 hf8); iexact H8
      isplitl [H9]; iapply (hold_in c (win1_9.stage 0) (View.set_whole _) (V c main_arg10) f9 hf9); iexact H9
      isplitl [H10]; iapply (hold_in c (win1_10.stage 0) (View.set_whole _) (V c main_arg11) f10 hf10); iexact H10
      isplitl [H11]; iapply (hold_in c (win1_11.stage 0) (View.set_whole _) (V c main_arg12) f11 hf11); iexact H11
      iapply (hold_in c (win1_12.stage 0) (View.set_whole _) (V c main_arg13) f12 hf12); iexact H12
    isplitl [Hscr]; iexact Hscr
    isplitl [HW HB]
    · iapply (Entails.of_eq (srcs_all c _ _).symm)
      isplitl [HW]
      · iexact HW
      · iexact HB
    isplitl [HWl HBl]
    · iapply (Entails.of_eq (srcs_eq c _ _ 48).symm)
      isplitl [HWl]
      · iapply (Entails.of_eq (one fun t => whLoc c ↦[hTile (48 + t)]{fullShare} V c main_arg14)); iexact HWl
      · iapply (Entails.of_eq (one fun t => bhLoc c ↦[bTile (48 + t)]{fullShare} V c main_v3)); iexact HBl
    isplitl [HO]; iexact HO
    isplitl [HOl]
    · iapply (Entails.of_eq (one fun t => ohLoc c ↦[hTile (48 + t)]{fullShare} V c main_v4)); iexact HOl
    iapply (Entails.of_eq (owed_eq c W).symm)
    iexists W
    isplitr; · ipureintro; exact fun p hp => Or.inl hp
    iexact Howes
  iintro %_ ⟨⟨H0, H1, Hp⟩, Hscr, Hs, Hsl, HO, HOl, Howes⟩
  ihave Howes := (Entails.of_eq (owed_eq c W)) $$ Howes
  icases Howes with ⟨%W', %hW', Howes⟩
  ihave Hp := (Entails.of_eq (params_eq c _ _ _ _ _ _ _ _ _ _ _)) $$ Hp
  icases Hp with ⟨H2, H3, H4, H5, H6, H7, H8, H9, H10, H11, H12⟩
  isplitl [Hscr Hs Hsl HO HOl]
  · isplitl [Hscr]; iexact Hscr
    ihave Hs := (Entails.of_eq (srcs_all c _ _)) $$ Hs
    icases Hs with ⟨HW, HB⟩
    ihave Hsl := (Entails.of_eq (srcs_eq c _ _ 48)) $$ Hsl
    icases Hsl with ⟨HWl, HBl⟩
    isplitl [HW HWl]
    · iapply (Entails.of_eq (tiles_w c _).symm)
      isplitl [HW]; iexact HW
      iapply (Entails.of_eq (one fun t => whLoc c ↦[hTile (48 + t)]{fullShare} V c main_arg14).symm); iexact HWl
    isplitl [HB HBl]
    · iapply (Entails.of_eq (tiles_b c _).symm)
      isplitl [HB]; iexact HB
      iapply (Entails.of_eq (one fun t => bhLoc c ↦[bTile (48 + t)]{fullShare} V c main_v3).symm); iexact HBl
    iapply (Entails.of_eq (tiles_o c _).symm)
    isplitl [HO]; iexact HO
    iapply (Entails.of_eq (one fun t => ohLoc c ↦[hTile (48 + t)]{fullShare} res V c).symm); iexact HOl
  isplitl [Howes]
  · iexists W'
    isplitr
    · ipureintro
      exact fun p hp => (hW' p hp).elim (fun h => hW h) fun h => Or.inl (by show (K (F := F)).lev _ p.2 ≤ _; rw [h]; exact Nat.zero_le _)
    iexact Howes
  isplitl [H0]
  · iexists (V c main_v2); isplitr; (ipureintro; rfl); iapply (hold_out c (win1_0.stage 0) (View.set_whole _) (V c main_v2) (V c main_v2) fun _ h => h); iexact H0
  isplitl [H1]
  · iexists (V c main_arg2); isplitr; (ipureintro; rfl); iapply (hold_out c (win1_1.stage 0) (View.set_whole _) (V c main_arg2) (V c main_arg2) fun _ h => h); iexact H1
  isplitl [H2]
  · iexists (V c main_arg3); isplitr; (ipureintro; rfl); iapply (hold_out c (win1_2.stage 0) (View.set_whole _) (V c main_arg3) (V c main_arg3) fun _ h => h); iexact H2
  isplitl [H3]
  · iexists (V c main_arg4); isplitr; (ipureintro; rfl); iapply (hold_out c (win1_3.stage 0) (View.set_whole _) (V c main_arg4) (V c main_arg4) fun _ h => h); iexact H3
  isplitl [H4]
  · iexists (V c main_arg5); isplitr; (ipureintro; rfl); iapply (hold_out c (win1_4.stage 0) (View.set_whole _) (V c main_arg5) (V c main_arg5) fun _ h => h); iexact H4
  isplitl [H5]
  · iexists (V c main_arg6); isplitr; (ipureintro; rfl); iapply (hold_out c (win1_5.stage 0) (View.set_whole _) (V c main_arg6) (V c main_arg6) fun _ h => h); iexact H5
  isplitl [H6]
  · iexists (V c main_arg7); isplitr; (ipureintro; rfl); iapply (hold_out c (win1_6.stage 0) (View.set_whole _) (V c main_arg7) (V c main_arg7) fun _ h => h); iexact H6
  isplitl [H7]
  · iexists (V c main_arg8); isplitr; (ipureintro; rfl); iapply (hold_out c (win1_7.stage 0) (View.set_whole _) (V c main_arg8) (V c main_arg8) fun _ h => h); iexact H7
  isplitl [H8]
  · iexists (V c main_arg9); isplitr; (ipureintro; rfl); iapply (hold_out c (win1_8.stage 0) (View.set_whole _) (V c main_arg9) (V c main_arg9) fun _ h => h); iexact H8
  isplitl [H9]
  · iexists (V c main_arg10); isplitr; (ipureintro; rfl); iapply (hold_out c (win1_9.stage 0) (View.set_whole _) (V c main_arg10) (V c main_arg10) fun _ h => h); iexact H9
  isplitl [H10]
  · iexists (V c main_arg11); isplitr; (ipureintro; rfl); iapply (hold_out c (win1_10.stage 0) (View.set_whole _) (V c main_arg11) (V c main_arg11) fun _ h => h); iexact H10
  isplitl [H11]
  · iexists (V c main_arg12); isplitr; (ipureintro; rfl); iapply (hold_out c (win1_11.stage 0) (View.set_whole _) (V c main_arg12) (V c main_arg12) fun _ h => h); iexact H11
  iexists (V c main_arg13); isplitr; (ipureintro; rfl); iapply (hold_out c (win1_12.stage 0) (View.set_whole _) (V c main_arg13) (V c main_arg13) fun _ h => h); iexact H12

/-! ## The region over the unscoped buffers -/

/-- The windows' pipeline takes no prefetched table. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- What the core owes between its parts: nothing, having waited at low levels only. -/
def idle (c : Dev nD) : sProp 𝕄 := iprop(∃ W, ⌜↑W ⊆ low (F := F) c⌝ ∗ owes (SparseCore.T c) (0 : CellTallies nD τ sig (HIx 1)) W)

variable (Vp : (c : Dev nD) → (b : Ref sig .tc) → Buf (Elt F) ((c : Thread nD τ).loc b))

theorem arr_ne : ∀ w : Fin 13, Pipeline.arrRef spec1 w ≠ main_v4 := by decide
theorem arr_in : ∀ w : Fin 13, (win1 w).isOut = false := by decide

/-- The unscoped buffers that neither a window nor the body touches. -/
def rest (c : Dev nD) (U : (b : Ref sig .tc) → Buf (Elt F) ((c : Thread nD τ).loc b)) : sProp 𝕄 :=
  iprop((((c : Thread nD τ).loc main_arg0) ↦{fullShare} U main_arg0) ∗ (((c : Thread nD τ).loc main_arg1) ↦{fullShare} U main_arg1)
    ∗ (((c : Thread nD τ).loc main_arg15) ↦{fullShare} U main_arg15) ∗ (((c : Thread nD τ).loc main_v0) ↦{fullShare} U main_v0)
    ∗ (((c : Thread nD τ).loc main_v1) ↦{fullShare} U main_v1) ∗ (((c : Thread nD τ).loc main_v5) ↦{fullShare} U main_v5))

set_option backward.isDefEq.respectTransparency.types false in
/-- The region: entered with the unscoped buffers at `V`, left with the result's at the body's result and the others as they were. -/
def reg (hVp_out : ∀ c, Vp c main_v4 = res V c) (hVp_ne : ∀ c (b : Ref sig .tc), b ≠ main_v4 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := SemIx
  osem := sems
  ho := semFacts
  hbody c := (body_obligation V c).loose
  hwaits := Pipeline.hwaits_of_owed_zero _ _ _ _ (K (F := F)).L (K (F := F)).lev 0 fun _ _ => rfl
  pre c := iprop(unscopedBufs c (V c) ∗ idle (F := F) c)
  post c := iprop(unscopedBufs c (Vp c) ∗ idle (F := F) c)
  X c := iprop(Pipeline.ownSems0 sems c ∗ (whLoc c ↦[Finset.univ]{fullShare} (V c main_arg14 : Buf (Elt F) (whLoc c)))
    ∗ (bhLoc c ↦[Finset.univ]{fullShare} (V c main_v3 : Buf (Elt F) (bhLoc c))) ∗ (ohLoc c ↦[Finset.univ]{fullShare} (V c main_v4 : Buf (Elt F) (ohLoc c))))
  Y c := iprop((whLoc c ↦[Finset.univ]{fullShare} (V c main_arg14 : Buf (Elt F) (whLoc c)))
    ∗ (bhLoc c ↦[Finset.univ]{fullShare} (V c main_v3 : Buf (Elt F) (bhLoc c))) ∗ (ohLoc c ↦[Finset.univ]{fullShare} res V c))
  Z c := rest c (V c)
  hentry c := by
    have hsplit := Pipeline.arrays_of_unscopedBufs (p := 0) (pcfgs (F := F)) adm (pdats V) launch1.win launch1.arr_whole c
      ((pdats V 0 c).share_full fun _ => rfl) (V c) fun _ => rfl
    iintro ⟨⟨Hub, HI⟩, Hsem, -⟩
    ihave H := hsplit $$ Hub
    icases H with ⟨Ha, Hrest⟩
    ihave Hrest := (Entails.of_eq (unscopedRest1_eq c (V c))) $$ Hrest
    icases Hrest with ⟨H0, H1, H14, H15, Hv0, Hv1, Hv3, Hv4, Hv5⟩
    imodintro
    isplitl [Ha]; · iexact Ha
    isplitr; · unfold Pipeline.prefHeld; rw [show (Finset.univ : Finset (Fin 0)) = ∅ from rfl, BI.bigSep_empty]; iempintro
    isplitl [HI]
    · unfold idle
      icases HI with ⟨%W, %hW, HO⟩
      iexists W
      isplitr; · ipureintro; exact fun p hp => Or.inl (hW hp)
      iexact HO
    isplitl [Hsem H14 Hv3 Hv4]
    · isplitl [Hsem]; iexact Hsem
      isplitl [H14]; iexact H14
      isplitl [Hv3]
      · iexact Hv3
      · iexact Hv4
    unfold rest
    isplitl [H0]; iexact H0
    isplitl [H1]; iexact H1
    isplitl [H15]; iexact H15
    isplitl [Hv0]; iexact Hv0
    isplitl [Hv1]
    · iexact Hv1
    · iexact Hv5
  hin c := by
    rw [show (pdats V 0 c).Φ 0 = aside V c (V c main_v4) from rfl]
    unfold aside
    iintro ⟨⟨Hsem, HW, HB, HO⟩, -, Hr⟩
    isplitl [Hsem Hr]
    · iapply (to_scr (F := F) c)
      isplitl [Hsem]
      · iexact Hsem
      · iexact Hr
    isplitl [HW]; iexact HW
    isplitl [HB]
    · iexact HB
    · iexact HO
  hout c := by
    rw [show (pdats V 0 c).Φ (Fin.last _) = aside V c (res V c) from rfl]
    unfold aside
    iintro ⟨Hscr, HW, HB, HO⟩
    isplitl [HW HB HO]
    · isplitl [HW]; iexact HW
      isplitl [HB]
      · iexact HB
      · iexact HO
    iapply (of_scr (F := F) c)
    iexact Hscr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (Vp c) (Vp c) ((pdats V 0 c).arrAt · cfg1.N)
      (fun w => ((pdats V 0 c).arrAt_in w (arr_in w) _).trans (hVp_ne c _ (arr_ne w)).symm)
      (fun _ _ => rfl)
    iintro ⟨Ha, ⟨%W, %hW, HO⟩, ⟨HW, HB, HOh⟩, HZ⟩
    imodintro
    isplitr [HO]
    · iapply hjoin
      isplitl [Ha]; iexact Ha
      iapply (Entails.of_eq (unscopedRest1_eq c (Vp c)).symm)
      rw [hVp_out c, hVp_ne c main_arg0 (by decide), hVp_ne c main_arg1 (by decide), hVp_ne c main_arg14 (by decide), hVp_ne c main_arg15 (by decide),
        hVp_ne c main_v0 (by decide), hVp_ne c main_v1 (by decide), hVp_ne c main_v3 (by decide), hVp_ne c main_v5 (by decide)]
      unfold rest
      icases HZ with ⟨H0, H1, H15, Hv0, Hv1, Hv5⟩
      isplitl [H0]; iexact H0
      isplitl [H1]; iexact H1
      isplitl [HW]; iexact HW
      isplitl [H15]; iexact H15
      isplitl [Hv0]; iexact Hv0
      isplitl [Hv1]; iexact Hv1
      isplitl [HB]; iexact HB
      isplitl [HOh]
      · iexact HOh
      · iexact Hv5
    unfold idle
    iexists W
    isplitr
    · ipureintro
      intro p hp
      rcases hW hp with h | ⟨w, s, rfl⟩
      · exact h
      · exact Nat.zero_le _
    iexact HO

end Cert.Proof.Region
-- ==== Proof.Main.lean ====
/-
  The whole program's run: @main on the TensorCore (two host operations on the indices, the gather on the SparseCores,
  the bias's reshape, the fused kernel, the result's reshape) over one valuation of the unscoped arrays, the launch, and
  the frame claims. Written once over any float values `F`.
-/
module

public import proofs.«01_k».proof.Proof.Gather
public import proofs.«01_k».proof.Proof.Region
public import Idealize.ShloMosaic.Lib.Pipeline.Frame
public import proofs.«01_k».proof.Proof.Gen.Kernel
public import proofs.«01_k».proof.Proof.Gen.Pre_in_range

@[expose] public section

set_option maxRecDepth 16384

noncomputable section

namespace Cert.Proof.Main

open Cert.KernelIdeal Cert.KernelIdeal.Gen Cert.Proof.Base Cert.Proof.Gather Cert.Proof.Region

open Idealize.ShloMosaic
open Idealize.ShloMosaic.TcCoe
open Idealize.ShloMosaic.SparseCore.Cfg (HIx)
open Idealize.ShloMosaic.StableHlo (held held_sub_split held_congr wp_hlo_within)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents, step by step -/

/-- An array of the TensorCore as a reference of the device. -/
abbrev at' (b : Ref sig .tc) : DevRef τ sig := Proc.devRef .tc b

abbrev opTr : HloOp τ sig (Elt F) := StableHlo.unary main_arg0 main_v0 ((transpose S64x8 [1, 0] · transposes_S8x64_S64x8_1_0) : (⟨S8x64, .i32⟩ : BufTy).Contents (Elt F) → (⟨S64x8, .i32⟩ : BufTy).Contents (Elt F))
abbrev opFl : HloOp τ sig (Elt F) := StableHlo.reshape main_v0 main_v1 (rfl : (.i32 : EltTy) = .i32) shapeCasts_S64x8_S512
abbrev opBi : HloOp τ sig (Elt F) := StableHlo.reshape main_arg15 main_v3 (rfl : (.f32 : EltTy) = .f32) shapeCasts_S100000_S1x100000
abbrev opRe : HloOp τ sig (Elt F) := StableHlo.reshape main_v4 main_v5 (rfl : (.f32 : EltTy) = .f32) shapeCasts_S512x100000_S8x64x100000

/-- The launch contents, the contents before the gather, -/
def V0 (d : Dev nD) : Valuation τ sig (Elt F) := fun b => m (d, b)
def V2 (d : Dev nD) : Valuation τ sig (Elt F) := (opFl (F := F)).result ((opTr (F := F)).result (V0 m d))
/-- after it, -/
def V3 (d : Dev nD) : Valuation τ sig (Elt F) := Function.update (V2 m d) (at' main_v2) (gath (V2 m d (at' main_v1)) (V2 m d (at' main_arg1)))
/-- before the fused kernel, -/
def V4 (d : Dev nD) : Valuation τ sig (Elt F) := (opBi (F := F)).result (V3 m d)
/-- after it, -/
def V5 (d : Dev nD) : Valuation τ sig (Elt F) := Function.update (V4 m d) (at' main_v4) (res (fun c b => V4 m c (at' b)) d)
/-- and at the end. -/
def V6 (d : Dev nD) : Valuation τ sig (Elt F) := (opRe (F := F)).result (V5 m d)

theorem V2_eq (d : Dev nD) : (opFl (F := F)).result ((opTr (F := F)).result (V0 m d)) = V2 m d := rfl
theorem V4_eq (d : Dev nD) : (opBi (F := F)).result (V3 m d) = V4 m d := rfl
theorem V6_eq (d : Dev nD) : (opRe (F := F)).result (V5 m d) = V6 m d := rfl

/-- An array no step writes is at its launch contents throughout. -/
theorem V2_of_ne (d : Dev nD) (b : DevRef τ sig) (h0 : b ≠ at' main_v0) (h1 : b ≠ at' main_v1) : V2 m d b = m (d, b) := by
  unfold V2
  rw [(opFl (F := F)).result_of_not_mem _ (show b ∉ ({at' main_v1} : Finset (DevRef τ sig)) by simpa using h1),
    (opTr (F := F)).result_of_not_mem _ (show b ∉ ({at' main_v0} : Finset (DevRef τ sig)) by simpa using h0)]
  rfl
theorem V4_of_ne (d : Dev nD) (b : DevRef τ sig) (h2 : b ≠ at' main_v2) (h3 : b ≠ at' main_v3) : V4 m d b = V2 m d b := by
  unfold V4 V3
  rw [(opBi (F := F)).result_of_not_mem _ (show b ∉ ({at' main_v3} : Finset (DevRef τ sig)) by simpa using h3), Function.update_of_ne h2]
theorem V6_of_ne (d : Dev nD) (b : DevRef τ sig) (h4 : b ≠ at' main_v4) (h5 : b ≠ at' main_v5) : V6 m d b = V4 m d b := by
  unfold V6 V5
  rw [(opRe (F := F)).result_of_not_mem _ (show b ∉ ({at' main_v5} : Finset (DevRef τ sig)) by simpa using h5), Function.update_of_ne h4]

/-- The list the gather reads. -/
abbrev idxs (d : Dev nD) : Buf (Elt F) (iLoc d) := V2 m d (at' main_v1)
/-- The table, -/
abbrev tab (d : Dev nD) : Buf (Elt F) (xLoc d) := V2 m d (at' main_arg1)
/-- The array the gather writes, before. -/
abbrev dst (d : Dev nD) : Buf (Elt F) (oLoc d) := V2 m d (at' main_v2)

/-- The gather's three arrays. -/
abbrev S3 : Finset (DevRef τ sig) := {at' main_v1, at' main_arg1, at' main_v2}

theorem S3_sub : S3 ⊆ ucRefs τ sig := by decide

theorem held_S3 (d : Dev nD) (W : Valuation τ sig (Elt F)) :
    (held (SparseCore.T d) S3 W : sProp 𝕄) = iprop((iLoc d ↦{fullShare} W (at' main_v1)) ∗ (xLoc d ↦{fullShare} W (at' main_arg1)) ∗ oLoc d ↦{fullShare} W (at' main_v2)) := by
  unfold held S3
  rw [SparseCore.bigSep_insert' (by decide), SparseCore.bigSep_insert' (by decide), bigSep_singleton]

/-- All arrays before the gather: its three, and the others. -/
theorem held_V2 (d : Dev nD) : (held (SparseCore.T d) (ucRefs τ sig) (V2 m d) : sProp 𝕄)
    = iprop(((iLoc d ↦{fullShare} idxs m d) ∗ (xLoc d ↦{fullShare} tab m d) ∗ oLoc d ↦{fullShare} dst m d) ∗ held (SparseCore.T d) (ucRefs τ sig \ S3) (V2 m d)) := by
  rw [held_sub_split (SparseCore.T d) S3_sub, held_S3]

/-- All arrays after the gather, likewise. -/
theorem held_V3 (d : Dev nD) : (held (SparseCore.T d) (ucRefs τ sig) (V3 m d) : sProp 𝕄)
    = iprop(((iLoc d ↦{fullShare} idxs m d) ∗ (xLoc d ↦{fullShare} tab m d) ∗ oLoc d ↦{fullShare} gath (idxs m d) (tab m d)) ∗ held (SparseCore.T d) (ucRefs τ sig \ S3) (V2 m d)) := by
  rw [held_sub_split (SparseCore.T d) S3_sub, held_S3,
    held_congr (SparseCore.T d) (S := ucRefs τ sig \ S3) (V := V3 m d) (V' := V2 m d) fun b hb => Function.update_of_ne (fun h => (Finset.mem_sdiff.mp hb).2 (by subst h; decide)) _ _]
  unfold V3
  rw [Function.update_of_ne (show at' main_v1 ≠ at' main_v2 by decide), Function.update_of_ne (show at' main_arg1 ≠ at' main_v2 by decide), Function.update_self]

/-! ## The region -/

abbrev VA (c : Dev nD) (b : Ref sig .tc) : Buf (Elt F) ((c : Thread nD τ).loc b) := V4 m c (at' b)
abbrev VB (c : Dev nD) (b : Ref sig .tc) : Buf (Elt F) ((c : Thread nD τ).loc b) := V5 m c (at' b)

theorem VB_out (c : Dev nD) : VB m c main_v4 = res (VA m) c := Function.update_self _ _ _
theorem VB_ne (c : Dev nD) (b : Ref sig .tc) (h : b ≠ main_v4) : VB m c b = VA m c b :=
  Function.update_of_ne (fun e => h (Proc.devRef_injective _ e)) _ _

/-- The fused kernel's region between the two valuations. -/
def R := reg (VA m) (VB m) (VB_out m) (VB_ne m)

/-- What is owed between the calls, taken out of the TensorCore's state and put back. -/
theorem idle_of (d : Dev nD) : iprop(∃ W, ⌜(K (F := F)).WBelow (SparseCore.T d) W (8 * SparseCore.Cfg.Blocks.fst (Q := 1) (N := 1) 1)⌝ ∗ owes (SparseCore.T d) ((K (F := F)).Otc d 1) W)
    ⊢ (idle (F := F) d : sProp 𝕄) := by
  rw [(K (F := F)).Otc_end d (n := 1) (Nat.le_refl 1)]
  unfold idle
  iintro ⟨%W, %hW, HO⟩
  iexists W
  isplitr; · ipureintro; exact fun p hp => hW p hp
  iexact HO
theorem of_idle (d : Dev nD) : (idle (F := F) d : sProp 𝕄)
    ⊢ iprop(∃ W, ⌜(K (F := F)).WBelow (SparseCore.T d) W (8 * SparseCore.Cfg.Blocks.fst (Q := 1) (N := 1) 1)⌝ ∗ owes (SparseCore.T d) ((K (F := F)).Otc d 1) W) := by
  rw [(K (F := F)).Otc_end d (n := 1) (Nat.le_refl 1)]
  unfold idle
  iintro ⟨%W, %hW, HO⟩
  iexists W
  isplitr; · ipureintro; exact fun p hp => hW hp
  iexact HO

/-- The pipeline's ghost state on a device. -/
def ghost (d : Dev nD) : sProp 𝕄 :=
  iprop(Pipeline.cellsGhost (Pipeline.pin (pcfgs (F := F)) adm) EP 0 d ∗ Pipeline.toksInit (Pipeline.pin (pcfgs (F := F)) adm) EP 0 d)

/-- The entry of the fused kernel, as @main's program under the SparseCore launch spells it. -/
theorem lift_entry : (SparseCore.liftProg (.op (.customCall (Pipeline.entry 0) ()) fun x => .ret x : Prog (TpuEff nD τ sig (Elt F) (ΛP (F := F)) .tc) PUnit)
      : Prog (TpuEff nD τ sig (Elt F) (SparseCore.Sig (ΛP (F := F)) 1) .tc) PUnit) = Prog.lift (.customCall (SparseCore.inner (Pipeline.entry 0)) ()) := rfl

theorem R_pre (d : Dev nD) : ((R m).pre d : sProp 𝕄) = iprop(unscopedBufs d (fun b => V4 m d b) ∗ idle (F := F) d) := rfl
theorem R_post (d : Dev nD) : ((R m).post d : sProp 𝕄) = iprop(unscopedBufs d (fun b => V5 m d b) ∗ idle (F := F) d) := rfl

/-- What the call is entered with, as the region takes it. -/
theorem enter (d : Dev nD) (Φ : PUnit → sProp 𝕄) :
    iprop((boundary (SparseCore.T d) ∗ held (SparseCore.T d) (ucRefs τ sig) (V5 m d) ∗ idle (F := F) d -∗ Φ ⟨⟩)
        ∗ boundary (SparseCore.T d) ∗ held (SparseCore.T d) (ucRefs τ sig) (V4 m d) ∗ idle (F := F) d
        ∗ levAts (K (F := F)).L (K (F := F)).lev ∗ ghost (F := F) d)
      ⊢ (iprop((boundary (SparseCore.T d) ∗ (R m).post d -∗ wp frame (wpE (D (F := F)) 𝒱 (SparseCore.T d) none) Set.univ (.ret ⟨⟩) Φ)
        ∗ boundary (SparseCore.T d) ∗ (R m).pre d ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄) := by
  rw [← Pipeline.unscopedBufs_held, ← Pipeline.unscopedBufs_held, R_pre, R_post]
  unfold ghost
  iintro ⟨Hk, Hb, Hh, Hi, Hl, Hg, Ht⟩
  isplitl [Hk]
  · iintro ⟨Hb, Hh, Hi⟩
    iapply (Entails.of_eq (wp_ret ..).symm)
    imodintro
    iapply Hk
    isplitl [Hb]; iexact Hb
    isplitl [Hh]; iexact Hh
    iexact Hi
  isplitl [Hb]; iexact Hb
  isplitl [Hh Hi]
  · isplitl [Hh]; iexact Hh
    iexact Hi
  isplitl [Hl]; iexact Hl
  isplitl [Hg]; iexact Hg
  iexact Ht

/-- The fused kernel's call: from all arrays at the contents before it to all arrays at the contents after. -/
theorem wp_fused (d : Dev nD) [∀ e, Nonempty (Elt F e)] (Φ : PUnit → sProp 𝕄) :
    iprop((boundary (SparseCore.T d) ∗ held (SparseCore.T d) (ucRefs τ sig) (V5 m d) ∗ idle (F := F) d -∗ Φ ⟨⟩)
        ∗ boundary (SparseCore.T d) ∗ held (SparseCore.T d) (ucRefs τ sig) (V4 m d) ∗ idle (F := F) d
        ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) Set.univ none
    (.op (.customCall (Pipeline.entry 0) ()) fun x => .ret x : Prog (TpuEff nD τ sig (Elt F) (ΛP (F := F)) .tc) PUnit) Φ
  rw [lift_entry (F := F)] at hl
  have hr := Pipeline.RegionSeg.wp (pcfgs (F := F)) adm (pdats (VA m)) none cellOf_inj EP (defs₀ (F := F)) 𝒱₀ (K (F := F)).L (K (F := F)).lev (R m) d
    none (fun u hu => nomatch hu) (fun x => .ret x) Φ
  exact (enter m d Φ).trans (hr.trans hl)

/-! ## @main on the TensorCore -/

theorem hTr : (opTr (F := F)).bufs ⊆ ucRefs τ sig := show ({at' main_arg0, at' main_v0} : Finset (DevRef τ sig)) ⊆ ucRefs τ sig by decide
theorem hFl : (opFl (F := F)).bufs ⊆ ucRefs τ sig := show ({at' main_v0, at' main_v1} : Finset (DevRef τ sig)) ⊆ ucRefs τ sig by decide
theorem hBi : (opBi (F := F)).bufs ⊆ ucRefs τ sig := show ({at' main_arg15, at' main_v3} : Finset (DevRef τ sig)) ⊆ ucRefs τ sig by decide
theorem hRe : (opRe (F := F)).bufs ⊆ ucRefs τ sig := show ({at' main_v4, at' main_v5} : Finset (DevRef τ sig)) ⊆ ucRefs τ sig by decide

/-- What @main leaves the claims: every array at its final contents. -/
abbrev FIN (d : Dev nD) : sProp 𝕄 := held (SparseCore.T d) (ucRefs τ sig) (V6 m d)

/-- The gather's hand-overs at this program's arrays. -/
abbrev PP : (K (F := F)).Pay (nD := nD) (Val := Elt F) (Name := ℕ) (U := UU) := P (idxs m) (tab m) (dst m)

set_option maxHeartbeats 2000000 in
/-- @main on a device's TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from Pipeline.unscopedBufs_held d (V0 m d)]
  simp only [main, wp_bind, wp_pure]
  iintro ⟨#Hctx, Hst, ⟨Hb, Hheld, Hts, -⟩, Hgh⟩
  iapply (wp_hlo_within 𝒱 (SparseCore.T d) none Set.univ (op := opTr) (S := ucRefs τ sig) hTr (V := V0 m d)) $$ [Hb Hheld]
  · isplitl [Hb]
    · iexact Hb
    · iexact Hheld
  iintro ⟨Hb, Hheld⟩
  rw [wp_ret]; imodintro
  iapply (wp_hlo_within 𝒱 (SparseCore.T d) none Set.univ (op := opFl) (S := ucRefs τ sig) hFl (V := (opTr (F := F)).result (V0 m d))) $$ [Hb Hheld]
  · isplitl [Hb]
    · iexact Hb
    · iexact Hheld
  iintro ⟨Hb, Hheld⟩
  rw [wp_ret]; imodintro
  ihave Hheld := (Entails.of_eq (congrArg (held (SparseCore.T d) (ucRefs τ sig)) (V2_eq m d))) $$ Hheld
  ihave Hh := (Entails.of_eq (held_V2 (F := F) m d)) $$ Hheld
  icases Hh with ⟨H3, Hrest⟩
  iapply ((K (F := F)).wp_run (D (F := F)) 𝒱 (EH := EH) (P := PP m) κ d 0) $$ [Hst H3 Hb Hrest Hts Hgh]
  isplitr; · iexact Hctx
  isplitl [Hst]; · iexact Hst
  isplitl [H3]
  · iapply (Entails.of_eq (st_eq (idxs m) (tab m) (dst m) d).symm)
    iexact H3
  iintro ⟨Hst, Hdn⟩
  ihave H3 := (Entails.of_eq (dn_eq (idxs m) (tab m) (dst m) d)) $$ Hdn
  ihave Hheld := (Entails.of_eq (held_V3 (F := F) m d).symm) $$ [H3 Hrest]
  · isplitl [H3]
    · iexact H3
    · iexact Hrest
  iapply (wp_hlo_within 𝒱 (SparseCore.T d) none Set.univ (op := opBi) (S := ucRefs τ sig) hBi (V := V3 m d)) $$ [Hb Hheld]
  · isplitl [Hb]
    · iexact Hb
    · iexact Hheld
  iintro ⟨Hb, Hheld⟩
  ihave Hheld := (Entails.of_eq (congrArg (held (SparseCore.T d) (ucRefs τ sig)) (V4_eq m d))) $$ Hheld
  rw [wp_ret]; imodintro
  unfold SparseCore.Cfg.tcSt
  icases Hst with ⟨HO, Hst⟩
  iapply (wp_fused m d _)
  isplitr [Hb Hheld HO Hgh]
  · iintro ⟨Hb, Hheld, Hi⟩
    iapply (wp_hlo_within 𝒱 (SparseCore.T d) none Set.univ (op := opRe) (S := ucRefs τ sig) hRe (V := V5 m d)) $$ [Hb Hheld]
    · isplitl [Hb]
      · iexact Hb
      · iexact Hheld
    iintro ⟨Hb, Hheld⟩
    ihave Hheld := (Entails.of_eq (congrArg (held (SparseCore.T d) (ucRefs τ sig)) (V6_eq m d))) $$ Hheld
    rw [wp_ret]; imodintro; imodintro
    isplitl [Hi Hst]
    · isplitl [Hi]
      · iapply (of_idle (F := F) d); iexact Hi
      iexact Hst
    isplitl [Hheld]; · iexact Hheld
    isplitl [Hb]
    · iexact Hb
    · iexact Hts
  isplitl [Hb]; · iexact Hb
  isplitl [Hheld]; · iexact Hheld
  isplitl [HO]
  · iapply (idle_of (F := F) d); iexact HO
  isplitr [Hgh]
  · iapply ((K (F := F)).ctx_levAts (EH := EH) (P := PP m) κ); iexact Hctx
  iexact Hgh

/-! ## The launch -/

/-- The launch element of the certificate's ghost state: the handshakes', the pipeline's, no counters. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem bigSep_emp' {I : Type} (s : Finset I) : (bigSep s fun _ => iprop(emp)) = (iprop(emp) : sProp 𝕄) := bigSep_emp_const s

theorem EP_eq : (EP (F := F)) = (Emb.inl : Emb (UR sig nD τ) UB).trans embR := rfl

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HB⟩
  ihave HB := (own_pair_emb embR _ _) $$ HB
  icases HB with ⟨HP, -⟩
  ihave HP := (Entails.of_eq (congrArg (fun e : Emb (UR sig nD τ) 𝕄 => (BI.own (e.toFun _) : sProp 𝕄)) (EP_eq (F := F)).symm)) $$ HP
  imod (Pipeline.fund_ghost (Pipeline.pin (pcfgs (F := F)) adm) EP cellOf_inj) $$ HP with HP
  icases HP with ⟨Hg, Ht⟩
  imodintro
  isplitl [HH]; · iexact HH
  isplitl [Hg Ht]
  · unfold ghost
    rw [bigSep_sep']
    isplitl [Hg]
    · rw [show (bigSep Finset.univ fun d : Dev nD => Pipeline.cellsGhost (Pipeline.pin (pcfgs (F := F)) adm) EP 0 d : sProp 𝕄)
        = bigSep Finset.univ fun d : Dev nD => bigSep Finset.univ fun p : Fin 1 => Pipeline.cellsGhost (Pipeline.pin (pcfgs (F := F)) adm) EP p d from
        bigSep_congr fun d _ => (bigSep_univ_of_subsingleton (Φ := fun p : Fin 1 => (Pipeline.cellsGhost (Pipeline.pin (pcfgs (F := F)) adm) EP p d : sProp 𝕄)) (0 : Fin 1)).symm]
      iexact Hg
    · rw [show (bigSep Finset.univ fun d : Dev nD => Pipeline.toksInit (Pipeline.pin (pcfgs (F := F)) adm) EP 0 d : sProp 𝕄)
        = bigSep Finset.univ fun d : Dev nD => bigSep Finset.univ fun p : Fin 1 => Pipeline.toksInit (Pipeline.pin (pcfgs (F := F)) adm) EP p d from
        bigSep_congr fun d _ => (bigSep_univ_of_subsingleton (Φ := fun p : Fin 1 => (Pipeline.toksInit (Pipeline.pin (pcfgs (F := F)) adm) EP p d : sProp 𝕄)) (0 : Fin 1)).symm]
      iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-- What the claims read of a device's final state: every array at its final contents. -/
def fq (d : Dev nD) (s' : Phys nD τ sig (Elt F)) : Prop := ∀ b ∈ ucRefs τ sig, s'.mem.mem (d, b) = V6 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- The post of the run: the arrays at their final contents, the semaphores at zero. -/
def QC : PUnit × MemSt nD τ sig (Elt F) → Prop := fun r => (∀ c : Dev nD, ∀ b ∈ ucRefs τ sig, r.2.mem (c, b) = V6 m c b) ∧ r.2.sem = fun _ => 0

/-- The program's run: from any memory whose index list is in the table's rows. -/
theorem run_main [∀ e, Nonempty (Elt F e)] (hpre : InRows (idxs m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (idxs m) (tab m) (dst m) facts hpre)
    (fun q _ => match q with | 0 => SparseCore.Cfg.VecSplit.of_plain (vecSplit (idxs m) (tab m) (dst m)))
    m ρ main (fun d => ghost (F := F) d) (FIN m) (u₀ (F := F)) (sep_elim_left.trans (hu₀ m)) (hmain m ρ) (fq m) (hfin m) (QC m) (fun _ h hz => ⟨h, hz⟩)

end Cert.Proof.Main

end
-- ==== Proof.Frames.lean ====
/-
  The frame claims of the kernel, as printed and idealized: the precondition puts the index list in the table's rows, and
  the program's run leaves every argument array as it was and every semaphore at zero.
-/
module

public import proofs.«01_k».proof.Proof.Main
public import Idealize.ShloMosaic.Lib.ReduceAll

@[expose] public section

set_option maxRecDepth 16384

noncomputable section

namespace Cert.Proof.Frames

open Cert.KernelIdeal Cert.KernelIdeal.Gen Cert.Proof.Base Cert.Proof.Gather Cert.Proof.Region Cert.Proof.Main

open Idealize.ShloMosaic
open Idealize.ShloMosaic.TcCoe
open Idealize.ShloMosaic.Pipeline (ucRefs)
open Idealize.SL.Sem

variable {F : FTy → Type} [FloatOps F]

variable (m : (ℓ : Loc nD τ sig) → Buf (Elt F) ℓ)

/-- The list the gather reads: the transposed indices, flattened. -/
theorem idxs_eq (d : Dev nD) : idxs m d
    = shapeCast S512 (transpose S64x8 [1, 0] (m ((d : Thread nD τ).loc main_arg0)) transposes_S8x64_S64x8_1_0) shapeCasts_S64x8_S512 := by
  show V2 m d (at' main_v1) = _
  unfold V2
  rw [StableHlo.reshape_result, StableHlo.unary_result]
  rfl

/-- What the precondition says of the indices: each, read as an unsigned word, is below the table's rows. -/
def Rows : Prop := ∀ (d : Dev nD) (i : S8x64.Idx), (m ((d : Thread nD τ).loc main_arg0) i : BitVec 32).toNat < 100000

theorem inRows_of (h : Rows m) : InRows (idxs m) := fun d j => by
  rw [idxs_eq]
  exact h d _

/-- A word between 0 and 100000, both as signed words, is below 100000 as an unsigned one. -/
theorem word_lt (v : BitVec 32) (h : IntOp.andi (IntOp.cmpi .sge v 0#32) (IntOp.cmpi .slt v 100000#32) = 1#1) : v.toNat < 100000 := by
  obtain ⟨h1, h2⟩ := IntOp.andi_eq_one.1 h
  have e1 := IntOp.cmpi_sge.1 h1
  have e2 := IntOp.cmpi_slt.1 h2
  simp only [BitVec.toInt_eq_toNat_cond, BitVec.toNat_ofNat, Nat.reducePow, Nat.reduceMod] at e1 e2
  omega

instance : Subsingleton Cert.Pre_in_range.S_.Idx := ⟨fun i j => funext fun a => a.elim0⟩

/-- The precondition's function at 1 puts every index in the table's rows. -/
theorem rows_of_fn (x0 x1 x2 x3 x4 x5 x6 x7 x8 x9 x10 x11 x12 x13 x14 x15) (j : Cert.Pre_in_range.S_.Idx)
    (h : Cert.Pre_in_range.fn (F := F) x0 x1 x2 x3 x4 x5 x6 x7 x8 x9 x10 x11 x12 x13 x14 x15 j = 1#1) (i : S8x64.Idx) : (x0 i).toNat < 100000 :=
  word_lt _ (Host.reduce_andi_all _ _ _ _ j h i)

theorem rows_kernel (m : (ℓ : Loc nD τ sig) → Buf (Elt Bits) ℓ) (h : Cert.Pre_Kernel m) : Rows m := fun d i =>
  rows_of_fn _ _ _ _ _ _ _ _ _ _ _ _ _ _ _ _ (fun a => a.elim0) (congrFun (h d) _) i

theorem rows_ideal (m : (ℓ : Loc nD τ sig) → Buf (Elt Ideal) ℓ) (h : Cert.Pre_KernelIdeal m) : Rows m := fun d i =>
  rows_of_fn _ _ _ _ _ _ _ _ _ _ _ _ _ _ _ _ (fun a => a.elim0) (congrFun (h d) _) i

/-- An argument array ends as it began. -/
theorem kept {r : PUnit × MemSt nD τ sig (Elt F)} (h : QC m r) (d : Dev nD) (b : Ref sig .tc) (hb : at' b ∈ ucRefs τ sig)
    (h0 : at' b ≠ at' main_v0) (h1 : at' b ≠ at' main_v1) (h2 : at' b ≠ at' main_v2) (h3 : at' b ≠ at' main_v3) (h4 : at' b ≠ at' main_v4) (h5 : at' b ≠ at' main_v5) :
    r.2.mem ((d : Thread nD τ).loc b) = m ((d : Thread nD τ).loc b) :=
  (h.1 d (at' b) hb).trans ((V6_of_ne m d _ h4 h5).trans ((V4_of_ne m d _ h2 h3).trans (V2_of_ne m d _ h0 h1)))

/-- All of them do. -/
theorem args_kept {r : PUnit × MemSt nD τ sig (Elt F)} (h : QC m r) (d : Dev nD) :
    r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5)
    ∧ r.2.mem ((d : Thread nD τ).loc main_arg6) = m ((d : Thread nD τ).loc main_arg6)
    ∧ r.2.mem ((d : Thread nD τ).loc main_arg7) = m ((d : Thread nD τ).loc main_arg7)
    ∧ r.2.mem ((d : Thread nD τ).loc main_arg8) = m ((d : Thread nD τ).loc main_arg8)
    ∧ r.2.mem ((d : Thread nD τ).loc main_arg9) = m ((d : Thread nD τ).loc main_arg9)
    ∧ r.2.mem ((d : Thread nD τ).loc main_arg10) = m ((d : Thread nD τ).loc main_arg10)
    ∧ r.2.mem ((d : Thread nD τ).loc main_arg11) = m ((d : Thread nD τ).loc main_arg11)
    ∧ r.2.mem ((d : Thread nD τ).loc main_arg12) = m ((d : Thread nD τ).loc main_arg12)
    ∧ r.2.mem ((d : Thread nD τ).loc main_arg13) = m ((d : Thread nD τ).loc main_arg13)
    ∧ r.2.mem ((d : Thread nD τ).loc main_arg14) = m ((d : Thread nD τ).loc main_arg14)
    ∧ r.2.mem ((d : Thread nD τ).loc main_arg15) = m ((d : Thread nD τ).loc main_arg15) := by
  refine ⟨?_, ?_, ?_, ?_, ?_, ?_, ?_, ?_, ?_, ?_, ?_, ?_, ?_, ?_, ?_, ?_⟩ <;>
    exact kept m h d _ (by decide) (by decide) (by decide) (by decide) (by decide) (by decide) (by decide)

/-! ## The printed kernel's text is the idealized kernel's -/

theorem body_eq : Cert.Kernel.cc1__fused_body (F := F) = Cert.KernelIdeal.cc1__fused_body (F := F) := by
  unfold Cert.Kernel.cc1__fused_body Cert.KernelIdeal.cc1__fused_body
  rfl

set_option maxHeartbeats 1000000 in
theorem defs₀_tc (t) (s) : Cert.Kernel.defs₀ (F := F) .tc 1 (t, s) = Cert.KernelIdeal.defs₀ (F := F) .tc 1 (t, s) := by
  show Cert.Kernel.cc1__fused_body (F := F) _ _ _ _ _ _ _ _ _ _ _ _ _ _ _ _ _ _ _ _ _ _ _ _ _ _ _ _ _ _ _ _ _ _ _ _ _ _ _ _ _ _ _ _ _ _ _ _ _ _ _ _ _ _ _ _ _ _
    = Cert.KernelIdeal.defs₀ (F := F) .tc 1 (t, s)
  rw [body_eq]
  rfl

set_option maxHeartbeats 1000000 in
theorem defs₀_eq : Cert.Kernel.defs₀ (F := F) = Cert.KernelIdeal.defs₀ (F := F) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => exact defs₀_tc t s

theorem defs_eq : Cert.Kernel.defs (F := F) = Cert.KernelIdeal.defs (F := F) := by
  unfold Cert.Kernel.defs Cert.KernelIdeal.defs
  rw [defs₀_eq]
  rfl

/-- The printed kernel's frame. -/
theorem frame_kernel : Cert.quiescent_Kernel := fun m ρ hpre => by
  have h := (θ_run (Cert.KernelIdeal.defs (F := Bits)) (Cert.KernelIdeal.threads (F := Bits)) ⟨m, fun _ => 0, ρ⟩).mono
    (fun _ h => (⟨fun c => args_kept m h c, h.2⟩ : _ ∧ _)) (run_main (F := Bits) m ρ (inRows_of m (rows_kernel m hpre)))
  rw [defs_eq (F := Bits)]
  exact h

/-- The idealized kernel's frame. -/
theorem frame_kernelIdeal : Cert.quiescent_KernelIdeal := fun m ρ hpre =>
  (θ_run Cert.KernelIdeal.defs _ _).mono (fun _ h => ⟨fun c => args_kept m h c, h.2⟩) (run_main (F := Ideal) m ρ (inRows_of m (rows_ideal m hpre)))

end Cert.Proof.Frames

end
-- ==== Proof.Value.lean ====
/-
  The result's value: the kernel's result and the reference's are the same output layer over the same two recurrences.
-/
module

public import proofs.«01_k».proof.Proof.Entry
public import proofs.«01_k».proof.Proof.Frames

@[expose] public section

set_option maxRecDepth 16384

noncomputable section

namespace Cert.Proof.Value

open Cert.KernelIdeal Cert.KernelIdeal.Gen Cert.Proof.Gather Cert.Proof.Gru Cert.Proof.Body Cert.Proof.Ring Cert.Proof.Tiles Cert.Proof.Cell Cert.Proof.Trips Cert.Proof.Entry
open Idealize.ShloMosaic

/-! ## The output layer -/

/-- Column `j` of the features of token `t` of row `b`: the third recurrence's state after step `t`, then the fourth's. -/
def featAt (p : Par) (b : Fin 8) (t : Fin 64) (j : Fin 512) : EReal :=
  if j.val < 256 then p.s3 (t.val + 1) (ix2 b ⟨j.val % 256, Nat.mod_lt _ (by decide)⟩) else p.s4 (t.val + 1) (ix2 b ⟨j.val % 256, Nat.mod_lt _ (by decide)⟩)

/-- The result: the features times the output weight, and the bias. -/
def outR (p : Par) (W : FVec Ideal S512x100000 .f32) (B : FVec Ideal S100000 .f32) : FVec Ideal S8x64x100000 .f32 :=
  fun i => (∑ j : Fin 512, featAt p (i 0) (i 1) j * W (ix2 j (i 2))) + B (ix1 (i 2))

/-- The last columns' product at a row and a column. -/
theorem last_apply (X : FVec Ideal S512x512 .f32) (w : FVec Ideal S512x1696 .f32) (b : FVec Ideal S1x1696 .f32) (r : Fin 512) (q : Fin 1696) :
    k1_pay20 X w b (ix2 r q) = (∑ j : Fin 512, X (ix2 r j) * w (ix2 j q)) + b (ix2 0 q) := by
  pointwise [k1_pay20]

theorem wlast_apply (W : FVec Ideal S512x100000 .f32) (j : Fin 512) (q : Fin 1696) : wlast (F := Ideal) W (ix2 j q) = W (ixW j.val (98304 + q.val)) := rfl
theorem blast_apply (B : FVec Ideal S1x100000 .f32) (z : Fin 1) (q : Fin 1696) : blast (F := Ideal) B (ix2 z q) = B (ixB (98304 + q.val)) := rfl

/-- The kernel's product at a row and a column, whichever tile computes it. -/
theorem fOut_apply (X : FVec Ideal S512x512 .f32) (W : FVec Ideal S512x100000 .f32) (B : FVec Ideal S1x100000 .f32) (r : Fin 512) (c : Fin 100000) :
    fOut X W B (ix2 r c) = (∑ j : Fin 512, X (ix2 r j) * W (ix2 j c)) + B (ix2 0 c) := by
  have er : (⟨r.val % 512, Nat.mod_lt _ (by decide)⟩ : Fin 512) = r := Fin.ext (Nat.mod_eq_of_lt r.isLt)
  have hc := c.isLt
  show outAt X W B r.val c.val = _
  unfold outAt
  split
  · rename_i h
    pointwise [k1_pay4, wtile, btile]
    rw [er, ixB_eq (ix2 0 c) (by show c.val = _; omega)]
    congr 1
    refine Finset.sum_congr rfl fun j _ => ?_
    rw [ixW_eq (i := j.val) (ix2 j c) rfl (by show c.val = _; omega)]
  · rename_i h
    obtain ⟨q, hq⟩ : ∃ q : Fin 1696, q = ⟨(c.val - 98304) % 1696, Nat.mod_lt _ (by decide)⟩ := ⟨_, rfl⟩
    have hv : c.val = 98304 + q.val := by rw [hq]; show c.val = 98304 + (c.val - 98304) % 1696; omega
    rw [← hq, last_apply, er, blast_apply, ixB_eq (ix2 0 c) hv]
    congr 1
    refine Finset.sum_congr rfl fun j _ => ?_
    rw [wlast_apply, ixW_eq (i := j.val) (ix2 j c) rfl hv]

/-! ## The features -/

/-- The rows the kernel gathers for step `t` are the rows the reference takes for it. -/
theorem rows_gath (I : IVec S8x64 32) (T : FVec Ideal S100000x128 .f32) (h : ∀ b t, (I (ix2 b t)).toNat < 100000) (t : Fin 64) :
    rows8 (gath (F := Ideal) (shapeCast S512 (transpose S64x8 [1, 0] I transposes_S8x64_S64x8_1_0) shapeCasts_S64x8_S512) T) t.val
      = xt (transpose Cert.ReferenceIdeal.S64x8x128 [1, 0, 2] (taken T I) Cert.ReferenceIdeal.Gen.transposes_S8x64x128_S64x8x128_1_0_2) t.val := by
  funext i
  obtain ⟨b, k, rfl⟩ : ∃ b k, i = ix2 b k := ⟨i 0, i 1, by funext a; match a with | 0 => rfl | 1 => rfl⟩
  have hs : (shapeCast S512 (transpose S64x8 [1, 0] I transposes_S8x64_S64x8_1_0) shapeCasts_S64x8_S512)
      (ix512 ⟨(8 * t.val + b.val) % 512, Nat.mod_lt _ (by decide)⟩) = I (ix2 b t) := by
    have e1 : (⟨(8 * t.val + b.val) % 512 % 8, Nat.mod_lt _ (by decide)⟩ : Fin 8) = b := Fin.ext (by show (8 * t.val + b.val) % 512 % 8 = b.val; omega)
    have e2 : (⟨(8 * t.val + b.val) % 512 / 8, by omega⟩ : Fin 64) = t := Fin.ext (by show (8 * t.val + b.val) % 512 / 8 = t.val; omega)
    pointwise
    exact congrArg₂ (fun u v => I (ix2 u v)) e1 e2
  have e3 : (⟨t.val % 64, Nat.mod_lt _ (by decide)⟩ : Fin 64) = t := Fin.ext (Nat.mod_eq_of_lt t.isLt)
  pointwise [xt]
  rw [e3, taken_apply T I h]
  show T (rowAt ((shapeCast S512 (transpose S64x8 [1, 0] I transposes_S8x64_S64x8_1_0) shapeCasts_S64x8_S512)
      (ix512 ⟨(8 * t.val + b.val) % 512, Nat.mod_lt _ (by decide)⟩)).toNat k) = _
  rw [hs]
  congr 1
  funext a
  match a with
  | 0 => exact Fin.ext (Nat.mod_eq_of_lt (h b t))
  | 1 => rfl

/-- The features the kernel's output layer reads are the two recurrences' states. -/
theorem feats_apply (p : Par) (e : FVec Ideal S512x128 .f32) (he : ∀ t : Fin 64, rows8 e t.val = xt p.X t.val) (b : Fin 8) (t : Fin 64) (j : Fin 512) :
    feats e p.W1 p.R1 p.W2 p.R2 p.W3 p.R3 p.W4 p.R4 p.b1 p.b2 p.b3 p.b4 (ix2 ⟨64 * b.val + t.val, by omega⟩ j) = featAt p b t j := by
  have h1 : ∀ k < 64, rows8 (layer1 e p.W1 p.R1 p.b1) k = p.s1 (k + 1) := fun k hk =>
    (layer1_rows e p.W1 p.R1 p.b1 hk).trans (run_congr p.W1 p.b1 p.R1 fun l hl => he ⟨l, by omega⟩)
  have h2 : ∀ k < 64, rows8 (layer (layer1 e p.W1 p.R1 p.b1) p.W2 p.R2 p.b2) k = p.s2 (k + 1) := fun k hk =>
    (layer_rows _ p.W2 p.R2 p.b2 hk).trans (run_congr p.W2 p.b2 p.R2 fun l hl => h1 l (by omega))
  have h3 := (layer_rows (layer (layer1 e p.W1 p.R1 p.b1) p.W2 p.R2 p.b2) p.W3 p.R3 p.b3 t.isLt).trans
    (run_congr (x' := fun t => p.s2 (t + 1)) p.W3 p.b3 p.R3 fun l hl => h2 l (by omega))
  have h4 := (layer_rows (layer (layer1 e p.W1 p.R1 p.b1) p.W2 p.R2 p.b2) p.W4 p.R4 p.b4 t.isLt).trans
    (run_congr (x' := fun t => p.s2 (t + 1)) p.W4 p.b4 p.R4 fun l hl => h2 l (by omega))
  unfold feats feat
  generalize layer (layer (layer1 e p.W1 p.R1 p.b1) p.W2 p.R2 p.b2) p.W3 p.R3 p.b3 = f at h3 ⊢
  generalize layer (layer (layer1 e p.W1 p.R1 p.b1) p.W2 p.R2 p.b2) p.W4 p.R4 p.b4 = g at h4 ⊢
  have h3' : ∀ q : Fin 256, p.s3 (t.val + 1) (ix2 b q) = f (ix2 ⟨(8 * t.val + b.val) % 512, Nat.mod_lt _ (by decide)⟩ q) := fun q => (congrFun h3 (ix2 b q)).symm
  have h4' : ∀ q : Fin 256, p.s4 (t.val + 1) (ix2 b q) = g (ix2 ⟨(8 * t.val + b.val) % 512, Nat.mod_lt _ (by decide)⟩ q) := fun q => (congrFun h4 (ix2 b q)).symm
  unfold featAt
  rw [h3', h4']
  pointwise [k1_pay19]
  have e : (⟨t.val * 8 + b.val, by omega⟩ : Fin 512) = ⟨(8 * t.val + b.val) % 512, Nat.mod_lt _ (by decide)⟩ := Fin.ext (by show t.val * 8 + b.val = (8 * t.val + b.val) % 512; omega)
  rw [e]
  rfl

/-! ## The two results -/

/-- The kernel's result over the features' arrays. -/
theorem kernel_out (p : Par) (e' : FVec Ideal S512x128 .f32) (he : ∀ t : Fin 64, rows8 e' t.val = xt p.X t.val)
    (W : FVec Ideal S512x100000 .f32) (B : FVec Ideal S100000 .f32) :
    shapeCast S8x64x100000 (fOut (feats e' p.W1 p.R1 p.W2 p.R2 p.W3 p.R3 p.W4 p.R4 p.b1 p.b2 p.b3 p.b4) W
      (shapeCast S1x100000 B shapeCasts_S100000_S1x100000)) shapeCasts_S512x100000_S8x64x100000 = outR p W B := by
  funext i
  obtain ⟨b, t, c, rfl⟩ : ∃ b t c, i = ix3 b t c := ⟨i 0, i 1, i 2, by funext a; match a with | 0 => rfl | 1 => rfl | 2 => rfl⟩
  pointwise
  rw [fOut_apply]
  have e : (⟨b.val * 64 + t.val, by omega⟩ : Fin 512) = ⟨64 * b.val + t.val, by omega⟩ := Fin.ext (by show b.val * 64 + t.val = 64 * b.val + t.val; omega)
  rw [e]
  simp only [feats_apply p e' he]
  pointwise [outR]

/-- The reference's result: the loop's stacks side by side, times the output weight, and the bias. -/
theorem reference_out (m : (ℓ : Loc Cert.ReferenceIdeal.nD Cert.ReferenceIdeal.τ Cert.ReferenceIdeal.sig) → Buf (Elt Ideal) ℓ) (c : Dev Cert.ReferenceIdeal.nD) :
    Cert.ReferenceIdeal.Value.out_main_v12 (Cert.ReferenceIdeal.Value.STEP^[64] (StableHlo.entryContents Cert.ReferenceIdeal.Value.preI m c))
      = outR (par m c) (m ((c.tc : Thread _ _).loc Cert.ReferenceIdeal.main_arg14)) (m ((c.tc : Thread _ _).loc Cert.ReferenceIdeal.main_arg15)) := by
  have hA := (entry m c).iter 64 le_rfl
  funext i
  obtain ⟨b, t, k, rfl⟩ : ∃ b t k, i = ix3 b t k := ⟨i 0, i 1, i 2, by funext a; match a with | 0 => rfl | 1 => rfl | 2 => rfl⟩
  unfold Cert.ReferenceIdeal.Value.out_main_v12
  rw [Cert.ReferenceIdeal.Value.iter_main_arg14, Cert.ReferenceIdeal.Value.iter_main_arg15]
  have y3 := fun j => hA.y3 t b j t.isLt
  have y4 := fun j => hA.y4 t b j t.isLt
  generalize Cert.ReferenceIdeal.Value.STEP^[64] (StableHlo.entryContents Cert.ReferenceIdeal.Value.preI m c) = V at y3 y4 ⊢
  pointwise [outR, featAt]
  simp only [y3, y4]
  have e1 : ∀ x : Fin 256, (⟨x.val % 256, Nat.mod_lt _ (by decide)⟩ : Fin 256) = x := fun x => Fin.ext (Nat.mod_eq_of_lt x.isLt)
  have e2 : ∀ x : Fin 256, (⟨(256 + x.val) % 256, Nat.mod_lt _ (by decide)⟩ : Fin 256) = x := fun x => Fin.ext (by show (256 + x.val) % 256 = x.val; omega)
  simp only [e1, e2]

end Cert.Proof.Value
-- ==== Proof.Reference.lean ====
/-
  The reference program's frame claim: its run, which returns every argument unchanged, and its counters, of which its
  signature declares none.
-/
module

public import proofs.«01_k».proof.Proof.Frames
public import proofs.«01_k».proof.Proof.Gen.ReferenceIdeal
public import proofs.«01_k».proof.Proof.Gen.ReferenceIdeal.Run
public import Idealize.ShloMosaic.Lib.Quiescent

@[expose] public section

set_option maxRecDepth 16384

namespace Cert.Proof.Reference

open Idealize.ShloMosaic Idealize.SL.Sem

/-- The reference's frame claim: it ends without fault, its arguments unchanged, every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

end Cert.Proof.Reference
-- ==== Proof.Algebraic.lean ====
/-
  The value claim: from one set of arguments the idealized kernel and the reference end with the same result.
-/
module

public import proofs.«01_k».proof.Proof.Value
public import proofs.«01_k».proof.Proof.Reference

@[expose] public section

set_option maxRecDepth 16384

noncomputable section

namespace Cert.Proof.Algebraic

open Cert.KernelIdeal Cert.KernelIdeal.Gen Cert.Proof.Gather Cert.Proof.Body Cert.Proof.Tiles Cert.Proof.Region Cert.Proof.Main Cert.Proof.Frames
  Cert.Proof.Cell Cert.Proof.Trips Cert.Proof.Entry Cert.Proof.Value
open Idealize.ShloMosaic Idealize.SL.Sem
open Idealize.ShloMosaic.TcCoe
open Idealize.ShloMosaic.Pipeline (ucRefs)

variable (m : (ℓ : Loc nD τ sig) → Buf (Elt Ideal) ℓ)

/-- An array the program's steps do not write is, before the fused kernel, as launched. -/
theorem V4_arg (d : Dev nD) (b : DevRef τ sig) (h0 : b ≠ at' main_v0) (h1 : b ≠ at' main_v1) (h2 : b ≠ at' main_v2) (h3 : b ≠ at' main_v3) :
    V4 m d b = m (d, b) := (V4_of_ne m d b h2 h3).trans (V2_of_ne m d b h0 h1)

/-- The embeddings the fused kernel reads: the gathered rows. -/
theorem V4_rows (d : Dev nD) : V4 m d (at' main_v2)
    = gath (F := Ideal) (shapeCast S512 (transpose S64x8 [1, 0] (m ((d : Thread nD τ).loc main_arg0)) transposes_S8x64_S64x8_1_0) shapeCasts_S64x8_S512)
        (m ((d : Thread nD τ).loc main_arg1)) := by
  unfold V4 V3
  rw [(opBi (F := Ideal)).result_of_not_mem _ (show at' main_v2 ∉ ({at' main_v3} : Finset (DevRef τ sig)) by decide), Function.update_self]
  exact congrArg₂ (gath (F := Ideal)) (idxs_eq m d) (V2_of_ne m d (at' main_arg1) (by decide) (by decide))

/-- The output bias it reads: the bias as one row. -/
theorem V4_bias (d : Dev nD) : V4 m d (at' main_v3) = shapeCast S1x100000 (m ((d : Thread nD τ).loc main_arg15)) shapeCasts_S100000_S1x100000 := by
  unfold V4
  rw [StableHlo.reshape_result]
  have e : V3 m d (at' main_arg15) = m ((d : Thread nD τ).loc main_arg15) :=
    (Function.update_of_ne (by decide) _ _).trans (V2_of_ne m d (at' main_arg15) (by decide) (by decide))
  exact congrArg (fun B => shapeCast S1x100000 (B : FVec Ideal S100000 .f32) shapeCasts_S100000_S1x100000) e

/-- The program's result: the fused kernel's, of the launch contents. -/
theorem V6_out (d : Dev nD) : V6 m d (at' main_v5)
    = shapeCast S8x64x100000 (fOut (F := Ideal) (feats (V4 m d (at' main_v2))
        (m ((d : Thread nD τ).loc main_arg2)) (m ((d : Thread nD τ).loc main_arg3)) (m ((d : Thread nD τ).loc main_arg5)) (m ((d : Thread nD τ).loc main_arg6))
        (m ((d : Thread nD τ).loc main_arg8)) (m ((d : Thread nD τ).loc main_arg9)) (m ((d : Thread nD τ).loc main_arg11)) (m ((d : Thread nD τ).loc main_arg12))
        (m ((d : Thread nD τ).loc main_arg4)) (m ((d : Thread nD τ).loc main_arg7)) (m ((d : Thread nD τ).loc main_arg10)) (m ((d : Thread nD τ).loc main_arg13)))
        (m ((d : Thread nD τ).loc main_arg14)) (V4 m d (at' main_v3))) shapeCasts_S512x100000_S8x64x100000 := by
  unfold V6
  rw [StableHlo.reshape_result]
  have e : V5 m d (at' main_v4) = res (fun c b => V4 m c (at' b)) d := Function.update_self _ _ _
  refine (congrArg (fun B => shapeCast S8x64x100000 (B : FVec Ideal S512x100000 .f32) shapeCasts_S512x100000_S8x64x100000) e).trans ?_
  unfold res
  beta_reduce
  rw [V4_arg m d (at' main_arg2) (by decide) (by decide) (by decide) (by decide), V4_arg m d (at' main_arg3) (by decide) (by decide) (by decide) (by decide),
    V4_arg m d (at' main_arg4) (by decide) (by decide) (by decide) (by decide), V4_arg m d (at' main_arg5) (by decide) (by decide) (by decide) (by decide),
    V4_arg m d (at' main_arg6) (by decide) (by decide) (by decide) (by decide), V4_arg m d (at' main_arg7) (by decide) (by decide) (by decide) (by decide),
    V4_arg m d (at' main_arg8) (by decide) (by decide) (by decide) (by decide), V4_arg m d (at' main_arg9) (by decide) (by decide) (by decide) (by decide),
    V4_arg m d (at' main_arg10) (by decide) (by decide) (by decide) (by decide), V4_arg m d (at' main_arg11) (by decide) (by decide) (by decide) (by decide),
    V4_arg m d (at' main_arg12) (by decide) (by decide) (by decide) (by decide), V4_arg m d (at' main_arg13) (by decide) (by decide) (by decide) (by decide),
    V4_arg m d (at' main_arg14) (by decide) (by decide) (by decide) (by decide)]

/-- From the reference's arguments the kernel's result is the output layer over the reference's recurrences. -/
theorem kernel_result (m' : (ℓ : Loc Cert.ReferenceIdeal.nD Cert.ReferenceIdeal.τ Cert.ReferenceIdeal.sig) → Buf (Elt Ideal) ℓ) (hr : Rows m) (c : Dev nD)
    (e : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)) :
    V6 m c (at' main_v5) = outR (par m' c) (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)) := by
  obtain ⟨e0, e1, e2, e3, e4, e5, e6, e7, e8, e9, e10, e11, e12, e13, e14, e15⟩ := e
  rw [V6_out, V4_rows, V4_bias, ← e0, ← e1, ← e2, ← e3, ← e4, ← e5, ← e6, ← e7, ← e8, ← e9, ← e10, ← e11, ← e12, ← e13, ← e14, ← e15]
  exact kernel_out (par m' c) _ (rows_gath _ _ fun b t => by rw [e0]; exact hr c _) _ _

/-- The value claim. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := fun m g m' g' hpre hargs =>
  have hr := rows_ideal m hpre
  ⟨fun c => outR (par m' c) (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)),
    (θ_run _ _ _).mono (fun r h c => ⟨(h.1 c (at' main_v5) (by decide)).trans (kernel_result m m' hr c (hargs c)), args_kept m h c⟩) (run_main m g (inRows_of m hr)),
    (θ_run _ _ _).mono (fun r h c => ⟨(h c).1.trans (reference_out m' c), (h c).2⟩) (Cert.ReferenceIdeal.Value.run (F := Ideal) m' g')⟩

end Cert.Proof.Algebraic
-- ==== Proof.lean ====
/-
  The proof of `Cert.Claim`.
-/
module

public import proofs.«01_k».proof.Defs
public import proofs.«01_k».proof.Proof.Algebraic

@[expose] public section

namespace Cert.Proof

/-- Every claim of the certificate. -/
theorem claim : Cert.Claim :=
  ⟨Cert.Kernel.Gen.facts, Cert.KernelIdeal.Gen.facts, Cert.ReferenceIdeal.Gen.facts, Cert.Pre_in_range.Gen.facts,
    Cert.Proof.Frames.frame_kernel, Cert.Proof.Frames.frame_kernelIdeal, Cert.Proof.Reference.frame_reference,
    fun m g _ => Cert.Proof.Reference.frame_reference m g ⟨⟩, trivial, Cert.Proof.Algebraic.algebraic⟩

end Cert.Proof
